-- ==== Defs.lean ====
def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerIdeal_finite_scores [hPre_finite_scores : Cert.Pre_finite_scores.Facts] (m : (ℓ : Loc Cert.LayerIdeal.nD Cert.LayerIdeal.τ Cert.LayerIdeal.sig) → Buf (Elt Ideal) ℓ) : Prop :=
  ∀ c : Dev Cert.LayerIdeal.nD,
    (Cert.Pre_finite_scores.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10))) = (fun _ => 1#1)

def Pre_LayerRefIdeal (m : (ℓ : Loc Cert.LayerRefIdeal.nD Cert.LayerRefIdeal.τ Cert.LayerRefIdeal.sig) → Buf (Elt Ideal) ℓ) : Prop :=
  True

def Pre_LayerRefIdeal_finite_scores [hPre_finite_scores : Cert.Pre_finite_scores.Facts] (m : (ℓ : Loc Cert.LayerRefIdeal.nD Cert.LayerRefIdeal.τ Cert.LayerRefIdeal.sig) → Buf (Elt Ideal) ℓ) : Prop :=
  ∀ c : Dev Cert.LayerRefIdeal.nD,
    (Cert.Pre_finite_scores.fn (F := Ideal) (m ((c.tc : Thread Cert.LayerRefIdeal.nD Cert.LayerRefIdeal.τ).loc Cert.LayerRefIdeal.main_arg0)) (m ((c.tc : Thread Cert.LayerRefIdeal.nD Cert.LayerRefIdeal.τ).loc Cert.LayerRefIdeal.main_arg1)) (m ((c.tc : Thread Cert.LayerRefIdeal.nD Cert.LayerRefIdeal.τ).loc Cert.LayerRefIdeal.main_arg2)) (m ((c.tc : Thread Cert.LayerRefIdeal.nD Cert.LayerRefIdeal.τ).loc Cert.LayerRefIdeal.main_arg3)) (m ((c.tc : Thread Cert.LayerRefIdeal.nD Cert.LayerRefIdeal.τ).loc Cert.LayerRefIdeal.main_arg4)) (m ((c.tc : Thread Cert.LayerRefIdeal.nD Cert.LayerRefIdeal.τ).loc Cert.LayerRefIdeal.main_arg5)) (m ((c.tc : Thread Cert.LayerRefIdeal.nD Cert.LayerRefIdeal.τ).loc Cert.LayerRefIdeal.main_arg6)) (m ((c.tc : Thread Cert.LayerRefIdeal.nD Cert.LayerRefIdeal.τ).loc Cert.LayerRefIdeal.main_arg7)) (m ((c.tc : Thread Cert.LayerRefIdeal.nD Cert.LayerRefIdeal.τ).loc Cert.LayerRefIdeal.main_arg8)) (m ((c.tc : Thread Cert.LayerRefIdeal.nD Cert.LayerRefIdeal.τ).loc Cert.LayerRefIdeal.main_arg9)) (m ((c.tc : Thread Cert.LayerRefIdeal.nD Cert.LayerRefIdeal.τ).loc Cert.LayerRefIdeal.main_arg10))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_queries [hPre_finite_queries : Cert.Pre_finite_queries.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_queries.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_queries [hPre_finite_queries : Cert.Pre_finite_queries.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_queries.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4)
      ∧ r.2.mem ((c.tc : Thread Cert.Layer.nD Cert.Layer.τ).loc Cert.Layer.main_arg5) = m ((c.tc : Thread Cert.Layer.nD Cert.Layer.τ).loc Cert.Layer.main_arg5)
      ∧ r.2.mem ((c.tc : Thread Cert.Layer.nD Cert.Layer.τ).loc Cert.Layer.main_arg6) = m ((c.tc : Thread Cert.Layer.nD Cert.Layer.τ).loc Cert.Layer.main_arg6)
      ∧ r.2.mem ((c.tc : Thread Cert.Layer.nD Cert.Layer.τ).loc Cert.Layer.main_arg7) = m ((c.tc : Thread Cert.Layer.nD Cert.Layer.τ).loc Cert.Layer.main_arg7)
      ∧ r.2.mem ((c.tc : Thread Cert.Layer.nD Cert.Layer.τ).loc Cert.Layer.main_arg8) = m ((c.tc : Thread Cert.Layer.nD Cert.Layer.τ).loc Cert.Layer.main_arg8)
      ∧ r.2.mem ((c.tc : Thread Cert.Layer.nD Cert.Layer.τ).loc Cert.Layer.main_arg9) = m ((c.tc : Thread Cert.Layer.nD Cert.Layer.τ).loc Cert.Layer.main_arg9)
      ∧ r.2.mem ((c.tc : Thread Cert.Layer.nD Cert.Layer.τ).loc Cert.Layer.main_arg10) = m ((c.tc : Thread Cert.Layer.nD Cert.Layer.τ).loc Cert.Layer.main_arg10))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10))
      ∧ r.2.sem = fun _ => 0)

def quiescent_LayerIdeal_pre_finite_scores [hLayerIdeal : Cert.LayerIdeal.Facts] [hPre_finite_scores : Cert.Pre_finite_scores.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal_finite_scores m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10))
      ∧ r.2.sem = fun _ => 0)

def quiescent_LayerRefIdeal [hLayerRefIdeal : Cert.LayerRefIdeal.Facts] : Prop :=
  ∀ (m : (ℓ : Loc Cert.LayerRefIdeal.nD Cert.LayerRefIdeal.τ Cert.LayerRefIdeal.sig) → Buf (Elt Ideal) ℓ) (g : Dev Cert.LayerRefIdeal.nD → PrngReg), Pre_LayerRefIdeal m →
    θ_run (Cert.LayerRefIdeal.defs (F := Ideal)) (onTc (τ := Cert.LayerRefIdeal.τ) (Cert.LayerRefIdeal.main (F := Ideal))) ⟨m, fun _ => 0, g⟩ (fun r => (∀ c : Dev Cert.LayerRefIdeal.nD,
      r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
      ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
      ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
      ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3)
      ∧ r.2.mem ((c.tc : Thread Cert.LayerRefIdeal.nD Cert.LayerRefIdeal.τ).loc Cert.LayerRefIdeal.main_arg4) = m ((c.tc : Thread Cert.LayerRefIdeal.nD Cert.LayerRefIdeal.τ).loc Cert.LayerRefIdeal.main_arg4)
      ∧ r.2.mem ((c.tc : Thread Cert.LayerRefIdeal.nD Cert.LayerRefIdeal.τ).loc Cert.LayerRefIdeal.main_arg5) = m ((c.tc : Thread Cert.LayerRefIdeal.nD Cert.LayerRefIdeal.τ).loc Cert.LayerRefIdeal.main_arg5)
      ∧ r.2.mem ((c.tc : Thread Cert.LayerRefIdeal.nD Cert.LayerRefIdeal.τ).loc Cert.LayerRefIdeal.main_arg6) = m ((c.tc : Thread Cert.LayerRefIdeal.nD Cert.LayerRefIdeal.τ).loc Cert.LayerRefIdeal.main_arg6)
      ∧ r.2.mem ((c.tc : Thread Cert.LayerRefIdeal.nD Cert.LayerRefIdeal.τ).loc Cert.LayerRefIdeal.main_arg7) = m ((c.tc : Thread Cert.LayerRefIdeal.nD Cert.LayerRefIdeal.τ).loc Cert.LayerRefIdeal.main_arg7)
      ∧ r.2.mem ((c.tc : Thread Cert.LayerRefIdeal.nD Cert.LayerRefIdeal.τ).loc Cert.LayerRefIdeal.main_arg8) = m ((c.tc : Thread Cert.LayerRefIdeal.nD Cert.LayerRefIdeal.τ).loc Cert.LayerRefIdeal.main_arg8)
      ∧ r.2.mem ((c.tc : Thread Cert.LayerRefIdeal.nD Cert.LayerRefIdeal.τ).loc Cert.LayerRefIdeal.main_arg9) = m ((c.tc : Thread Cert.LayerRefIdeal.nD Cert.LayerRefIdeal.τ).loc Cert.LayerRefIdeal.main_arg9)
      ∧ r.2.mem ((c.tc : Thread Cert.LayerRefIdeal.nD Cert.LayerRefIdeal.τ).loc Cert.LayerRefIdeal.main_arg10) = m ((c.tc : Thread Cert.LayerRefIdeal.nD Cert.LayerRefIdeal.τ).loc Cert.LayerRefIdeal.main_arg10))
      ∧ r.2.sem = fun _ => 0)

def quiescent_LayerRefIdeal_pre_finite_scores [hLayerRefIdeal : Cert.LayerRefIdeal.Facts] [hPre_finite_scores : Cert.Pre_finite_scores.Facts] : Prop :=
  ∀ (m : (ℓ : Loc Cert.LayerRefIdeal.nD Cert.LayerRefIdeal.τ Cert.LayerRefIdeal.sig) → Buf (Elt Ideal) ℓ) (g : Dev Cert.LayerRefIdeal.nD → PrngReg), Pre_LayerRefIdeal_finite_scores m →
    θ_run (Cert.LayerRefIdeal.defs (F := Ideal)) (onTc (τ := Cert.LayerRefIdeal.τ) (Cert.LayerRefIdeal.main (F := Ideal))) ⟨m, fun _ => 0, g⟩ (fun r => (∀ c : Dev Cert.LayerRefIdeal.nD,
      r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
      ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
      ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
      ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3)
      ∧ r.2.mem ((c.tc : Thread Cert.LayerRefIdeal.nD Cert.LayerRefIdeal.τ).loc Cert.LayerRefIdeal.main_arg4) = m ((c.tc : Thread Cert.LayerRefIdeal.nD Cert.LayerRefIdeal.τ).loc Cert.LayerRefIdeal.main_arg4)
      ∧ r.2.mem ((c.tc : Thread Cert.LayerRefIdeal.nD Cert.LayerRefIdeal.τ).loc Cert.LayerRefIdeal.main_arg5) = m ((c.tc : Thread Cert.LayerRefIdeal.nD Cert.LayerRefIdeal.τ).loc Cert.LayerRefIdeal.main_arg5)
      ∧ r.2.mem ((c.tc : Thread Cert.LayerRefIdeal.nD Cert.LayerRefIdeal.τ).loc Cert.LayerRefIdeal.main_arg6) = m ((c.tc : Thread Cert.LayerRefIdeal.nD Cert.LayerRefIdeal.τ).loc Cert.LayerRefIdeal.main_arg6)
      ∧ r.2.mem ((c.tc : Thread Cert.LayerRefIdeal.nD Cert.LayerRefIdeal.τ).loc Cert.LayerRefIdeal.main_arg7) = m ((c.tc : Thread Cert.LayerRefIdeal.nD Cert.LayerRefIdeal.τ).loc Cert.LayerRefIdeal.main_arg7)
      ∧ r.2.mem ((c.tc : Thread Cert.LayerRefIdeal.nD Cert.LayerRefIdeal.τ).loc Cert.LayerRefIdeal.main_arg8) = m ((c.tc : Thread Cert.LayerRefIdeal.nD Cert.LayerRefIdeal.τ).loc Cert.LayerRefIdeal.main_arg8)
      ∧ r.2.mem ((c.tc : Thread Cert.LayerRefIdeal.nD Cert.LayerRefIdeal.τ).loc Cert.LayerRefIdeal.main_arg9) = m ((c.tc : Thread Cert.LayerRefIdeal.nD Cert.LayerRefIdeal.τ).loc Cert.LayerRefIdeal.main_arg9)
      ∧ r.2.mem ((c.tc : Thread Cert.LayerRefIdeal.nD Cert.LayerRefIdeal.τ).loc Cert.LayerRefIdeal.main_arg10) = m ((c.tc : Thread Cert.LayerRefIdeal.nD Cert.LayerRefIdeal.τ).loc Cert.LayerRefIdeal.main_arg10))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite_queries [hAttentionIdeal : Cert.AttentionIdeal.Facts] [hPre_finite_queries : Cert.Pre_finite_queries.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_queries m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_finite_queries [hAttentionRefIdeal : Cert.AttentionRefIdeal.Facts] [hPre_finite_queries : Cert.Pre_finite_queries.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_queries m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def preserves_Layer_LayerIdeal : Prop :=
  True

def algebraic_LayerIdeal_LayerRefIdeal_pre_finite_scores [hLayerIdeal : Cert.LayerIdeal.Facts] [hLayerRefIdeal : Cert.LayerRefIdeal.Facts] [hPre_finite_scores : Cert.Pre_finite_scores.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerRefIdeal.nD Cert.LayerRefIdeal.τ Cert.LayerRefIdeal.sig) → Buf (Elt Ideal) ℓ) (g' : Dev Cert.LayerRefIdeal.nD → PrngReg), Pre_LayerIdeal_finite_scores m →
    (∀ c : Dev Cert.LayerIdeal.nD,
      m' ((c.tc : Thread Cert.LayerRefIdeal.nD Cert.LayerRefIdeal.τ).loc Cert.LayerRefIdeal.main_arg0) = m ((c.tc : Thread Cert.LayerIdeal.nD Cert.LayerIdeal.τ).loc Cert.LayerIdeal.main_arg0)
      ∧ m' ((c.tc : Thread Cert.LayerRefIdeal.nD Cert.LayerRefIdeal.τ).loc Cert.LayerRefIdeal.main_arg1) = m ((c.tc : Thread Cert.LayerIdeal.nD Cert.LayerIdeal.τ).loc Cert.LayerIdeal.main_arg1)
      ∧ m' ((c.tc : Thread Cert.LayerRefIdeal.nD Cert.LayerRefIdeal.τ).loc Cert.LayerRefIdeal.main_arg2) = m ((c.tc : Thread Cert.LayerIdeal.nD Cert.LayerIdeal.τ).loc Cert.LayerIdeal.main_arg2)
      ∧ m' ((c.tc : Thread Cert.LayerRefIdeal.nD Cert.LayerRefIdeal.τ).loc Cert.LayerRefIdeal.main_arg3) = m ((c.tc : Thread Cert.LayerIdeal.nD Cert.LayerIdeal.τ).loc Cert.LayerIdeal.main_arg3)
      ∧ m' ((c.tc : Thread Cert.LayerRefIdeal.nD Cert.LayerRefIdeal.τ).loc Cert.LayerRefIdeal.main_arg4) = m ((c.tc : Thread Cert.LayerIdeal.nD Cert.LayerIdeal.τ).loc Cert.LayerIdeal.main_arg4)
      ∧ m' ((c.tc : Thread Cert.LayerRefIdeal.nD Cert.LayerRefIdeal.τ).loc Cert.LayerRefIdeal.main_arg5) = m ((c.tc : Thread Cert.LayerIdeal.nD Cert.LayerIdeal.τ).loc Cert.LayerIdeal.main_arg5)
      ∧ m' ((c.tc : Thread Cert.LayerRefIdeal.nD Cert.LayerRefIdeal.τ).loc Cert.LayerRefIdeal.main_arg6) = m ((c.tc : Thread Cert.LayerIdeal.nD Cert.LayerIdeal.τ).loc Cert.LayerIdeal.main_arg6)
      ∧ m' ((c.tc : Thread Cert.LayerRefIdeal.nD Cert.LayerRefIdeal.τ).loc Cert.LayerRefIdeal.main_arg7) = m ((c.tc : Thread Cert.LayerIdeal.nD Cert.LayerIdeal.τ).loc Cert.LayerIdeal.main_arg7)
      ∧ m' ((c.tc : Thread Cert.LayerRefIdeal.nD Cert.LayerRefIdeal.τ).loc Cert.LayerRefIdeal.main_arg8) = m ((c.tc : Thread Cert.LayerIdeal.nD Cert.LayerIdeal.τ).loc Cert.LayerIdeal.main_arg8)
      ∧ m' ((c.tc : Thread Cert.LayerRefIdeal.nD Cert.LayerRefIdeal.τ).loc Cert.LayerRefIdeal.main_arg9) = m ((c.tc : Thread Cert.LayerIdeal.nD Cert.LayerIdeal.τ).loc Cert.LayerIdeal.main_arg9)
      ∧ m' ((c.tc : Thread Cert.LayerRefIdeal.nD Cert.LayerRefIdeal.τ).loc Cert.LayerRefIdeal.main_arg10) = m ((c.tc : Thread Cert.LayerIdeal.nD Cert.LayerIdeal.τ).loc Cert.LayerIdeal.main_arg10)) →
    ∃ (v0 : (c : Dev Cert.LayerIdeal.nD) → Buf (Elt Ideal) ((c.tc : Thread Cert.LayerIdeal.nD Cert.LayerIdeal.τ).loc Cert.LayerIdeal.main_v84)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v84) = v0 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
          ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
          ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
          ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
          ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10))
      ∧ θ_run (Cert.LayerRefIdeal.defs (F := Ideal)) (onTc (τ := Cert.LayerRefIdeal.τ) (Cert.LayerRefIdeal.main (F := Ideal))) ⟨m', fun _ => 0, g'⟩ (fun r => ∀ c : Dev Cert.LayerRefIdeal.nD,
          r.2.mem ((c.tc : Thread Cert.LayerRefIdeal.nD Cert.LayerRefIdeal.τ).loc Cert.LayerRefIdeal.main_v184) = v0 c
          ∧ r.2.mem ((c.tc : Thread Cert.LayerRefIdeal.nD Cert.LayerRefIdeal.τ).loc Cert.LayerRefIdeal.main_arg0) = m' ((c.tc : Thread Cert.LayerRefIdeal.nD Cert.LayerRefIdeal.τ).loc Cert.LayerRefIdeal.main_arg0)
          ∧ r.2.mem ((c.tc : Thread Cert.LayerRefIdeal.nD Cert.LayerRefIdeal.τ).loc Cert.LayerRefIdeal.main_arg1) = m' ((c.tc : Thread Cert.LayerRefIdeal.nD Cert.LayerRefIdeal.τ).loc Cert.LayerRefIdeal.main_arg1)
          ∧ r.2.mem ((c.tc : Thread Cert.LayerRefIdeal.nD Cert.LayerRefIdeal.τ).loc Cert.LayerRefIdeal.main_arg2) = m' ((c.tc : Thread Cert.LayerRefIdeal.nD Cert.LayerRefIdeal.τ).loc Cert.LayerRefIdeal.main_arg2)
          ∧ r.2.mem ((c.tc : Thread Cert.LayerRefIdeal.nD Cert.LayerRefIdeal.τ).loc Cert.LayerRefIdeal.main_arg3) = m' ((c.tc : Thread Cert.LayerRefIdeal.nD Cert.LayerRefIdeal.τ).loc Cert.LayerRefIdeal.main_arg3)
          ∧ r.2.mem ((c.tc : Thread Cert.LayerRefIdeal.nD Cert.LayerRefIdeal.τ).loc Cert.LayerRefIdeal.main_arg4) = m' ((c.tc : Thread Cert.LayerRefIdeal.nD Cert.LayerRefIdeal.τ).loc Cert.LayerRefIdeal.main_arg4)
          ∧ r.2.mem ((c.tc : Thread Cert.LayerRefIdeal.nD Cert.LayerRefIdeal.τ).loc Cert.LayerRefIdeal.main_arg5) = m' ((c.tc : Thread Cert.LayerRefIdeal.nD Cert.LayerRefIdeal.τ).loc Cert.LayerRefIdeal.main_arg5)
          ∧ r.2.mem ((c.tc : Thread Cert.LayerRefIdeal.nD Cert.LayerRefIdeal.τ).loc Cert.LayerRefIdeal.main_arg6) = m' ((c.tc : Thread Cert.LayerRefIdeal.nD Cert.LayerRefIdeal.τ).loc Cert.LayerRefIdeal.main_arg6)
          ∧ r.2.mem ((c.tc : Thread Cert.LayerRefIdeal.nD Cert.LayerRefIdeal.τ).loc Cert.LayerRefIdeal.main_arg7) = m' ((c.tc : Thread Cert.LayerRefIdeal.nD Cert.LayerRefIdeal.τ).loc Cert.LayerRefIdeal.main_arg7)
          ∧ r.2.mem ((c.tc : Thread Cert.LayerRefIdeal.nD Cert.LayerRefIdeal.τ).loc Cert.LayerRefIdeal.main_arg8) = m' ((c.tc : Thread Cert.LayerRefIdeal.nD Cert.LayerRefIdeal.τ).loc Cert.LayerRefIdeal.main_arg8)
          ∧ r.2.mem ((c.tc : Thread Cert.LayerRefIdeal.nD Cert.LayerRefIdeal.τ).loc Cert.LayerRefIdeal.main_arg9) = m' ((c.tc : Thread Cert.LayerRefIdeal.nD Cert.LayerRefIdeal.τ).loc Cert.LayerRefIdeal.main_arg9)
          ∧ r.2.mem ((c.tc : Thread Cert.LayerRefIdeal.nD Cert.LayerRefIdeal.τ).loc Cert.LayerRefIdeal.main_arg10) = m' ((c.tc : Thread Cert.LayerRefIdeal.nD Cert.LayerRefIdeal.τ).loc Cert.LayerRefIdeal.main_arg10))

def preserves_Attention_AttentionIdeal : Prop :=
  True

def algebraic_AttentionIdeal_AttentionRefIdeal_pre_finite_queries [hAttentionIdeal : Cert.AttentionIdeal.Facts] [hAttentionRefIdeal : Cert.AttentionRefIdeal.Facts] [hPre_finite_queries : Cert.Pre_finite_queries.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_queries m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v57)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v57) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v106) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v7)) (v1 : (c : Dev Cert.InProjIdeal.nD) → Buf (Elt Ideal) ((c.tc : Thread Cert.InProjIdeal.nD Cert.InProjIdeal.τ).loc Cert.InProjIdeal.main_v9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7) = v0 c
          ∧ r.2.mem ((c.tc : Thread Cert.InProjIdeal.nD Cert.InProjIdeal.τ).loc Cert.InProjIdeal.main_v9) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_v20) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v16)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v61) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def Claim : Prop :=
  ∃ (hLayer : Cert.Layer.Facts) (hLayerIdeal : Cert.LayerIdeal.Facts) (hLayerRefIdeal : Cert.LayerRefIdeal.Facts) (hAttention : Cert.Attention.Facts) (hAttentionIdeal : Cert.AttentionIdeal.Facts) (hAttentionRefIdeal : Cert.AttentionRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hPre_finite_scores : Cert.Pre_finite_scores.Facts) (hPre_finite_queries : Cert.Pre_finite_queries.Facts),
    quiescent_Layer (hLayer := hLayer)
    ∧ quiescent_LayerIdeal (hLayerIdeal := hLayerIdeal)
    ∧ quiescent_LayerIdeal_pre_finite_scores (hLayerIdeal := hLayerIdeal) (hPre_finite_scores := hPre_finite_scores)
    ∧ quiescent_LayerRefIdeal (hLayerRefIdeal := hLayerRefIdeal)
    ∧ quiescent_LayerRefIdeal_pre_finite_scores (hLayerRefIdeal := hLayerRefIdeal) (hPre_finite_scores := hPre_finite_scores)
    ∧ quiescent_Attention (hAttention := hAttention)
    ∧ quiescent_AttentionIdeal (hAttentionIdeal := hAttentionIdeal)
    ∧ quiescent_AttentionIdeal_pre_finite_queries (hAttentionIdeal := hAttentionIdeal) (hPre_finite_queries := hPre_finite_queries)
    ∧ quiescent_AttentionRefIdeal (hAttentionRefIdeal := hAttentionRefIdeal)
    ∧ quiescent_AttentionRefIdeal_pre_finite_queries (hAttentionRefIdeal := hAttentionRefIdeal) (hPre_finite_queries := hPre_finite_queries)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ preserves_Layer_LayerIdeal
    ∧ algebraic_LayerIdeal_LayerRefIdeal_pre_finite_scores (hLayerIdeal := hLayerIdeal) (hLayerRefIdeal := hLayerRefIdeal) (hPre_finite_scores := hPre_finite_scores)
    ∧ preserves_Attention_AttentionIdeal
    ∧ algebraic_AttentionIdeal_AttentionRefIdeal_pre_finite_queries (hAttentionIdeal := hAttentionIdeal) (hAttentionRefIdeal := hAttentionRefIdeal) (hPre_finite_queries := hPre_finite_queries)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
-- ==== Pre_finite_queries.lean ====
abbrev S16384x3072 : Shape := ⟨2, ![16384, 3072]⟩
abbrev S16384x10240 : Shape := ⟨2, ![16384, 10240]⟩
abbrev S16x15x31 : Shape := ⟨3, ![16, 15, 31]⟩
abbrev S16384x2048 : Shape := ⟨2, ![16384, 2048]⟩
abbrev S_ : Shape := ⟨0, ![]⟩

class Facts : Prop where
  slices_S16384x3072_S16384x2048_0_0 : S16384x3072.Slices ![0, 0] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x15x31 : S_.BroadcastsInDim S16x15x31 (![] : Fin 0 → Fin S16x15x31.rank)
  reducesTo_S16x15x31_S_d0_1_2 : S16x15x31.ReducesTo [0, 1, 2] S_

variable [Facts]

def fn {F : FTy → Type} [FloatOps F] (main_arg0 : FVec F S16384x3072 .bf16) (main_arg1 : FVec F S16384x10240 .f32) (main_arg2 : FVec F S16x15x31 .f32) : IVec S_ 1 :=
  let main_v0 : FVec F S16384x2048 .bf16 := (extractStridedSlice S16384x2048 ![0, 0] · slices_S16384x3072_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_v6 : FVec F S16x15x31 .f32 := Host.absf main_arg2
  let main_cst_0 : FVec F S_ .f32 := constant S_ .f32 0x7F800000#32
  let main_v7 : FVec F S16x15x31 .f32 := broadcastInDim S16x15x31 ![] bcast_S_S16x15x31 main_cst_0
  let main_v8 : IVec S16x15x31 1 := cmpf .olt main_v6 main_v7
  let main_c_1 : IVec S_ 1 := constantI S_ 1 1#1
  let main_v9 : IVec S_ 1 := (fun x v => Host.reduce IntOp.andi x v reducesTo_S16x15x31_S_d0_1_2 h_S_) main_v8 main_c_1
  let main_v10 : IVec S_ 1 := andi main_v5 main_v9
  main_v10
-- ==== Pre_finite_scores.lean ====
abbrev S1x16384x2048 : Shape := ⟨3, ![1, 16384, 2048]⟩
abbrev S1x2048 : Shape := ⟨2, ![1, 2048]⟩
abbrev S1x2048x13312 : Shape := ⟨3, ![1, 2048, 13312]⟩
abbrev S1x4096 : Shape := ⟨2, ![1, 4096]⟩
abbrev S1x16x15x31 : Shape := ⟨4, ![1, 16, 15, 31]⟩
abbrev S16384x1024 : Shape := ⟨2, ![16384, 1024]⟩
abbrev S1x1024 : Shape := ⟨2, ![1, 1024]⟩
abbrev S1x2048x2048 : Shape := ⟨3, ![1, 2048, 2048]⟩
abbrev S_ : Shape := ⟨0, ![]⟩

class Facts : Prop where
  slices_S1x2048x13312_S1x2048x2048_0_0_0 : S1x2048x13312.Slices ![0, 0, 0] S1x2048x2048
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x16x15x31 : S_.BroadcastsInDim S1x16x15x31 (![] : Fin 0 → Fin S1x16x15x31.rank)
  reducesTo_S1x16x15x31_S_d0_1_2_3 : S1x16x15x31.ReducesTo [0, 1, 2, 3] S_

variable [Facts]

def fn {F : FTy → Type} [FloatOps F] (main_arg0 : FVec F S1x16384x2048 .f32) (main_arg1 : FVec F S1x2048 .f32) (main_arg2 : FVec F S1x2048x13312 .f32) (main_arg3 : FVec F S1x4096 .f32) (main_arg4 : FVec F S1x16x15x31 .f32) (main_arg5 : FVec F S16384x1024 .f32) (main_arg6 : FVec F S16384x1024 .f32) (main_arg7 : FVec F S1x1024 .f32) (main_arg8 : FVec F S1x2048x2048 .f32) (main_arg9 : FVec F S1x2048x2048 .f32) (main_arg10 : FVec F S1x2048 .f32) : IVec S_ 1 :=
  let main_v0 : FVec F S1x2048x2048 .f32 := (extractStridedSlice S1x2048x2048 ![0, 0, 0] · slices_S1x2048x13312_S1x2048x2048_0_0_0) main_arg2
  let main_v1 : FVec F S1x2048x2048 .f32 := Host.absf main_v0
  let main_cst : FVec F S_ .f32 := constant S_ .f32 0x7F800000#32
  let main_v2 : FVec F S1x2048x2048 .f32 := broadcastInDim S1x2048x2048 ![] bcast_S_S1x2048x2048 main_cst
  let main_v3 : IVec S1x2048x2048 1 := cmpf .olt main_v1 main_v2
  let main_c : IVec S_ 1 := constantI S_ 1 1#1
  let main_v4 : IVec S_ 1 := (fun x v => Host.reduce IntOp.andi x v reducesTo_S1x2048x2048_S_d0_1_2 h_S_) main_v3 main_c
  let main_v5 : FVec F S1x2048 .f32 := Host.absf main_arg1
  let main_cst_0 : FVec F S_ .f32 := constant S_ .f32 0x7F800000#32
  let main_v6 : FVec F S1x2048 .f32 := broadcastInDim S1x2048 ![] bcast_S_S1x2048 main_cst_0
  let main_v7 : IVec S1x2048 1 := cmpf .olt main_v5 main_v6
  let main_c_1 : IVec S_ 1 := constantI S_ 1 1#1
  let main_v8 : IVec S_ 1 := (fun x v => Host.reduce IntOp.andi x v reducesTo_S1x2048_S_d0_1 h_S_) main_v7 main_c_1
  let main_v9 : IVec S_ 1 := andi main_v4 main_v8
  let main_v10 : FVec F S1x16x15x31 .f32 := Host.absf main_arg4
  let main_cst_2 : FVec F S_ .f32 := constant S_ .f32 0x7F800000#32
  let main_v11 : FVec F S1x16x15x31 .f32 := broadcastInDim S1x16x15x31 ![] bcast_S_S1x16x15x31 main_cst_2
  let main_v12 : IVec S1x16x15x31 1 := cmpf .olt main_v10 main_v11
  let main_c_3 : IVec S_ 1 := constantI S_ 1 1#1
  let main_v13 : IVec S_ 1 := (fun x v => Host.reduce IntOp.andi x v reducesTo_S1x16x15x31_S_d0_1_2_3 h_S_) main_v12 main_c_3
  let main_v14 : IVec S_ 1 := andi main_v9 main_v13
  main_v14
-- ==== Layer.lean ====
abbrev S1x16384x2048 : Shape := ⟨3, ![1, 16384, 2048]⟩
abbrev S1x2048 : Shape := ⟨2, ![1, 2048]⟩
abbrev S1x2048x13312 : Shape := ⟨3, ![1, 2048, 13312]⟩
abbrev S1x4096 : Shape := ⟨2, ![1, 4096]⟩
abbrev S1x16x15x31 : Shape := ⟨4, ![1, 16, 15, 31]⟩
abbrev S16384x1024 : Shape := ⟨2, ![16384, 1024]⟩
abbrev S1x1024 : Shape := ⟨2, ![1, 1024]⟩
abbrev S1x2048x2048 : Shape := ⟨3, ![1, 2048, 2048]⟩
abbrev S16384x2048 : Shape := ⟨2, ![16384, 2048]⟩
abbrev S2048x13312 : Shape := ⟨2, ![2048, 13312]⟩
abbrev S2048 : Shape := ⟨1, ![2048]⟩
abbrev S512x2048 : Shape := ⟨2, ![512, 2048]⟩
abbrev S512 : Shape := ⟨1, ![512]⟩
abbrev S512x1 : Shape := ⟨2, ![512, 1]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩
abbrev S2048x10240 : Shape := ⟨2, ![2048, 10240]⟩
abbrev S16384x10240 : Shape := ⟨2, ![16384, 10240]⟩
abbrev S16x15x31 : Shape := ⟨3, ![16, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S8x8x1 : Shape := ⟨3, ![8, 8, 1]⟩
abbrev S16x8x8x31 : Shape := ⟨4, ![16, 8, 8, 31]⟩
abbrev S64x64x1 : Shape := ⟨3, ![64, 64, 1]⟩
abbrev S16x8x8x64x64 : Shape := ⟨5, ![16, 8, 8, 64, 64]⟩
abbrev S1x1x1x64x64 : Shape := ⟨5, ![1, 1, 1, 64, 64]⟩
abbrev S8x16x64x8x64 : Shape := ⟨5, ![8, 16, 64, 8, 64]⟩
abbrev S8x16x64x512 : Shape := ⟨4, ![8, 16, 64, 512]⟩
abbrev S64x1024 : Shape := ⟨2, ![64, 1024]⟩
abbrev S512x1024 : Shape := ⟨2, ![512, 1024]⟩
abbrev S1x16x64x512 : Shape := ⟨4, ![1, 16, 64, 512]⟩
abbrev S512x64 : Shape := ⟨2, ![512, 64]⟩
abbrev S64x512 : Shape := ⟨2, ![64, 512]⟩
abbrev S1x1x64x512 : Shape := ⟨4, ![1, 1, 64, 512]⟩
abbrev S2048x2048 : Shape := ⟨2, ![2048, 2048]⟩
abbrev S4096 : Shape := ⟨1, ![4096]⟩
abbrev S1024 : Shape := ⟨1, ![1024]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩

abbrev nBuf : Space → Nat
  | .hbm => 124
  | .vmem => 52
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x13312, .f32⟩
  | .hbm, ⟨3, _⟩ => ⟨S1x4096, .f32⟩
  | .hbm, ⟨4, _⟩ => ⟨S1x16x15x31, .f32⟩
  | .hbm, ⟨5, _⟩ => ⟨S16384x1024, .f32⟩
  | .hbm, ⟨6, _⟩ => ⟨S16384x1024, .f32⟩
  | .hbm, ⟨7, _⟩ => ⟨S1x1024, .f32⟩
  | .hbm, ⟨8, _⟩ => ⟨S1x2048x2048, .f32⟩
  | .hbm, ⟨9, _⟩ => ⟨S1x2048x2048, .f32⟩
  | .hbm, ⟨10, _⟩ => ⟨S1x2048, .f32⟩
  | .hbm, ⟨11, _⟩ => ⟨S16384x2048, .f32⟩
  | .hbm, ⟨12, _⟩ => ⟨S2048x13312, .f32⟩
  | .hbm, ⟨13, _⟩ => ⟨S2048x13312, .bf16⟩
  | .hbm, ⟨14, _⟩ => ⟨S2048, .f32⟩
  | .hbm, ⟨15, _⟩ => ⟨S1x2048, .f32⟩
  | .hbm, ⟨16, _⟩ => ⟨S16384x2048, .bf16⟩
  | .hbm, ⟨17, _⟩ => ⟨S2048x3072, .bf16⟩
  | .hbm, ⟨18, _⟩ => ⟨S16384x3072, .bf16⟩
  | .hbm, ⟨19, _⟩ => ⟨S2048x10240, .bf16⟩
  | .hbm, ⟨20, _⟩ => ⟨S16384x10240, .f32⟩
  | .hbm, ⟨21, _⟩ => ⟨S16x15x31, .f32⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S_, .i32⟩
  | .hbm, ⟨33, _⟩ => ⟨S64, .i32⟩
  | .hbm, ⟨34, _⟩ => ⟨S64, .i32⟩
  | .hbm, ⟨35, _⟩ => ⟨S1x64, .i32⟩
  | .hbm, ⟨36, _⟩ => ⟨S64x1, .i32⟩
  | .hbm, ⟨37, _⟩ => ⟨S64x64, .i32⟩
  | .hbm, ⟨38, _⟩ => ⟨S64x64, .i32⟩
  | .hbm, ⟨39, _⟩ => ⟨S64x64, .i1⟩
  | .hbm, ⟨40, _⟩ => ⟨S1x64, .i32⟩
  | .hbm, ⟨41, _⟩ => ⟨S64x1, .i32⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S64x64, .i32⟩
  | .hbm, ⟨46, _⟩ => ⟨S64x64, .i32⟩
  | .hbm, ⟨47, _⟩ => ⟨S64x64, .i1⟩
  | .hbm, ⟨48, _⟩ => ⟨S64x64, .i1⟩
  | .hbm, ⟨49, _⟩ => ⟨S1x64, .i32⟩
  | .hbm, ⟨50, _⟩ => ⟨S64x1, .i32⟩
  | .hbm, ⟨51, _⟩ => ⟨S64x64, .i32⟩
  | .hbm, ⟨52, _⟩ => ⟨S64x64, .i32⟩
  | .hbm, ⟨53, _⟩ => ⟨S64x64, .i32⟩
  | .hbm, ⟨54, _⟩ => ⟨S_, .i32⟩
  | .hbm, ⟨55, _⟩ => ⟨S64x64, .i32⟩
  | .hbm, ⟨56, _⟩ => ⟨S64x64, .i32⟩
  | .hbm, ⟨57, _⟩ => ⟨S_, .i32⟩
  | .hbm, ⟨58, _⟩ => ⟨S64x64, .i32⟩
  | .hbm, ⟨59, _⟩ => ⟨S64x64, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S64x64, .i32⟩
  | .hbm, ⟨64, _⟩ => ⟨S64x64, .i32⟩
  | .hbm, ⟨65, _⟩ => ⟨S_, .i32⟩
  | .hbm, ⟨66, _⟩ => ⟨S64x64, .i32⟩
  | .hbm, ⟨67, _⟩ => ⟨S64x64, .i32⟩
  | .hbm, ⟨68, _⟩ => ⟨S8, .i32⟩
  | .hbm, ⟨69, _⟩ => ⟨S8, .i32⟩
  | .hbm, ⟨70, _⟩ => ⟨S1x8, .i32⟩
  | .hbm, ⟨71, _⟩ => ⟨S8x1, .i32⟩
  | .hbm, ⟨72, _⟩ => ⟨S8x8, .i32⟩
  | .hbm, ⟨73, _⟩ => ⟨S8x8, .i32⟩
  | .hbm, ⟨74, _⟩ => ⟨S8x8, .i32⟩
  | .hbm, ⟨75, _⟩ => ⟨S_, .i32⟩
  | .hbm, ⟨76, _⟩ => ⟨S8x8, .i32⟩
  | .hbm, ⟨77, _⟩ => ⟨S8x8, .i32⟩
  | .hbm, ⟨78, _⟩ => ⟨S_, .i32⟩
  | .hbm, ⟨79, _⟩ => ⟨S8x8, .i32⟩
  | .hbm, ⟨80, _⟩ => ⟨S8x8, .i32⟩
  | .hbm, ⟨81, _⟩ => ⟨S_, .i32⟩
  | .hbm, ⟨82, _⟩ => ⟨S8x8, .i32⟩
  | .hbm, ⟨83, _⟩ => ⟨S8x8, .i1⟩
  | .hbm, ⟨84, _⟩ => ⟨S_, .i32⟩
  | .hbm, ⟨85, _⟩ => ⟨S8x8, .i32⟩
  | .hbm, ⟨86, _⟩ => ⟨S8x8, .i32⟩
  | .hbm, ⟨87, _⟩ => ⟨S8x8, .i32⟩
  | .hbm, ⟨88, _⟩ => ⟨S8x8x1, .i32⟩
  | .hbm, ⟨89, _⟩ => ⟨S16x8x8x31, .f32⟩
  | .hbm, ⟨90, _⟩ => ⟨S_, .i32⟩
  | .hbm, ⟨91, _⟩ => ⟨S64x64, .i32⟩
  | .hbm, ⟨92, _⟩ => ⟨S64x64, .i1⟩
  | .hbm, ⟨93, _⟩ => ⟨S_, .i32⟩
  | .hbm, ⟨94, _⟩ => ⟨S64x64, .i32⟩
  | .hbm, ⟨95, _⟩ => ⟨S64x64, .i32⟩
  | .hbm, ⟨96, _⟩ => ⟨S64x64, .i32⟩
  | .hbm, ⟨97, _⟩ => ⟨S64x64x1, .i32⟩
  | .hbm, ⟨98, _⟩ => ⟨S16x8x8x64x64, .f32⟩
  | .hbm, ⟨99, _⟩ => ⟨S1x1x1x64x64, .i1⟩
  | .hbm, ⟨100, _⟩ => ⟨S_, .f32⟩
  | .hbm, ⟨101, _⟩ => ⟨S_, .f32⟩
  | .hbm, ⟨102, _⟩ => ⟨S16x8x8x64x64, .i1⟩
  | .hbm, ⟨103, _⟩ => ⟨S16x8x8x64x64, .f32⟩
  | .hbm, ⟨104, _⟩ => ⟨S16x8x8x64x64, .f32⟩
  | .hbm, ⟨105, _⟩ => ⟨S8x16x64x8x64, .f32⟩
  | .hbm, ⟨106, _⟩ => ⟨S8x16x64x512, .f32⟩
  | .hbm, ⟨107, _⟩ => ⟨S16384x1024, .bf16⟩
  | .hbm, ⟨108, _⟩ => ⟨S2048x2048, .f32⟩
  | .hbm, ⟨109, _⟩ => ⟨S2048x2048, .bf16⟩
  | .hbm, ⟨110, _⟩ => ⟨S4096, .f32⟩
  | .hbm, ⟨111, _⟩ => ⟨S1024, .f32⟩
  | .hbm, ⟨112, _⟩ => ⟨S1024x2048, .bf16⟩
  | .hbm, ⟨113, _⟩ => ⟨S1024x2048, .bf16⟩
  | .hbm, ⟨114, _⟩ => ⟨S2048x2048, .f32⟩
  | .hbm, ⟨115, _⟩ => ⟨S2048x2048, .bf16⟩
  | .hbm, ⟨116, _⟩ => ⟨S2048, .f32⟩
  | .hbm, ⟨117, _⟩ => ⟨S2048, .f32⟩
  | .hbm, ⟨118, _⟩ => ⟨S1x2048, .f32⟩
  | .hbm, ⟨119, _⟩ => ⟨S2048, .f32⟩
  | .hbm, ⟨120, _⟩ => ⟨S1x2048, .f32⟩
  | .hbm, ⟨121, _⟩ => ⟨S1x1024, .f32⟩
  | .hbm, ⟨122, _⟩ => ⟨S1x2048, .f32⟩
  | .hbm, ⟨123, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | .local _ .vmem, ⟨12, _⟩ => ⟨S1024x2048, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .f32⟩
  | .local _ .vmem, ⟨16, _⟩ => ⟨S1024x1024, .f32⟩
  | .local _ .vmem, ⟨17, _⟩ => ⟨S64x1024, .bf16⟩
  | .local _ .vmem, ⟨18, _⟩ => ⟨S64x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S64x1024, .f32⟩
  | .local _ .vmem, ⟨24, _⟩ => ⟨S64x1024, .f32⟩
  | .local _ .vmem, ⟨25, _⟩ => ⟨S1x16x64x512, .f32⟩
  | .local _ .vmem, ⟨26, _⟩ => ⟨S1x16x64x512, .f32⟩
  | .local _ .vmem, ⟨27, _⟩ => ⟨S64x1024, .bf16⟩
  | .local _ .vmem, ⟨28, _⟩ => ⟨S64x1024, .bf16⟩
  | .local _ .vmem, ⟨29, _⟩ => ⟨S256x2048, .f32⟩
  | .local _ .vmem, ⟨30, _⟩ => ⟨S256x2048, .f32⟩
  | .local _ .vmem, ⟨31, _⟩ => ⟨S256x1024, .bf16⟩
  | .local _ .vmem, ⟨32, _⟩ => ⟨S256x1024, .bf16⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x2048, .f32⟩
  | .local _ .vmem, ⟨40, _⟩ => ⟨S256x2048, .f32⟩
  | .local _ .vmem, ⟨41, _⟩ => ⟨S256x2048, .f32⟩
  | .local _ .vmem, ⟨42, _⟩ => ⟨S256x2048, .f32⟩
  | .local _ .vmem, ⟨43, _⟩ => ⟨S1x2048, .f32⟩
  | .local _ .vmem, ⟨44, _⟩ => ⟨S1x2048, .f32⟩
  | .local _ .vmem, ⟨45, _⟩ => ⟨S1x1024, .f32⟩
  | .local _ .vmem, ⟨46, _⟩ => ⟨S1024x2048, .bf16⟩
  | .local _ .vmem, ⟨47, _⟩ => ⟨S1024x2048, .bf16⟩
  | .local _ .vmem, ⟨48, _⟩ => ⟨S2048x2048, .bf16⟩
  | .local _ .vmem, ⟨49, _⟩ => ⟨S1x2048, .f32⟩
  | .local _ .vmem, ⟨50, _⟩ => ⟨S256x2048, .f32⟩
  | .local _ .vmem, ⟨51, _⟩ => ⟨S256x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_3 : Ref sig .tc := ⟨.hbm, 54, rfl⟩
abbrev main_v34 : Ref sig .tc := ⟨.hbm, 55, rfl⟩
abbrev main_v35 : Ref sig .tc := ⟨.hbm, 56, rfl⟩
abbrev main_c_4 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_c_6 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_7 : Ref sig .tc := ⟨.hbm, 75, rfl⟩
abbrev main_v46 : Ref sig .tc := ⟨.hbm, 76, rfl⟩
abbrev main_v47 : Ref sig .tc := ⟨.hbm, 77, rfl⟩
abbrev main_c_8 : Ref sig .tc := ⟨.hbm, 78, rfl⟩
abbrev main_v48 : Ref sig .tc := ⟨.hbm, 79, rfl⟩
abbrev main_v49 : Ref sig .tc := ⟨.hbm, 80, rfl⟩
abbrev main_c_9 : Ref sig .tc := ⟨.hbm, 81, rfl⟩
abbrev main_v50 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_c_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc3_stg5_0 : Ref sig .tc := ⟨.vmem, 27, rfl⟩
abbrev cc3_stg5_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc4_stg5_0 : Ref sig .tc := ⟨.vmem, 39, rfl⟩
abbrev cc4_stg5_1 : Ref sig .tc := ⟨.vmem, 40, rfl⟩
abbrev cc4_stg6_0 : Ref sig .tc := ⟨.vmem, 41, rfl⟩
abbrev cc4_stg6_1 : Ref sig .tc := ⟨.vmem, 42, rfl⟩
abbrev cc4_stg7_0 : Ref sig .tc := ⟨.vmem, 43, rfl⟩
abbrev cc4_stg8_0 : Ref sig .tc := ⟨.vmem, 44, rfl⟩
abbrev cc4_stg9_0 : Ref sig .tc := ⟨.vmem, 45, rfl⟩
abbrev cc4_stg10_0 : Ref sig .tc := ⟨.vmem, 46, rfl⟩
abbrev cc4_stg11_0 : Ref sig .tc := ⟨.vmem, 47, rfl⟩
abbrev cc4_stg12_0 : Ref sig .tc := ⟨.vmem, 48, rfl⟩
abbrev cc4_stg13_0 : Ref sig .tc := ⟨.vmem, 49, rfl⟩
abbrev cc4_stg14_0 : Ref sig .tc := ⟨.vmem, 50, rfl⟩
abbrev cc4_stg14_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc3_sem5_0 : DmaSem sig := 27
abbrev cc3_sem5_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc4_sem4_0 : DmaSem sig := 37
abbrev cc4_sem4_1 : DmaSem sig := 38
abbrev cc4_sem5_0 : DmaSem sig := 39
abbrev cc4_sem5_1 : DmaSem sig := 40
abbrev cc4_sem6_0 : DmaSem sig := 41
abbrev cc4_sem6_1 : DmaSem sig := 42
abbrev cc4_sem7_0 : DmaSem sig := 43
abbrev cc4_sem8_0 : DmaSem sig := 44
abbrev cc4_sem9_0 : DmaSem sig := 45
abbrev cc4_sem10_0 : DmaSem sig := 46
abbrev cc4_sem11_0 : DmaSem sig := 47
abbrev cc4_sem12_0 : DmaSem sig := 48
abbrev cc4_sem13_0 : DmaSem sig := 49
abbrev cc4_sem14_0 : DmaSem sig := 50
abbrev cc4_sem14_1 : DmaSem sig := 51

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![256], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c64_i32 : BitVec 32 := 64#32
  let v3 : BitVec 32 := Scalar.muli v2 c64_i32
  let c1024_i32 : BitVec 32 := 1024#32
  let c0_i32_0 : BitVec 32 := 0#32
  ![v3.toNat, c1024_i32.toNat]

def cc3_transform_2 (i : grid3.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c64_i32 : BitVec 32 := 64#32
  let v3 : BitVec 32 := Scalar.muli v2 c64_i32
  let c2048_i32 : BitVec 32 := 2048#32
  let c0_i32_0 : BitVec 32 := 0#32
  ![v3.toNat, c2048_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 4 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let v3 : BitVec 32 := Scalar.subi arg0 v2
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S64x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x16x64x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S64x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c5_i32 : BitVec 32 := 5#32
  let c0_i32 : BitVec 32 := 0#32
  ![arg0.toNat, c5_i32.toNat]

def cc4_transform_5 (i : grid4.Coords) : Fin 2 → Nat :=
  let arg0 : BitVec 32 := BitVec.ofNat 32 (i 0).val
  let c3_i32 : BitVec 32 := 3#32
  let c0_i32 : BitVec 32 := 0#32
  ![arg0.toNat, c3_i32.toNat]

def cc4_transform_6 (i : grid4.Coords) : Fin 2 → Nat :=
  let arg0 : BitVec 32 := BitVec.ofNat 32 (i 0).val
  let c4_i32 : BitVec 32 := 4#32
  let c0_i32 : BitVec 32 := 0#32
  ![arg0.toNat, c4_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x2048 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x2048 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x2048 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x1024 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1024x2048 .bf16 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1024x2048 .bf16 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S2048x2048 .bf16 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x2048 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 2 → Memref sig .tc .vmem S256x2048 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]
-- ==== LayerRefIdeal.lean ====
abbrev S1x16384x2048 : Shape := ⟨3, ![1, 16384, 2048]⟩
abbrev S1x2048 : Shape := ⟨2, ![1, 2048]⟩
abbrev S1x2048x13312 : Shape := ⟨3, ![1, 2048, 13312]⟩
abbrev S1x4096 : Shape := ⟨2, ![1, 4096]⟩
abbrev S1x16x15x31 : Shape := ⟨4, ![1, 16, 15, 31]⟩
abbrev S16384x1024 : Shape := ⟨2, ![16384, 1024]⟩
abbrev S1x1024 : Shape := ⟨2, ![1, 1024]⟩
abbrev S1x2048x2048 : Shape := ⟨3, ![1, 2048, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x13312 : Shape := ⟨2, ![2048, 13312]⟩
abbrev S16384x13312 : Shape := ⟨2, ![16384, 13312]⟩
abbrev S16384x3072 : Shape := ⟨2, ![16384, 3072]⟩
abbrev S16384x10240 : Shape := ⟨2, ![16384, 10240]⟩
abbrev S256x64x16x64 : Shape := ⟨4, ![256, 64, 16, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1 : Shape := ⟨3, ![256, 8, 1]⟩
abbrev S256x8x64x16x64 : Shape := ⟨5, ![256, 8, 64, 16, 64]⟩
abbrev S256x16x64x8x64 : Shape := ⟨5, ![256, 16, 64, 8, 64]⟩
abbrev S16x15x31 : Shape := ⟨3, ![16, 15, 31]⟩
abbrev S16x256x8x31 : Shape := ⟨4, ![16, 256, 8, 31]⟩
abbrev S64x64x1 : Shape := ⟨3, ![64, 64, 1]⟩
abbrev S16x256x8x64x64 : Shape := ⟨5, ![16, 256, 8, 64, 64]⟩
abbrev S1x1x64x1x64 : Shape := ⟨5, ![1, 1, 64, 1, 64]⟩
abbrev S256x16x64x512 : Shape := ⟨4, ![256, 16, 64, 512]⟩
abbrev S256x16x64 : Shape := ⟨3, ![256, 16, 64]⟩
abbrev S256x16x64x1 : Shape := ⟨4, ![256, 16, 64, 1]⟩
abbrev S256x512x16x64 : Shape := ⟨4, ![256, 512, 16, 64]⟩
abbrev S256x16x64x64 : Shape := ⟨4, ![256, 16, 64, 64]⟩
abbrev S16384x4096 : Shape := ⟨2, ![16384, 4096]⟩
abbrev S16384x8x128 : Shape := ⟨3, ![16384, 8, 128]⟩
abbrev S1024 : Shape := ⟨1, ![1024]⟩
abbrev S8x128 : Shape := ⟨2, ![8, 128]⟩
abbrev S16384x8 : Shape := ⟨2, ![16384, 8]⟩
abbrev S16384x8x1 : Shape := ⟨3, ![16384, 8, 1]⟩
abbrev S1x8x128 : Shape := ⟨3, ![1, 8, 128]⟩
abbrev S4096 : Shape := ⟨1, ![4096]⟩
abbrev S1x1024x2048 : Shape := ⟨3, ![1, 1024, 2048]⟩
abbrev S1024x2048 : Shape := ⟨2, ![1024, 2048]⟩
abbrev S2048x2048 : Shape := ⟨2, ![2048, 2048]⟩

abbrev nBuf : Space → Nat
  | .hbm => 267
  | .vmem => 0
  | .smem => 0
  | _ => 0

abbrev hbmTy0_0 (i : Nat) : BufTy := match i % 128 with
  | 0 => ⟨S1x16384x2048, .f32⟩
  | 1 => ⟨S1x2048, .f32⟩
  | 2 => ⟨S1x2048x13312, .f32⟩
  | 3 => ⟨S1x4096, .f32⟩
  | 4 => ⟨S1x16x15x31, .f32⟩
  | 5 => ⟨S16384x1024, .f32⟩
  | 6 => ⟨S16384x1024, .f32⟩
  | 7 => ⟨S1x1024, .f32⟩
  | 8 => ⟨S1x2048x2048, .f32⟩
  | 9 => ⟨S1x2048x2048, .f32⟩
  | 10 => ⟨S1x2048, .f32⟩
  | 11 => ⟨S16384x2048, .f32⟩
  | 12 => ⟨S2048, .f32⟩
  | 13 => ⟨S16384x2048, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S16384x1, .f32⟩
  | 24 => ⟨S16384x2048, .f32⟩
  | 25 => ⟨S16384x2048, .f32⟩
  | 26 => ⟨S1x2048, .f32⟩
  | 27 => ⟨S16384x2048, .f32⟩
  | 28 => ⟨S16384x2048, .f32⟩
  | 29 => ⟨S2048x13312, .f32⟩
  | 30 => ⟨S16384x13312, .f32⟩
  | 31 => ⟨S16384x3072, .f32⟩
  | 32 => ⟨S16384x10240, .f32⟩
  | 33 => ⟨S16384x1024, .f32⟩
  | 34 => ⟨S256x64x16x64, .f32⟩
  | 35 => ⟨S16384x1024, .f32⟩
  | 36 => ⟨S256x64x16x64, .f32⟩
  | 37 => ⟨S16384x1024, .f32⟩
  | 38 => ⟨S256x64x16x64, .f32⟩
  | 39 => ⟨S16384x1024, .f32⟩
  | 40 => ⟨S64, .i32⟩
  | 41 => ⟨S64, .i32⟩
  | 42 => ⟨S_, .i32⟩
  | 43 => ⟨S64, .i32⟩
  | 44 => ⟨S64, .i32⟩
  | 45 => ⟨S_, .i32⟩
  | 46 => ⟨S_, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S1x64, .i32⟩
  | 54 => ⟨S64x1, .i32⟩
  | 55 => ⟨S64x64, .i32⟩
  | 56 => ⟨S64x64, .i32⟩
  | 57 => ⟨S64x64, .i1⟩
  | 58 => ⟨S1x64, .i32⟩
  | 59 => ⟨S64x1, .i32⟩
  | 60 => ⟨S_, .i32⟩
  | 61 => ⟨S64x1, .i32⟩
  | 62 => ⟨S64x1, .i32⟩
  | 63 => ⟨S64x64, .i32⟩
  | 64 => ⟨S64x64, .i32⟩
  | 65 => ⟨S64x64, .i1⟩
  | 66 => ⟨S64x64, .i1⟩
  | 67 => ⟨S1x64, .i32⟩
  | 68 => ⟨S64x1, .i32⟩
  | 69 => ⟨S64x64, .i32⟩
  | 70 => ⟨S64x64, .i32⟩
  | 71 => ⟨S64x64, .i32⟩
  | 72 => ⟨S_, .i32⟩
  | 73 => ⟨S64x64, .i32⟩
  | 74 => ⟨S64x64, .i32⟩
  | 75 => ⟨S_, .i32⟩
  | 76 => ⟨S64x64, .i32⟩
  | 77 => ⟨S64x64, .i32⟩
  | 78 => ⟨S_, .i32⟩
  | 79 => ⟨S_, .i32⟩
  | 80 => ⟨S_, .i32⟩
  | 81 => ⟨S64x64, .i32⟩
  | 82 => ⟨S64x64, .i32⟩
  | 83 => ⟨S_, .i32⟩
  | 84 => ⟨S64x64, .i32⟩
  | 85 => ⟨S64x64, .i32⟩
  | 86 => ⟨S256, .i32⟩
  | 87 => ⟨S_, .i32⟩
  | 88 => ⟨S256, .i32⟩
  | 89 => ⟨S256, .i32⟩
  | 90 => ⟨S_, .i32⟩
  | 91 => ⟨S_, .i32⟩
  | 92 => ⟨S_, .i32⟩
  | 93 => ⟨S256, .i32⟩
  | 94 => ⟨S256, .i32⟩
  | 95 => ⟨S_, .i32⟩
  | 96 => ⟨S256, .i32⟩
  | 97 => ⟨S256, .i32⟩
  | 98 => ⟨S256x1, .i32⟩
  | 99 => ⟨S8, .i32⟩
  | 100 => ⟨S1x8, .i32⟩
  | 101 => ⟨S256x8, .i32⟩
  | 102 => ⟨S256x8, .i32⟩
  | 103 => ⟨S256x8, .i32⟩
  | 104 => ⟨S_, .i32⟩
  | 105 => ⟨S256x8, .i32⟩
  | 106 => ⟨S256x8, .i1⟩
  | 107 => ⟨S_, .i32⟩
  | 108 => ⟨S256x8, .i32⟩
  | 109 => ⟨S256x8, .i32⟩
  | 110 => ⟨S256x8, .i32⟩
  | 111 => ⟨S256x8x1, .i32⟩
  | 112 => ⟨S256x8x64x16x64, .f32⟩
  | 113 => ⟨S_, .i32⟩
  | 114 => ⟨S256x8, .i32⟩
  | 115 => ⟨S256x8, .i1⟩
  | 116 => ⟨S_, .i32⟩
  | 117 => ⟨S256x8, .i32⟩
  | 118 => ⟨S256x8, .i32⟩
  | 119 => ⟨S256x8, .i32⟩
  | 120 => ⟨S256x8x1, .i32⟩
  | 121 => ⟨S256x8x64x16x64, .f32⟩
  | 122 => ⟨S256x16x64x8x64, .f32⟩
  | 123 => ⟨S_, .f32⟩
  | 124 => ⟨S256x16x64x8x64, .f32⟩
  | 125 => ⟨S256x16x64x8x64, .f32⟩
  | 126 => ⟨S256x1, .i32⟩
  | 127 => ⟨S256x8, .i32⟩
  | _ => ⟨S1x16384x2048, .f32⟩

abbrev hbmTy0_1 (i : Nat) : BufTy := match i % 128 with
  | 0 => ⟨S256x8, .i32⟩
  | 1 => ⟨S_, .i32⟩
  | 2 => ⟨S256x8, .i32⟩
  | 3 => ⟨S256x8, .i32⟩
  | 4 => ⟨S_, .i32⟩
  | 5 => ⟨S256x8, .i32⟩
  | 6 => ⟨S256x8, .i32⟩
  | 7 => ⟨S16x15x31, .f32⟩
  | 8 => ⟨S_, .i32⟩
  | 9 => ⟨S256x8, .i32⟩
  | 10 => ⟨S256x8, .i1⟩
  | 11 => ⟨S_, .i32⟩
  | 12 => ⟨S256x8, .i32⟩
  | 13 => ⟨S256x8, .i32⟩
  | 14 => ⟨S256x8, .i32⟩
  | 15 => ⟨S256x8x1, .i32⟩
  | 16 => ⟨S16x256x8x31, .f32⟩
  | 17 => ⟨S_, .i32⟩
  | 18 => ⟨S64x64, .i32⟩
  | 19 => ⟨S64x64, .i1⟩
  | 20 => ⟨S_, .i32⟩
  | 21 => ⟨S64x64, .i32⟩
  | 22 => ⟨S64x64, .i32⟩
  | 23 => ⟨S64x64, .i32⟩
  | 24 => ⟨S64x64x1, .i32⟩
  | 25 => ⟨S16x256x8x64x64, .f32⟩
  | 26 => ⟨S256x16x64x8x64, .f32⟩
  | 27 => ⟨S256x16x64x8x64, .f32⟩
  | 28 => ⟨S1x1x64x1x64, .i1⟩
  | 29 => ⟨S_, .f32⟩
  | 30 => ⟨S_, .f32⟩
  | 31 => ⟨S256x16x64x8x64, .i1⟩
  | 32 => ⟨S256x16x64x8x64, .f32⟩
  | 33 => ⟨S256x16x64x8x64, .f32⟩
  | 34 => ⟨S256x16x64x512, .f32⟩
  | 35 => ⟨S_, .f32⟩
  | 36 => ⟨S256x16x64, .f32⟩
  | 37 => ⟨S_, .f32⟩
  | 38 => ⟨S256x16x64, .f32⟩
  | 39 => ⟨S256x16x64, .f32⟩
  | 40 => ⟨S256x16x64x1, .f32⟩
  | 41 => ⟨S256x16x64x512, .f32⟩
  | 42 => ⟨S256x16x64x512, .f32⟩
  | 43 => ⟨S256x16x64x512, .f32⟩
  | 44 => ⟨S_, .f32⟩
  | 45 => ⟨S256x16x64, .f32⟩
  | 46 => ⟨S256x16x64x1, .f32⟩
  | 47 => ⟨S256x16x64x512, .f32⟩
  | 48 => ⟨S256x16x64x512, .f32⟩
  | 49 => ⟨S256x512x16x64, .f32⟩
  | 50 => ⟨S256x16x64x64, .f32⟩
  | 51 => ⟨S256x64x16x64, .f32⟩
  | 52 => ⟨S16384x1024, .f32⟩
  | 53 => ⟨S16384x1024, .f32⟩
  | 54 => ⟨S16384x1024, .f32⟩
  | 55 => ⟨S_, .f32⟩
  | 56 => ⟨S16384x1024, .f32⟩
  | 57 => ⟨S16384x1024, .f32⟩
  | 58 => ⟨S_, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S16384x4096, .f32⟩
  | 65 => ⟨S16384x1024, .f32⟩
  | 66 => ⟨S16384x8x128, .f32⟩
  | 67 => ⟨S1024, .f32⟩
  | 68 => ⟨S8x128, .f32⟩
  | 69 => ⟨S16384x8x128, .f32⟩
  | 70 => ⟨S_, .f32⟩
  | 71 => ⟨S16384x8, .f32⟩
  | 72 => ⟨S16384x8x1, .f32⟩
  | 73 => ⟨S_, .f32⟩
  | 74 => ⟨S16384x8x1, .f32⟩
  | 75 => ⟨S16384x8x1, .f32⟩
  | 76 => ⟨S_, .f32⟩
  | 77 => ⟨S16384x8x1, .f32⟩
  | 78 => ⟨S16384x8x1, .f32⟩
  | 79 => ⟨S16384x8x1, .f32⟩
  | 80 => ⟨S16384x8x128, .f32⟩
  | 81 => ⟨S16384x8x128, .f32⟩
  | 82 => ⟨S1x8x128, .f32⟩
  | 83 => ⟨S16384x8x128, .f32⟩
  | 84 => ⟨S16384x8x128, .f32⟩
  | 85 => ⟨S16384x1024, .f32⟩
  | 86 => ⟨S16384x1024, .f32⟩
  | 87 => ⟨S16384x1024, .f32⟩
  | 88 => ⟨S_, .f32⟩
  | 89 => ⟨S16384x1024, .f32⟩
  | 90 => ⟨S16384x1024, .f32⟩
  | 91 => ⟨S_, .f32⟩
  | 92 => ⟨S16384x1024, .f32⟩
  | 93 => ⟨S16384x1024, .f32⟩
  | 94 => ⟨S16384x1024, .f32⟩
  | 95 => ⟨S16384x1024, .f32⟩
  | 96 => ⟨S4096, .f32⟩
  | 97 => ⟨S1x4096, .f32⟩
  | 98 => ⟨S16384x4096, .f32⟩
  | 99 => ⟨S16384x4096, .f32⟩
  | 100 => ⟨S16384x4096, .f32⟩
  | 101 => ⟨S16384x4096, .f32⟩
  | 102 => ⟨S_, .f32⟩
  | 103 => ⟨S16384x4096, .f32⟩
  | 104 => ⟨S16384x4096, .f32⟩
  | 105 => ⟨S_, .f32⟩
  | 106 => ⟨S16384x4096, .f32⟩
  | 107 => ⟨S16384x4096, .f32⟩
  | 108 => ⟨S16384x2048, .f32⟩
  | 109 => ⟨S16384x2048, .f32⟩
  | 110 => ⟨S1x1024x2048, .f32⟩
  | 111 => ⟨S1024x2048, .f32⟩
  | 112 => ⟨S16384x2048, .f32⟩
  | 113 => ⟨S16384x2048, .f32⟩
  | 114 => ⟨S1x1024x2048, .f32⟩
  | 115 => ⟨S1024x2048, .f32⟩
  | 116 => ⟨S16384x2048, .f32⟩
  | 117 => ⟨S16384x2048, .f32⟩
  | 118 => ⟨S16384x2048, .f32⟩
  | 119 => ⟨S2048x2048, .f32⟩
  | 120 => ⟨S16384x2048, .f32⟩
  | 121 => ⟨S2048, .f32⟩
  | 122 => ⟨S16384x2048, .f32⟩
  | 123 => ⟨S_, .f32⟩
  | 124 => ⟨S16384, .f32⟩
  | 125 => ⟨S16384x1, .f32⟩
  | 126 => ⟨S_, .f32⟩
  | 127 => ⟨S16384x1, .f32⟩
  | _ => ⟨S1x16384x2048, .f32⟩

abbrev hbmTy0_2 (i : Nat) : BufTy := match i % 128 with
  | 0 => ⟨S16384x1, .f32⟩
  | 1 => ⟨S_, .f32⟩
  | 2 => ⟨S16384x1, .f32⟩
  | 3 => ⟨S16384x1, .f32⟩
  | 4 => ⟨S16384x1, .f32⟩
  | 5 => ⟨S16384x2048, .f32⟩
  | 6 => ⟨S16384x2048, .f32⟩
  | 7 => ⟨S1x2048, .f32⟩
  | 8 => ⟨S16384x2048, .f32⟩
  | 9 => ⟨S16384x2048, .f32⟩
  | 10 => ⟨S16384x2048, .f32⟩
  | _ => ⟨S1x16384x2048, .f32⟩

abbrev hbmTy (i : Nat) : BufTy := match i / 128 with
  | 0 => hbmTy0_0 i
  | 1 => hbmTy0_1 i
  | 2 => hbmTy0_2 i
  | _ => ⟨S1x16384x2048, .f32⟩

abbrev bufTy : (tb : Table) → Fin (tcTables nBuf tb) → BufTy
  | .hbm, ⟨i, _⟩ => hbmTy i
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_c_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_5 : Ref sig .tc := ⟨.hbm, 72, rfl⟩
abbrev main_v49 : Ref sig .tc := ⟨.hbm, 73, rfl⟩
abbrev main_v50 : Ref sig .tc := ⟨.hbm, 74, rfl⟩
abbrev main_c_6 : Ref sig .tc := ⟨.hbm, 75, rfl⟩
abbrev main_v51 : Ref sig .tc := ⟨.hbm, 76, rfl⟩
abbrev main_v52 : Ref sig .tc := ⟨.hbm, 77, rfl⟩
abbrev main_c_7 : Ref sig .tc := ⟨.hbm, 78, rfl⟩
abbrev main_c_8 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v53 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_c_10 : Ref sig .tc := ⟨.hbm, 90, rfl⟩
abbrev main_c_11 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_12 : Ref sig .tc := ⟨.hbm, 104, rfl⟩
abbrev main_v64 : Ref sig .tc := ⟨.hbm, 105, rfl⟩
abbrev main_v65 : Ref sig .tc := ⟨.hbm, 106, rfl⟩
abbrev main_c_13 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_14 : Ref sig .tc := ⟨.hbm, 113, rfl⟩
abbrev main_v71 : Ref sig .tc := ⟨.hbm, 114, rfl⟩
abbrev main_v72 : Ref sig .tc := ⟨.hbm, 115, rfl⟩
abbrev main_c_15 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_16 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_17 : Ref sig .tc := ⟨.hbm, 129, rfl⟩
abbrev main_v84 : Ref sig .tc := ⟨.hbm, 130, rfl⟩
abbrev main_v85 : Ref sig .tc := ⟨.hbm, 131, rfl⟩
abbrev main_c_18 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_19 : Ref sig .tc := ⟨.hbm, 136, rfl⟩
abbrev main_v89 : Ref sig .tc := ⟨.hbm, 137, rfl⟩
abbrev main_v90 : Ref sig .tc := ⟨.hbm, 138, rfl⟩
abbrev main_c_20 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_c_21 : Ref sig .tc := ⟨.hbm, 145, rfl⟩
abbrev main_v96 : Ref sig .tc := ⟨.hbm, 146, rfl⟩
abbrev main_v97 : Ref sig .tc := ⟨.hbm, 147, rfl⟩
abbrev main_c_22 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_23 : Ref sig .tc := ⟨.hbm, 157, rfl⟩
abbrev main_call3_v0 : Ref sig .tc := ⟨.hbm, 158, rfl⟩
abbrev main_call3_v1 : Ref sig .tc := ⟨.hbm, 159, rfl⟩
abbrev main_call3_v2 : Ref sig .tc := ⟨.hbm, 160, rfl⟩
abbrev main_v106 : Ref sig .tc := ⟨.hbm, 161, rfl⟩
abbrev main_v107 : Ref sig .tc := ⟨.hbm, 162, rfl⟩
abbrev main_cst_24 : Ref sig .tc := ⟨.hbm, 163, rfl⟩
abbrev main_v108 : Ref sig .tc := ⟨.hbm, 164, rfl⟩
abbrev main_cst_25 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_26 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_call4_v0 : Ref sig .tc := ⟨.hbm, 181, rfl⟩
abbrev main_call4_v1 : Ref sig .tc := ⟨.hbm, 182, rfl⟩
abbrev main_call4_cst : Ref sig .tc := ⟨.hbm, 183, rfl⟩
abbrev main_call4_v2 : Ref sig .tc := ⟨.hbm, 184, rfl⟩
abbrev main_call4_v3 : Ref sig .tc := ⟨.hbm, 185, rfl⟩
abbrev main_call4_cst_0 : Ref sig .tc := ⟨.hbm, 186, rfl⟩
abbrev main_call4_v4 : Ref sig .tc := ⟨.hbm, 187, rfl⟩
abbrev main_call4_v5 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_cst_27 : Ref sig .tc := ⟨.hbm, 198, rfl⟩
abbrev main_v132 : Ref sig .tc := ⟨.hbm, 199, rfl⟩
abbrev main_v133 : Ref sig .tc := ⟨.hbm, 200, rfl⟩
abbrev main_cst_28 : Ref sig .tc := ⟨.hbm, 201, rfl⟩
abbrev main_v134 : Ref sig .tc := ⟨.hbm, 202, rfl⟩
abbrev main_v135 : Ref sig .tc := ⟨.hbm, 203, rfl⟩
abbrev main_cst_29 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_call5_v0 : Ref sig .tc := ⟨.hbm, 214, rfl⟩
abbrev main_call5_v1 : Ref sig .tc := ⟨.hbm, 215, rfl⟩
abbrev main_call5_cst : Ref sig .tc := ⟨.hbm, 216, rfl⟩
abbrev main_call5_v2 : Ref sig .tc := ⟨.hbm, 217, rfl⟩
abbrev main_call5_v3 : Ref sig .tc := ⟨.hbm, 218, rfl⟩
abbrev main_call5_cst_0 : Ref sig .tc := ⟨.hbm, 219, rfl⟩
abbrev main_call5_v4 : Ref sig .tc := ⟨.hbm, 220, rfl⟩
abbrev main_call5_v5 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_cst_30 : Ref sig .tc := ⟨.hbm, 230, rfl⟩
abbrev main_v153 : Ref sig .tc := ⟨.hbm, 231, rfl⟩
abbrev main_v154 : Ref sig .tc := ⟨.hbm, 232, rfl⟩
abbrev main_cst_31 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_cst_32 : Ref sig .tc := ⟨.hbm, 251, rfl⟩
abbrev main_v172 : Ref sig .tc := ⟨.hbm, 252, rfl⟩
abbrev main_v173 : Ref sig .tc := ⟨.hbm, 253, rfl⟩
abbrev main_cst_33 : Ref sig .tc := ⟨.hbm, 254, rfl⟩
abbrev main_v174 : Ref sig .tc := ⟨.hbm, 255, rfl⟩
abbrev main_v175 : Ref sig .tc := ⟨.hbm, 256, rfl⟩
abbrev main_cst_34 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩

abbrev nD : Nat := 1
abbrev τ : Topo := Topo.v7x

variable {F : FTy → Type} [FloatOps F]
-- ==== Attention.lean ====
abbrev S16384x3072 : Shape := ⟨2, ![16384, 3072]⟩
abbrev S16384x10240 : Shape := ⟨2, ![16384, 10240]⟩
abbrev S16x15x31 : Shape := ⟨3, ![16, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S8x8x1 : Shape := ⟨3, ![8, 8, 1]⟩
abbrev S16x8x8x31 : Shape := ⟨4, ![16, 8, 8, 31]⟩
abbrev S64x64x1 : Shape := ⟨3, ![64, 64, 1]⟩
abbrev S16x8x8x64x64 : Shape := ⟨5, ![16, 8, 8, 64, 64]⟩
abbrev S1x1x1x64x64 : Shape := ⟨5, ![1, 1, 1, 64, 64]⟩
abbrev S8x16x64x8x64 : Shape := ⟨5, ![8, 16, 64, 8, 64]⟩
abbrev S8x16x64x512 : Shape := ⟨4, ![8, 16, 64, 512]⟩
abbrev S16384x1024 : Shape := ⟨2, ![16384, 1024]⟩
abbrev S64x1024 : Shape := ⟨2, ![64, 1024]⟩
abbrev S512x1024 : Shape := ⟨2, ![512, 1024]⟩
abbrev S1x16x64x512 : Shape := ⟨4, ![1, 16, 64, 512]⟩
abbrev S512x64 : Shape := ⟨2, ![512, 64]⟩
abbrev S64x512 : Shape := ⟨2, ![64, 512]⟩
abbrev S1x1x64x512 : Shape := ⟨4, ![1, 1, 64, 512]⟩

abbrev nBuf : Space → Nat
  | .hbm => 89
  | .vmem => 12
  | .smem => 0
  | _ => 0

abbrev bufTy : (tb : Table) → Fin (tcTables nBuf tb) → BufTy
  | .hbm, ⟨0, _⟩ => ⟨S16384x3072, .bf16⟩
  | .hbm, ⟨1, _⟩ => ⟨S16384x10240, .f32⟩
  | .hbm, ⟨2, _⟩ => ⟨S16x15x31, .f32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S1x64, .i32⟩
  | .hbm, ⟨17, _⟩ => ⟨S64x1, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S1x64, .i32⟩
  | .hbm, ⟨22, _⟩ => ⟨S64x1, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S64x64, .i1⟩
  | .hbm, ⟨30, _⟩ => ⟨S1x64, .i32⟩
  | .hbm, ⟨31, _⟩ => ⟨S64x1, .i32⟩
  | .hbm, ⟨32, _⟩ => ⟨S64x64, .i32⟩
  | .hbm, ⟨33, _⟩ => ⟨S64x64, .i32⟩
  | .hbm, ⟨34, _⟩ => ⟨S64x64, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S_, .i32⟩
  | .hbm, ⟨47, _⟩ => ⟨S64x64, .i32⟩
  | .hbm, ⟨48, _⟩ => ⟨S64x64, .i32⟩
  | .hbm, ⟨49, _⟩ => ⟨S8, .i32⟩
  | .hbm, ⟨50, _⟩ => ⟨S8, .i32⟩
  | .hbm, ⟨51, _⟩ => ⟨S1x8, .i32⟩
  | .hbm, ⟨52, _⟩ => ⟨S8x1, .i32⟩
  | .hbm, ⟨53, _⟩ => ⟨S8x8, .i32⟩
  | .hbm, ⟨54, _⟩ => ⟨S8x8, .i32⟩
  | .hbm, ⟨55, _⟩ => ⟨S8x8, .i32⟩
  | .hbm, ⟨56, _⟩ => ⟨S_, .i32⟩
  | .hbm, ⟨57, _⟩ => ⟨S8x8, .i32⟩
  | .hbm, ⟨58, _⟩ => ⟨S8x8, .i32⟩
  | .hbm, ⟨59, _⟩ => ⟨S_, .i32⟩
  | .hbm, ⟨60, _⟩ => ⟨S8x8, .i32⟩
  | .hbm, ⟨61, _⟩ => ⟨S8x8, .i32⟩
  | .hbm, ⟨62, _⟩ => ⟨S_, .i32⟩
  | .hbm, ⟨63, _⟩ => ⟨S8x8, .i32⟩
  | .hbm, ⟨64, _⟩ => ⟨S8x8, .i1⟩
  | .hbm, ⟨65, _⟩ => ⟨S_, .i32⟩
  | .hbm, ⟨66, _⟩ => ⟨S8x8, .i32⟩
  | .hbm, ⟨67, _⟩ => ⟨S8x8, .i32⟩
  | .hbm, ⟨68, _⟩ => ⟨S8x8, .i32⟩
  | .hbm, ⟨69, _⟩ => ⟨S8x8x1, .i32⟩
  | .hbm, ⟨70, _⟩ => ⟨S16x8x8x31, .f32⟩
  | .hbm, ⟨71, _⟩ => ⟨S_, .i32⟩
  | .hbm, ⟨72, _⟩ => ⟨S64x64, .i32⟩
  | .hbm, ⟨73, _⟩ => ⟨S64x64, .i1⟩
  | .hbm, ⟨74, _⟩ => ⟨S_, .i32⟩
  | .hbm, ⟨75, _⟩ => ⟨S64x64, .i32⟩
  | .hbm, ⟨76, _⟩ => ⟨S64x64, .i32⟩
  | .hbm, ⟨77, _⟩ => ⟨S64x64, .i32⟩
  | .hbm, ⟨78, _⟩ => ⟨S64x64x1, .i32⟩
  | .hbm, ⟨79, _⟩ => ⟨S16x8x8x64x64, .f32⟩
  | .hbm, ⟨80, _⟩ => ⟨S1x1x1x64x64, .i1⟩
  | .hbm, ⟨81, _⟩ => ⟨S_, .f32⟩
  | .hbm, ⟨82, _⟩ => ⟨S_, .f32⟩
  | .hbm, ⟨83, _⟩ => ⟨S16x8x8x64x64, .i1⟩
  | .hbm, ⟨84, _⟩ => ⟨S16x8x8x64x64, .f32⟩
  | .hbm, ⟨85, _⟩ => ⟨S16x8x8x64x64, .f32⟩
  | .hbm, ⟨86, _⟩ => ⟨S8x16x64x8x64, .f32⟩
  | .hbm, ⟨87, _⟩ => ⟨S8x16x64x512, .f32⟩
  | .hbm, ⟨88, _⟩ => ⟨S16384x1024, .bf16⟩
  | .local _ .vmem, ⟨0, _⟩ => ⟨S64x1024, .bf16⟩
  | .local _ .vmem, ⟨1, _⟩ => ⟨S64x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S64x1024, .f32⟩
  | .local _ .vmem, ⟨7, _⟩ => ⟨S64x1024, .f32⟩
  | .local _ .vmem, ⟨8, _⟩ => ⟨S1x16x64x512, .f32⟩
  | .local _ .vmem, ⟨9, _⟩ => ⟨S1x16x64x512, .f32⟩
  | .local _ .vmem, ⟨10, _⟩ => ⟨S64x1024, .bf16⟩
  | .local _ .vmem, ⟨11, _⟩ => ⟨S64x1024, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_c_6 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c64_i32 : BitVec 32 := 64#32
  let v3 : BitVec 32 := Scalar.muli v2 c64_i32
  let c1024_i32 : BitVec 32 := 1024#32
  let c0_i32_0 : BitVec 32 := 0#32
  ![v3.toNat, c1024_i32.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let c64_i32 : BitVec 32 := 64#32
  let v3 : BitVec 32 := Scalar.muli v2 c64_i32
  let c2048_i32 : BitVec 32 := 2048#32
  let c0_i32_0 : BitVec 32 := 0#32
  ![v3.toNat, c2048_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c4_i32 : BitVec 32 := 4#32
  let v0 : BitVec 32 := Scalar.subi arg0 c4_i32
  let c0_i32 : BitVec 32 := 0#32
  let c248_i32 : BitVec 32 := 248#32
  let v1 : BitVec 32 := Scalar.maxsi c0_i32 v0
  let v2 : BitVec 32 := Scalar.minsi c248_i32 v1
  let v3 : BitVec 32 := Scalar.subi arg0 v2
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttentionRefIdeal.lean ====
abbrev S16384x3072 : Shape := ⟨2, ![16384, 3072]⟩
abbrev S16384x10240 : Shape := ⟨2, ![16384, 10240]⟩
abbrev S16x15x31 : Shape := ⟨3, ![16, 15, 31]⟩
abbrev S16384x1024 : Shape := ⟨2, ![16384, 1024]⟩
abbrev S256x64x16x64 : Shape := ⟨4, ![256, 64, 16, 64]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1 : Shape := ⟨3, ![256, 8, 1]⟩
abbrev S256x8x64x16x64 : Shape := ⟨5, ![256, 8, 64, 16, 64]⟩
abbrev S256x16x64x8x64 : Shape := ⟨5, ![256, 16, 64, 8, 64]⟩
abbrev S16x256x8x31 : Shape := ⟨4, ![16, 256, 8, 31]⟩
abbrev S64x64x1 : Shape := ⟨3, ![64, 64, 1]⟩
abbrev S16x256x8x64x64 : Shape := ⟨5, ![16, 256, 8, 64, 64]⟩
abbrev S1x1x64x1x64 : Shape := ⟨5, ![1, 1, 64, 1, 64]⟩
abbrev S256x16x64x512 : Shape := ⟨4, ![256, 16, 64, 512]⟩
abbrev S256x16x64 : Shape := ⟨3, ![256, 16, 64]⟩
abbrev S256x16x64x1 : Shape := ⟨4, ![256, 16, 64, 1]⟩
abbrev S256x512x16x64 : Shape := ⟨4, ![256, 512, 16, 64]⟩
abbrev S256x16x64x64 : Shape := ⟨4, ![256, 16, 64, 64]⟩

abbrev nBuf : Space → Nat
  | .hbm => 162
  | .vmem => 0
  | .smem => 0
  | _ => 0

abbrev hbmTy0_0 (i : Nat) : BufTy := match i % 128 with
  | 0 => ⟨S16384x3072, .bf16⟩
  | 1 => ⟨S16384x10240, .f32⟩
  | 2 => ⟨S16x15x31, .f32⟩
  | 3 => ⟨S16384x3072, .f32⟩
  | 4 => ⟨S16384x1024, .f32⟩
  | 5 => ⟨S256x64x16x64, .f32⟩
  | 6 => ⟨S16384x1024, .f32⟩
  | 7 => ⟨S256x64x16x64, .f32⟩
  | 8 => ⟨S16384x1024, .f32⟩
  | 9 => ⟨S256x64x16x64, .f32⟩
  | 10 => ⟨S16384x1024, .f32⟩
  | 11 => ⟨S64, .i32⟩
  | 12 => ⟨S64, .i32⟩
  | 13 => ⟨S_, .i32⟩
  | 14 => ⟨S64, .i32⟩
  | 15 => ⟨S64, .i32⟩
  | 16 => ⟨S_, .i32⟩
  | 17 => ⟨S_, .i32⟩
  | 18 => ⟨S_, .i32⟩
  | 19 => ⟨S64, .i32⟩
  | 20 => ⟨S64, .i32⟩
  | 21 => ⟨S_, .i32⟩
  | 22 => ⟨S64, .i32⟩
  | 23 => ⟨S64, .i32⟩
  | 24 => ⟨S1x64, .i32⟩
  | 25 => ⟨S64x1, .i32⟩
  | 26 => ⟨S64x64, .i32⟩
  | 27 => ⟨S64x64, .i32⟩
  | 28 => ⟨S64x64, .i1⟩
  | 29 => ⟨S1x64, .i32⟩
  | 30 => ⟨S64x1, .i32⟩
  | 31 => ⟨S_, .i32⟩
  | 32 => ⟨S64x1, .i32⟩
  | 33 => ⟨S64x1, .i32⟩
  | 34 => ⟨S64x64, .i32⟩
  | 35 => ⟨S64x64, .i32⟩
  | 36 => ⟨S64x64, .i1⟩
  | 37 => ⟨S64x64, .i1⟩
  | 38 => ⟨S1x64, .i32⟩
  | 39 => ⟨S64x1, .i32⟩
  | 40 => ⟨S64x64, .i32⟩
  | 41 => ⟨S64x64, .i32⟩
  | 42 => ⟨S64x64, .i32⟩
  | 43 => ⟨S_, .i32⟩
  | 44 => ⟨S64x64, .i32⟩
  | 45 => ⟨S64x64, .i32⟩
  | 46 => ⟨S_, .i32⟩
  | 47 => ⟨S64x64, .i32⟩
  | 48 => ⟨S64x64, .i32⟩
  | 49 => ⟨S_, .i32⟩
  | 50 => ⟨S_, .i32⟩
  | 51 => ⟨S_, .i32⟩
  | 52 => ⟨S64x64, .i32⟩
  | 53 => ⟨S64x64, .i32⟩
  | 54 => ⟨S_, .i32⟩
  | 55 => ⟨S64x64, .i32⟩
  | 56 => ⟨S64x64, .i32⟩
  | 57 => ⟨S256, .i32⟩
  | 58 => ⟨S_, .i32⟩
  | 59 => ⟨S256, .i32⟩
  | 60 => ⟨S256, .i32⟩
  | 61 => ⟨S_, .i32⟩
  | 62 => ⟨S_, .i32⟩
  | 63 => ⟨S_, .i32⟩
  | 64 => ⟨S256, .i32⟩
  | 65 => ⟨S256, .i32⟩
  | 66 => ⟨S_, .i32⟩
  | 67 => ⟨S256, .i32⟩
  | 68 => ⟨S256, .i32⟩
  | 69 => ⟨S256x1, .i32⟩
  | 70 => ⟨S8, .i32⟩
  | 71 => ⟨S1x8, .i32⟩
  | 72 => ⟨S256x8, .i32⟩
  | 73 => ⟨S256x8, .i32⟩
  | 74 => ⟨S256x8, .i32⟩
  | 75 => ⟨S_, .i32⟩
  | 76 => ⟨S256x8, .i32⟩
  | 77 => ⟨S256x8, .i1⟩
  | 78 => ⟨S_, .i32⟩
  | 79 => ⟨S256x8, .i32⟩
  | 80 => ⟨S256x8, .i32⟩
  | 81 => ⟨S256x8, .i32⟩
  | 82 => ⟨S256x8x1, .i32⟩
  | 83 => ⟨S256x8x64x16x64, .f32⟩
  | 84 => ⟨S_, .i32⟩
  | 85 => ⟨S256x8, .i32⟩
  | 86 => ⟨S256x8, .i1⟩
  | 87 => ⟨S_, .i32⟩
  | 88 => ⟨S256x8, .i32⟩
  | 89 => ⟨S256x8, .i32⟩
  | 90 => ⟨S256x8, .i32⟩
  | 91 => ⟨S256x8x1, .i32⟩
  | 92 => ⟨S256x8x64x16x64, .f32⟩
  | 93 => ⟨S256x16x64x8x64, .f32⟩
  | 94 => ⟨S_, .f32⟩
  | 95 => ⟨S256x16x64x8x64, .f32⟩
  | 96 => ⟨S256x16x64x8x64, .f32⟩
  | 97 => ⟨S256x1, .i32⟩
  | 98 => ⟨S256x8, .i32⟩
  | 99 => ⟨S256x8, .i32⟩
  | 100 => ⟨S_, .i32⟩
  | 101 => ⟨S256x8, .i32⟩
  | 102 => ⟨S256x8, .i32⟩
  | 103 => ⟨S_, .i32⟩
  | 104 => ⟨S256x8, .i32⟩
  | 105 => ⟨S256x8, .i32⟩
  | 106 => ⟨S_, .i32⟩
  | 107 => ⟨S256x8, .i32⟩
  | 108 => ⟨S256x8, .i1⟩
  | 109 => ⟨S_, .i32⟩
  | 110 => ⟨S256x8, .i32⟩
  | 111 => ⟨S256x8, .i32⟩
  | 112 => ⟨S256x8, .i32⟩
  | 113 => ⟨S256x8x1, .i32⟩
  | 114 => ⟨S16x256x8x31, .f32⟩
  | 115 => ⟨S_, .i32⟩
  | 116 => ⟨S64x64, .i32⟩
  | 117 => ⟨S64x64, .i1⟩
  | 118 => ⟨S_, .i32⟩
  | 119 => ⟨S64x64, .i32⟩
  | 120 => ⟨S64x64, .i32⟩
  | 121 => ⟨S64x64, .i32⟩
  | 122 => ⟨S64x64x1, .i32⟩
  | 123 => ⟨S16x256x8x64x64, .f32⟩
  | 124 => ⟨S256x16x64x8x64, .f32⟩
  | 125 => ⟨S256x16x64x8x64, .f32⟩
  | 126 => ⟨S1x1x64x1x64, .i1⟩
  | 127 => ⟨S_, .f32⟩
  | _ => ⟨S16384x3072, .bf16⟩

abbrev hbmTy0_1 (i : Nat) : BufTy := match i % 128 with
  | 0 => ⟨S_, .f32⟩
  | 1 => ⟨S256x16x64x8x64, .i1⟩
  | 2 => ⟨S256x16x64x8x64, .f32⟩
  | 3 => ⟨S256x16x64x8x64, .f32⟩
  | 4 => ⟨S256x16x64x512, .f32⟩
  | 5 => ⟨S_, .f32⟩
  | 6 => ⟨S256x16x64, .f32⟩
  | 7 => ⟨S_, .f32⟩
  | 8 => ⟨S256x16x64, .f32⟩
  | 9 => ⟨S256x16x64, .f32⟩
  | 10 => ⟨S256x16x64x1, .f32⟩
  | 11 => ⟨S256x16x64x512, .f32⟩
  | 12 => ⟨S256x16x64x512, .f32⟩
  | 13 => ⟨S256x16x64x512, .f32⟩
  | 14 => ⟨S_, .f32⟩
  | 15 => ⟨S256x16x64, .f32⟩
  | 16 => ⟨S256x16x64x1, .f32⟩
  | 17 => ⟨S256x16x64x512, .f32⟩
  | 18 => ⟨S256x16x64x512, .f32⟩
  | 19 => ⟨S256x512x16x64, .f32⟩
  | 20 => ⟨S256x16x64x64, .f32⟩
  | 21 => ⟨S256x64x16x64, .f32⟩
  | 22 => ⟨S16384x1024, .f32⟩
  | 23 => ⟨S16384x1024, .f32⟩
  | 24 => ⟨S16384x1024, .f32⟩
  | 25 => ⟨S_, .f32⟩
  | 26 => ⟨S16384x1024, .f32⟩
  | 27 => ⟨S16384x1024, .f32⟩
  | 28 => ⟨S_, .f32⟩
  | 29 => ⟨S16384x1024, .f32⟩
  | 30 => ⟨S16384x1024, .f32⟩
  | 31 => ⟨S16384x1024, .f32⟩
  | 32 => ⟨S16384x1024, .f32⟩
  | 33 => ⟨S16384x1024, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_3 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_c_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_c_9 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_v46 : Ref sig .tc := ⟨.hbm, 76, rfl⟩
abbrev main_v47 : Ref sig .tc := ⟨.hbm, 77, rfl⟩
abbrev main_c_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_12 : Ref sig .tc := ⟨.hbm, 84, rfl⟩
abbrev main_v53 : Ref sig .tc := ⟨.hbm, 85, rfl⟩
abbrev main_v54 : Ref sig .tc := ⟨.hbm, 86, rfl⟩
abbrev main_c_13 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_c_15 : Ref sig .tc := ⟨.hbm, 103, rfl⟩
abbrev main_v68 : Ref sig .tc := ⟨.hbm, 104, rfl⟩
abbrev main_v69 : Ref sig .tc := ⟨.hbm, 105, rfl⟩
abbrev main_c_16 : Ref sig .tc := ⟨.hbm, 106, rfl⟩
abbrev main_v70 : Ref sig .tc := ⟨.hbm, 107, rfl⟩
abbrev main_v71 : Ref sig .tc := ⟨.hbm, 108, rfl⟩
abbrev main_c_17 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_18 : Ref sig .tc := ⟨.hbm, 115, rfl⟩
abbrev main_v77 : Ref sig .tc := ⟨.hbm, 116, rfl⟩
abbrev main_v78 : Ref sig .tc := ⟨.hbm, 117, rfl⟩
abbrev main_c_19 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_20 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v87 : Ref sig .tc := ⟨.hbm, 131, rfl⟩
abbrev main_v88 : Ref sig .tc := ⟨.hbm, 132, rfl⟩
abbrev main_cst_21 : Ref sig .tc := ⟨.hbm, 133, rfl⟩
abbrev main_v89 : Ref sig .tc := ⟨.hbm, 134, rfl⟩
abbrev main_cst_22 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_23 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_call4_v0 : Ref sig .tc := ⟨.hbm, 151, rfl⟩
abbrev main_call4_v1 : Ref sig .tc := ⟨.hbm, 152, rfl⟩
abbrev main_call4_cst : Ref sig .tc := ⟨.hbm, 153, rfl⟩
abbrev main_call4_v2 : Ref sig .tc := ⟨.hbm, 154, rfl⟩
abbrev main_call4_v3 : Ref sig .tc := ⟨.hbm, 155, rfl⟩
abbrev main_call4_cst_0 : Ref sig .tc := ⟨.hbm, 156, rfl⟩
abbrev main_call4_v4 : Ref sig .tc := ⟨.hbm, 157, rfl⟩
abbrev main_call4_v5 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩

abbrev nD : Nat := 1
abbrev τ : Topo := Topo.v7x

variable {F : FTy → Type} [FloatOps F]
-- ==== InProj.lean ====
abbrev S1x16384x2048 : Shape := ⟨3, ![1, 16384, 2048]⟩
abbrev S1x2048 : Shape := ⟨2, ![1, 2048]⟩
abbrev S1x2048x13312 : Shape := ⟨3, ![1, 2048, 13312]⟩
abbrev S2048x13312 : Shape := ⟨2, ![2048, 13312]⟩
abbrev S16384x2048 : Shape := ⟨2, ![16384, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩
abbrev S2048x10240 : Shape := ⟨2, ![2048, 10240]⟩
abbrev S16384x10240 : Shape := ⟨2, ![16384, 10240]⟩

abbrev nBuf : Space → Nat
  | .hbm => 13
  | .vmem => 17
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x13312, .f32⟩
  | .hbm, ⟨3, _⟩ => ⟨S2048x13312, .f32⟩
  | .hbm, ⟨4, _⟩ => ⟨S2048x13312, .bf16⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S16384x2048, .bf16⟩
  | .hbm, ⟨9, _⟩ => ⟨S2048x3072, .bf16⟩
  | .hbm, ⟨10, _⟩ => ⟨S16384x3072, .bf16⟩
  | .hbm, ⟨11, _⟩ => ⟨S2048x10240, .bf16⟩
  | .hbm, ⟨12, _⟩ => ⟨S16384x10240, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | .local _ .vmem, ⟨12, _⟩ => ⟨S1024x2048, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .f32⟩
  | .local _ .vmem, ⟨16, _⟩ => ⟨S1024x1024, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== InProjRefIdeal.lean ====
abbrev S1x16384x2048 : Shape := ⟨3, ![1, 16384, 2048]⟩
abbrev S1x2048 : Shape := ⟨2, ![1, 2048]⟩
abbrev S1x2048x13312 : Shape := ⟨3, ![1, 2048, 13312]⟩
abbrev S_ : Shape := ⟨0, ![]⟩
abbrev S1x16384 : Shape := ⟨2, ![1, 16384]⟩
abbrev S1x16384x1 : Shape := ⟨3, ![1, 16384, 1]⟩
abbrev S2048 : Shape := ⟨1, ![2048]⟩
abbrev S1x1x2048 : Shape := ⟨3, ![1, 1, 2048]⟩
abbrev S2048x13312 : Shape := ⟨2, ![2048, 13312]⟩
abbrev S1x16384x13312 : Shape := ⟨3, ![1, 16384, 13312]⟩
abbrev S1x16384x3072 : Shape := ⟨3, ![1, 16384, 3072]⟩
abbrev S16384x3072 : Shape := ⟨2, ![16384, 3072]⟩
abbrev S1x16384x10240 : Shape := ⟨3, ![1, 16384, 10240]⟩
abbrev S16384x10240 : Shape := ⟨2, ![16384, 10240]⟩

abbrev nBuf : Space → Nat
  | .hbm => 27
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x13312, .f32⟩
  | .hbm, ⟨3, _⟩ => ⟨S1x16384x2048, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x2048, .f32⟩
  | .hbm, ⟨15, _⟩ => ⟨S1x16384x2048, .f32⟩
  | .hbm, ⟨16, _⟩ => ⟨S2048, .f32⟩
  | .hbm, ⟨17, _⟩ => ⟨S1x1x2048, .f32⟩
  | .hbm, ⟨18, _⟩ => ⟨S1x16384x2048, .f32⟩
  | .hbm, ⟨19, _⟩ => ⟨S1x16384x2048, .f32⟩
  | .hbm, ⟨20, _⟩ => ⟨S2048x13312, .f32⟩
  | .hbm, ⟨21, _⟩ => ⟨S1x16384x13312, .f32⟩
  | .hbm, ⟨22, _⟩ => ⟨S1x16384x3072, .f32⟩
  | .hbm, ⟨23, _⟩ => ⟨S16384x3072, .f32⟩
  | .hbm, ⟨24, _⟩ => ⟨S16384x3072, .bf16⟩
  | .hbm, ⟨25, _⟩ => ⟨S1x16384x10240, .f32⟩
  | .hbm, ⟨26, _⟩ => ⟨S16384x10240, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Merge.lean ====
abbrev S1x16384x2048 : Shape := ⟨3, ![1, 16384, 2048]⟩
abbrev S16384x1024 : Shape := ⟨2, ![16384, 1024]⟩
abbrev S16384x10240 : Shape := ⟨2, ![16384, 10240]⟩
abbrev S1x4096 : Shape := ⟨2, ![1, 4096]⟩
abbrev S1x1024 : Shape := ⟨2, ![1, 1024]⟩
abbrev S1x2048x2048 : Shape := ⟨3, ![1, 2048, 2048]⟩
abbrev S1x2048 : Shape := ⟨2, ![1, 2048]⟩
abbrev S2048x2048 : Shape := ⟨2, ![2048, 2048]⟩
abbrev S16384x2048 : Shape := ⟨2, ![16384, 2048]⟩
abbrev S4096 : Shape := ⟨1, ![4096]⟩
abbrev S1024 : Shape := ⟨1, ![1024]⟩
abbrev S1024x2048 : Shape := ⟨2, ![1024, 2048]⟩
abbrev S2048 : Shape := ⟨1, ![2048]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩

abbrev nBuf : Space → Nat
  | .hbm => 27
  | .vmem => 23
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S16384x10240, .f32⟩
  | .hbm, ⟨5, _⟩ => ⟨S1x4096, .f32⟩
  | .hbm, ⟨6, _⟩ => ⟨S1x1024, .f32⟩
  | .hbm, ⟨7, _⟩ => ⟨S1x2048x2048, .f32⟩
  | .hbm, ⟨8, _⟩ => ⟨S1x2048x2048, .f32⟩
  | .hbm, ⟨9, _⟩ => ⟨S1x2048, .f32⟩
  | .hbm, ⟨10, _⟩ => ⟨S2048x2048, .f32⟩
  | .hbm, ⟨11, _⟩ => ⟨S2048x2048, .bf16⟩
  | .hbm, ⟨12, _⟩ => ⟨S16384x2048, .f32⟩
  | .hbm, ⟨13, _⟩ => ⟨S4096, .f32⟩
  | .hbm, ⟨14, _⟩ => ⟨S1024, .f32⟩
  | .hbm, ⟨15, _⟩ => ⟨S1024x2048, .bf16⟩
  | .hbm, ⟨16, _⟩ => ⟨S1024x2048, .bf16⟩
  | .hbm, ⟨17, _⟩ => ⟨S2048x2048, .f32⟩
  | .hbm, ⟨18, _⟩ => ⟨S2048x2048, .bf16⟩
  | .hbm, ⟨19, _⟩ => ⟨S2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S1x1024, .f32⟩
  | .hbm, ⟨25, _⟩ => ⟨S1x2048, .f32⟩
  | .hbm, ⟨26, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S1x2048, .f32⟩
  | .local _ .vmem, ⟨16, _⟩ => ⟨S1x1024, .f32⟩
  | .local _ .vmem, ⟨17, _⟩ => ⟨S1024x2048, .bf16⟩
  | .local _ .vmem, ⟨18, _⟩ => ⟨S1024x2048, .bf16⟩
  | .local _ .vmem, ⟨19, _⟩ => ⟨S2048x2048, .bf16⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S1x16384x2048 : Shape := ⟨3, ![1, 16384, 2048]⟩
abbrev S16384x1024 : Shape := ⟨2, ![16384, 1024]⟩
abbrev S16384x10240 : Shape := ⟨2, ![16384, 10240]⟩
abbrev S1x4096 : Shape := ⟨2, ![1, 4096]⟩
abbrev S1x1024 : Shape := ⟨2, ![1, 1024]⟩
abbrev S1x2048x2048 : Shape := ⟨3, ![1, 2048, 2048]⟩
abbrev S1x2048 : Shape := ⟨2, ![1, 2048]⟩
abbrev S16384x2048 : Shape := ⟨2, ![16384, 2048]⟩
abbrev S16384x4096 : Shape := ⟨2, ![16384, 4096]⟩
abbrev S16384x8x128 : Shape := ⟨3, ![16384, 8, 128]⟩
abbrev S1024 : Shape := ⟨1, ![1024]⟩
abbrev S8x128 : Shape := ⟨2, ![8, 128]⟩
abbrev S_ : Shape := ⟨0, ![]⟩
abbrev S16384x8 : Shape := ⟨2, ![16384, 8]⟩
abbrev S16384x8x1 : Shape := ⟨3, ![16384, 8, 1]⟩
abbrev S1x8x128 : Shape := ⟨3, ![1, 8, 128]⟩
abbrev S4096 : Shape := ⟨1, ![4096]⟩
abbrev S1x1024x2048 : Shape := ⟨3, ![1, 1024, 2048]⟩
abbrev S1024x2048 : Shape := ⟨2, ![1024, 2048]⟩
abbrev S2048x2048 : Shape := ⟨2, ![2048, 2048]⟩
abbrev S2048 : Shape := ⟨1, ![2048]⟩
abbrev S16384 : Shape := ⟨1, ![16384]⟩
abbrev S16384x1 : Shape := ⟨2, ![16384, 1]⟩

abbrev nBuf : Space → Nat
  | .hbm => 88
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S16384x10240, .f32⟩
  | .hbm, ⟨5, _⟩ => ⟨S1x4096, .f32⟩
  | .hbm, ⟨6, _⟩ => ⟨S1x1024, .f32⟩
  | .hbm, ⟨7, _⟩ => ⟨S1x2048x2048, .f32⟩
  | .hbm, ⟨8, _⟩ => ⟨S1x2048x2048, .f32⟩
  | .hbm, ⟨9, _⟩ => ⟨S1x2048, .f32⟩
  | .hbm, ⟨10, _⟩ => ⟨S16384x2048, .f32⟩
  | .hbm, ⟨11, _⟩ => ⟨S16384x1024, .f32⟩
  | .hbm, ⟨12, _⟩ => ⟨S16384x4096, .f32⟩
  | .hbm, ⟨13, _⟩ => ⟨S16384x1024, .f32⟩
  | .hbm, ⟨14, _⟩ => ⟨S16384x1024, .f32⟩
  | .hbm, ⟨15, _⟩ => ⟨S16384x8x128, .f32⟩
  | .hbm, ⟨16, _⟩ => ⟨S1024, .f32⟩
  | .hbm, ⟨17, _⟩ => ⟨S8x128, .f32⟩
  | .hbm, ⟨18, _⟩ => ⟨S16384x8x128, .f32⟩
  | .hbm, ⟨19, _⟩ => ⟨S_, .f32⟩
  | .hbm, ⟨20, _⟩ => ⟨S16384x8, .f32⟩
  | .hbm, ⟨21, _⟩ => ⟨S16384x8x1, .f32⟩
  | .hbm, ⟨22, _⟩ => ⟨S_, .f32⟩
  | .hbm, ⟨23, _⟩ => ⟨S16384x8x1, .f32⟩
  | .hbm, ⟨24, _⟩ => ⟨S16384x8x1, .f32⟩
  | .hbm, ⟨25, _⟩ => ⟨S_, .f32⟩
  | .hbm, ⟨26, _⟩ => ⟨S16384x8x1, .f32⟩
  | .hbm, ⟨27, _⟩ => ⟨S16384x8x1, .f32⟩
  | .hbm, ⟨28, _⟩ => ⟨S16384x8x1, .f32⟩
  | .hbm, ⟨29, _⟩ => ⟨S16384x8x128, .f32⟩
  | .hbm, ⟨30, _⟩ => ⟨S16384x8x128, .f32⟩
  | .hbm, ⟨31, _⟩ => ⟨S1x8x128, .f32⟩
  | .hbm, ⟨32, _⟩ => ⟨S16384x8x128, .f32⟩
  | .hbm, ⟨33, _⟩ => ⟨S16384x8x128, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S4096, .f32⟩
  | .hbm, ⟨46, _⟩ => ⟨S1x4096, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S_, .f32⟩
  | .hbm, ⟨52, _⟩ => ⟨S16384x4096, .f32⟩
  | .hbm, ⟨53, _⟩ => ⟨S16384x4096, .f32⟩
  | .hbm, ⟨54, _⟩ => ⟨S_, .f32⟩
  | .hbm, ⟨55, _⟩ => ⟨S16384x4096, .f32⟩
  | .hbm, ⟨56, _⟩ => ⟨S16384x4096, .f32⟩
  | .hbm, ⟨57, _⟩ => ⟨S16384x2048, .f32⟩
  | .hbm, ⟨58, _⟩ => ⟨S16384x2048, .f32⟩
  | .hbm, ⟨59, _⟩ => ⟨S1x1024x2048, .f32⟩
  | .hbm, ⟨60, _⟩ => ⟨S1024x2048, .f32⟩
  | .hbm, ⟨61, _⟩ => ⟨S16384x2048, .f32⟩
  | .hbm, ⟨62, _⟩ => ⟨S16384x2048, .f32⟩
  | .hbm, ⟨63, _⟩ => ⟨S1x1024x2048, .f32⟩
  | .hbm, ⟨64, _⟩ => ⟨S1024x2048, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S2048x2048, .f32⟩
  | .hbm, ⟨69, _⟩ => ⟨S16384x2048, .f32⟩
  | .hbm, ⟨70, _⟩ => ⟨S2048, .f32⟩
  | .hbm, ⟨71, _⟩ => ⟨S16384x2048, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x1, .f32⟩
  | .hbm, ⟨82, _⟩ => ⟨S16384x2048, .f32⟩
  | .hbm, ⟨83, _⟩ => ⟨S16384x2048, .f32⟩
  | .hbm, ⟨84, _⟩ => ⟨S1x2048, .f32⟩
  | .hbm, ⟨85, _⟩ => ⟨S16384x2048, .f32⟩
  | .hbm, ⟨86, _⟩ => ⟨S16384x2048, .f32⟩
  | .hbm, ⟨87, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_cst_5 : Ref sig .tc := ⟨.hbm, 75, rfl⟩
abbrev main_v51 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]
-- ==== Proof.Rms.lean ====
module

public import Idealize.ShloMosaic.PureOps.Ideal.Laws

@[expose] public section

noncomputable section

namespace Cert.Rms

open Idealize.ShloMosaic

/-- The reciprocal root mean square of a row: `w` is the float32 word of its length, and the small constant is the norm's. -/
def scale {n : Nat} (w : BitVec 32) (row : Fin n → EReal) : EReal :=
  Ideal.rsqrt (Ideal.div (∑ k, row k * row k) (Ideal.ofBits .f32 w) + Ideal.ofBits .f32 0x358637BD#32)

/-- The rows after the norm: each entry times its row's scale, times the weight of its column. -/
def normed (x : Fin 16384 → Fin 2048 → EReal) (w : Fin 2048 → EReal) (r : Fin 16384) (k : Fin 2048) : EReal :=
  x r k * scale 0x45000000#32 (x r) * w k

/-- The projection of the rows after the norm by a matrix `u`. -/
def proj (x : Fin 16384 → Fin 2048 → EReal) (w : Fin 2048 → EReal) (u : Fin 2048 → Fin 13312 → EReal)
    (r : Fin 16384) (f : Fin 13312) : EReal :=
  ∑ k, normed x w r k * u k f

end Cert.Rms

end
-- ==== Proof.ProjBlock.lean ====
module

public import proofs.«01_k».proof.Proof.Gen.LayerIdeal.Frame
public import proofs.«01_k».proof.Proof.Rms
public import Idealize.ShloMosaic.Lib.Pointwise
public import Idealize.ShloMosaic.Lib.Pipeline.Value
public import Idealize.ShloMosaic.PureOps.Ideal.Laws

@[expose] public section

noncomputable section

namespace Cert.LayerIdeal.Proj

open Cert.LayerIdeal Cert.LayerIdeal.Gen Idealize.ShloMosaic Idealize.ShloMosaic.Pointwise

/-- What the norm's call computes from a block of rows, at an index. -/
theorem norm_apply (x : Vec Ideal S512x2048 .f32) (w : Vec Ideal S1x2048 .f32) (i : Fin 512) (j : Fin 2048) :
    out0_2 x w (ix2 i j) = x (ix2 i j) * Rms.scale 0x45000000#32 (fun k : Fin 2048 => x (ix2 i k)) * w (ix2 0 j) := by
  have hz : (![0, 0] : Fin 2 → Nat) = fun _ => 0 := by decide
  unfold out0_2
  rw [View.canon_unit_zero hz, View.ld_unit_zero hz, View.ld_unit_zero hz]
  pointwise [k0_pay1]
  rfl

/-- What the first projection's call computes from a block of rows and a block of columns, at an index. -/
theorem qkv_apply (a : Vec Ideal S1024x2048 .bf16) (b : Vec Ideal S2048x1024 .bf16) (i j : Fin 1024) :
    out1_2 a b (ix2 i j) = ∑ k : Fin 2048, a (ix2 i k) * b (ix2 k j) := by
  have hz : (![0, 0] : Fin 2 → Nat) = fun _ => 0 := by decide
  unfold out1_2
  rw [View.canon_unit_zero hz, View.ld_unit_zero hz, View.ld_unit_zero hz]
  pointwise [k1_pay1]

/-- The same of the second projection's call. -/
theorem rest_apply (a : Vec Ideal S1024x2048 .bf16) (b : Vec Ideal S2048x1024 .bf16) (i j : Fin 1024) :
    out2_2 a b (ix2 i j) = ∑ k : Fin 2048, a (ix2 i k) * b (ix2 k j) := by
  have hz : (![0, 0] : Fin 2 → Nat) = fun _ => 0 := by decide
  unfold out2_2
  rw [View.canon_unit_zero hz, View.ld_unit_zero hz, View.ld_unit_zero hz]
  pointwise [k2_pay1]

end Cert.LayerIdeal.Proj

end
-- ==== Proof.ProjNorm.lean ====
module

public import proofs.«01_k».proof.Proof.ProjBlock

@[expose] public section

noncomputable section

namespace Cert.LayerIdeal.Proj

open Cert.LayerIdeal Cert.LayerIdeal.Gen Idealize.ShloMosaic Idealize.ShloMosaic.TcCoe Idealize.SL.Sem
open Idealize.ShloMosaic.Pointwise
open Idealize.ShloMosaic.Pipeline (Dat Window)

variable (V : (c : Dev nD) → (b : Ref sig .tc) → Buf (Elt Ideal) ((c : Thread nD τ).loc b))

/-- The rows' window moves with the point. -/
theorem idx0_0 : ∀ t : Fin cfg0.N, win0_0.index t ⟨0, by decide⟩ = t.val ∧ win0_0.index t ⟨1, by decide⟩ = 0 :=
  (by decide +kernel : ∀ t : Fin grid0.N, win0_0.index t ⟨0, by decide⟩ = t.val ∧ win0_0.index t ⟨1, by decide⟩ = 0)
/-- The weights' window stands still. -/
theorem idx0_1 : ∀ t : Fin cfg0.N, win0_1.index t ⟨0, by decide⟩ = 0 ∧ win0_1.index t ⟨1, by decide⟩ = 0 :=
  (by decide +kernel : ∀ t : Fin grid0.N, win0_1.index t ⟨0, by decide⟩ = 0 ∧ win0_1.index t ⟨1, by decide⟩ = 0)
/-- The output's window moves with the point. -/
theorem idx0_2 : ∀ t : Fin cfg0.N, win0_2.index t ⟨0, by decide⟩ = t.val ∧ win0_2.index t ⟨1, by decide⟩ = 0 :=
  (by decide +kernel : ∀ t : Fin grid0.N, win0_2.index t ⟨0, by decide⟩ = t.val ∧ win0_2.index t ⟨1, by decide⟩ = 0)

/-- The norm's call has 32 points. -/
theorem pt0_lt (t : Fin cfg0.N) : t.val < 32 := t.isLt.trans_eq N_0

/-- The rows' block at an index. -/
theorem blk0_x (c : Dev nD) (t : Fin cfg0.N) (q : Fin 512) (f : Fin 2048) :
    iblk0 V c 0 t (ix2 q f) = V c main_v0 (ix2 ⟨t.val * 512 + q.val, by have := pt0_lt t; omega⟩ f) := by
  show V c main_v0 ((win0_0.rect t).emb (ix2 q f)) = _
  refine congrArg _ (funext fun a => Fin.ext ?_)
  rw [win0_0.rect_emb_val_off]
  match a with
  | ⟨0, _⟩ => exact congrArg (· * 512 + q.val) (idx0_0 t).1
  | ⟨1, _⟩ => exact (congrArg (· * 2048 + f.val) (idx0_0 t).2).trans (by show 0 * 2048 + f.val = f.val; omega)

/-- The weights' block at an index. -/
theorem blk0_w (c : Dev nD) (t : Fin cfg0.N) (f : Fin 2048) :
    iblk0 V c 1 t (ix2 0 f) = V c main_v4 (ix2 0 f) := by
  show V c main_v4 ((win0_1.rect t).emb (ix2 0 f)) = _
  refine congrArg _ (funext fun a => Fin.ext ?_)
  rw [win0_1.rect_emb_val_off]
  match a with
  | ⟨0, _⟩ => exact congrArg (· * 1 + 0) (idx0_1 t).1
  | ⟨1, _⟩ => exact (congrArg (· * 2048 + f.val) (idx0_1 t).2).trans (by show 0 * 2048 + f.val = f.val; omega)

/-- What the norm's call leaves in its array. -/
def rows (c : Dev nD) : Buf (Elt Ideal) ((c : Thread nD τ).loc main_v5) := fun i =>
  Rms.normed (fun r k => V c main_v0 (ix2 r k)) (fun k => V c main_v4 (ix2 0 k)) (i 0) (i 1)

/-- What a point of the norm's call writes back is its block of that array. -/
theorem flushed0 (c : Dev nD) (t : Fin cfg0.N) :
    (dat0 V c).flushed 2 t = (win0_2.blk t).view.read (Elt Ideal) (rows V c) := by
  show (cfg0.win 2).cut (grid0.coords t) ((dat0 V c).after 2 t) = _
  rw [after0_2]
  funext y
  obtain ⟨q, f, rfl⟩ : ∃ (q : Fin 512) (f : Fin 2048), y = ix2 q f := ⟨y 0, y 1, by funext a; match a with | ⟨0, _⟩ => rfl | ⟨1, _⟩ => rfl⟩
  show out0_2 (iblk0 V c 0 t) (iblk0 V c 1 t) (ix2 q f) = rows V c ((win0_2.rect t).emb (ix2 q f))
  rw [norm_apply]
  simp only [blk0_x, blk0_w]
  have e0 : (win0_2.rect t).emb (ix2 q f) 0 = (⟨t.val * 512 + q.val, by have := pt0_lt t; omega⟩ : Fin 16384) :=
    by
    refine Fin.ext ((win0_2.rect_emb_val_off t (ix2 q f) ⟨0, by decide⟩).trans ?_)
    exact (congrArg (· * 512 + q.val) (idx0_2 t).1)
  have e1 : (win0_2.rect t).emb (ix2 q f) 1 = f :=
    by
    refine Fin.ext ((win0_2.rect_emb_val_off t (ix2 q f) ⟨1, by decide⟩).trans ?_)
    exact ((congrArg (· * 2048 + f.val) (idx0_2 t).2).trans (by show 0 * 2048 + f.val = f.val; omega))
  unfold rows
  rw [e0, e1]
  rfl

/-- An index of the array is in the block of a point when its row and column are. -/
theorem mem_blk0 (t : Fin cfg0.N) (i : S16384x2048.Idx) (hr : (i 0).val / 512 = t.val) (hc : (i 1).val / 2048 = 0) :
    i ∈ ((cfg0.win 2).blk t).view.set := by
  show i ∈ ((View.whole main_v5).slice (win0_2.rect t)).set
  rw [View.set_slice_whole, Rect.mem_set_unit]
  intro a
  match a with
  | ⟨0, _⟩ =>
    show win0_2.index t ⟨0, by decide⟩ * 512 ≤ (i 0).val ∧ (i 0).val < win0_2.index t ⟨0, by decide⟩ * 512 + 512
    rw [(idx0_2 t).1]; omega
  | ⟨1, _⟩ =>
    show win0_2.index t ⟨1, by decide⟩ * 2048 ≤ (i 1).val ∧ (i 1).val < win0_2.index t ⟨1, by decide⟩ * 2048 + 2048
    rw [(idx0_2 t).2]; omega

/-- The blocks of the norm's call cover its array. -/
theorem cover0 (i : S16384x2048.Idx) : ∃ t : Fin cfg0.N, (cfg0.win 2).flush t = true ∧ i ∈ ((cfg0.win 2).blk t).view.set := by
  have h0 : (i 0).val < 16384 := (i 0).isLt
  have h1 : (i 1).val < 2048 := (i 1).isLt
  have hN : cfg0.N = 32 := N_0
  exact ⟨⟨(i 0).val / 512, by omega⟩, flush0_2 _, mem_blk0 _ i rfl (by omega)⟩

/-- So the norm's call leaves the rows after the norm. -/
theorem final0 (c : Dev nD) : (dat0 V c).arrAt 2 cfg0.N = rows V c :=
  (dat0 V c).arrAt_eq_of_cover 2 (rows V c) (fun t _ => flushed0 V c t) cover0

end Cert.LayerIdeal.Proj

end
-- ==== Proof.ProjQkv.lean ====
module

public import proofs.«01_k».proof.Proof.ProjBlock

@[expose] public section

noncomputable section

namespace Cert.LayerIdeal.Proj

open Cert.LayerIdeal Cert.LayerIdeal.Gen Idealize.ShloMosaic Idealize.ShloMosaic.TcCoe Idealize.SL.Sem
open Idealize.ShloMosaic.Pointwise
open Idealize.ShloMosaic.Pipeline (Dat Window)

variable (V : (c : Dev nD) → (b : Ref sig .tc) → Buf (Elt Ideal) ((c : Thread nD τ).loc b))

/-- The rows' window of the first projection's call moves with the outer coordinate of the point. -/
theorem idx1_0 : ∀ t : Fin cfg1.N, win1_0.index t ⟨0, by decide⟩ = t.val / 3 ∧ win1_0.index t ⟨1, by decide⟩ = 0 :=
  (by decide +kernel : ∀ t : Fin grid1.N, win1_0.index t ⟨0, by decide⟩ = t.val / 3 ∧ win1_0.index t ⟨1, by decide⟩ = 0)
/-- The columns' window moves with the inner one. -/
theorem idx1_1 : ∀ t : Fin cfg1.N, win1_1.index t ⟨0, by decide⟩ = 0 ∧ win1_1.index t ⟨1, by decide⟩ = t.val % 3 :=
  (by decide +kernel : ∀ t : Fin grid1.N, win1_1.index t ⟨0, by decide⟩ = 0 ∧ win1_1.index t ⟨1, by decide⟩ = t.val % 3)
/-- The output's window moves with both. -/
theorem idx1_2 : ∀ t : Fin cfg1.N, win1_2.index t ⟨0, by decide⟩ = t.val / 3 ∧ win1_2.index t ⟨1, by decide⟩ = t.val % 3 :=
  (by decide +kernel : ∀ t : Fin grid1.N, win1_2.index t ⟨0, by decide⟩ = t.val / 3 ∧ win1_2.index t ⟨1, by decide⟩ = t.val % 3)

/-- The number of points of the first projection's call. -/
theorem pt1_lt (t : Fin cfg1.N) : t.val < 48 := t.isLt.trans_eq N_1

/-- The rows' block at an index. -/
theorem blk1_a (c : Dev nD) (t : Fin cfg1.N) (q : Fin 1024) (k : Fin 2048) :
    iblk1 V c 0 t (ix2 q k) = V c main_v5 (ix2 ⟨t.val / 3 * 1024 + q.val, by have := pt1_lt t; omega⟩ k) := by
  show V c main_v5 ((win1_0.rect t).emb (ix2 q k)) = _
  refine congrArg _ (funext fun a => Fin.ext ?_)
  rw [win1_0.rect_emb_val_off]
  match a with
  | ⟨0, _⟩ => exact congrArg (· * 1024 + q.val) (idx1_0 t).1
  | ⟨1, _⟩ => exact (congrArg (· * 2048 + k.val) (idx1_0 t).2).trans (by show 0 * 2048 + k.val = k.val; omega)

/-- The columns' block at an index. -/
theorem blk1_b (c : Dev nD) (t : Fin cfg1.N) (k : Fin 2048) (f : Fin 1024) :
    iblk1 V c 1 t (ix2 k f) = V c main_v6 (ix2 k ⟨t.val % 3 * 1024 + f.val, by omega⟩) := by
  show V c main_v6 ((win1_1.rect t).emb (ix2 k f)) = _
  refine congrArg _ (funext fun a => Fin.ext ?_)
  rw [win1_1.rect_emb_val_off]
  match a with
  | ⟨0, _⟩ => exact (congrArg (· * 2048 + k.val) (idx1_1 t).1).trans (by show 0 * 2048 + k.val = k.val; omega)
  | ⟨1, _⟩ => exact congrArg (· * 1024 + f.val) (idx1_1 t).2

/-- An entry of a product of matrices of the call's sizes. -/
def entry1 (a : FVec Ideal S16384x2048 .bf16) (b : FVec Ideal S2048x3072 .bf16) (r : Fin 16384) (f : Fin 3072) : EReal :=
  ∑ k : Fin 2048, a (ix2 r k) * b (ix2 k f)

/-- What the first projection's call leaves in its array: the product of its two matrices. -/
def product1 (c : Dev nD) : Buf (Elt Ideal) ((c : Thread nD τ).loc main_v7) := fun i =>
  entry1 (V c main_v5) (V c main_v6) (i 0) (i 1)

/-- What a point writes back is its block of that product. -/
theorem flushed1 (c : Dev nD) (t : Fin cfg1.N) :
    (dat1 V c).flushed 2 t = (win1_2.blk t).view.read (Elt Ideal) (product1 V c) := by
  show (cfg1.win 2).cut (grid1.coords t) ((dat1 V c).after 2 t) = _
  rw [after1_2]
  funext y
  obtain ⟨q, f, rfl⟩ : ∃ (q : Fin 1024) (f : Fin 1024), y = ix2 q f := ⟨y 0, y 1, by funext a; match a with | ⟨0, _⟩ => rfl | ⟨1, _⟩ => rfl⟩
  show out1_2 (iblk1 V c 0 t) (iblk1 V c 1 t) (ix2 q f) = product1 V c ((win1_2.rect t).emb (ix2 q f))
  rw [qkv_apply]
  simp only [blk1_a, blk1_b]
  have e0 : (win1_2.rect t).emb (ix2 q f) 0 = (⟨t.val / 3 * 1024 + q.val, by have := pt1_lt t; omega⟩ : Fin 16384) :=
    by
    refine Fin.ext ((win1_2.rect_emb_val_off t (ix2 q f) ⟨0, by decide⟩).trans ?_)
    exact (congrArg (· * 1024 + q.val) (idx1_2 t).1)
  have e1 : (win1_2.rect t).emb (ix2 q f) 1 = (⟨t.val % 3 * 1024 + f.val, by omega⟩ : Fin 3072) :=
    by
    refine Fin.ext ((win1_2.rect_emb_val_off t (ix2 q f) ⟨1, by decide⟩).trans ?_)
    exact (congrArg (· * 1024 + f.val) (idx1_2 t).2)
  unfold product1
  rw [e0, e1]
  rfl

/-- An index of the array is in the block of a point when its row and column are. -/
theorem mem_blk1 (t : Fin cfg1.N) (i : S16384x3072.Idx) (hr : (i 0).val / 1024 = t.val / 3) (hc : (i 1).val / 1024 = t.val % 3) :
    i ∈ ((cfg1.win 2).blk t).view.set := by
  show i ∈ ((View.whole main_v7).slice (win1_2.rect t)).set
  rw [View.set_slice_whole, Rect.mem_set_unit]
  intro a
  match a with
  | ⟨0, _⟩ =>
    show win1_2.index t ⟨0, by decide⟩ * 1024 ≤ (i 0).val ∧ (i 0).val < win1_2.index t ⟨0, by decide⟩ * 1024 + 1024
    rw [(idx1_2 t).1]; omega
  | ⟨1, _⟩ =>
    show win1_2.index t ⟨1, by decide⟩ * 1024 ≤ (i 1).val ∧ (i 1).val < win1_2.index t ⟨1, by decide⟩ * 1024 + 1024
    rw [(idx1_2 t).2]; omega

/-- The blocks cover the array. -/
theorem cover1 (i : S16384x3072.Idx) : ∃ t : Fin cfg1.N, (cfg1.win 2).flush t = true ∧ i ∈ ((cfg1.win 2).blk t).view.set := by
  have h0 : (i 0).val < 16384 := (i 0).isLt
  have h1 : (i 1).val < 3072 := (i 1).isLt
  have hN : cfg1.N = 48 := N_1
  have hd : ((i 0).val / 1024 * 3 + (i 1).val / 1024) / 3 = (i 0).val / 1024 := by omega
  have hm : ((i 0).val / 1024 * 3 + (i 1).val / 1024) % 3 = (i 1).val / 1024 := by omega
  exact ⟨⟨(i 0).val / 1024 * 3 + (i 1).val / 1024, by omega⟩, flush1_2 _, mem_blk1 _ i hd.symm hm.symm⟩

/-- So the call leaves the product. -/
theorem final1 (c : Dev nD) : (dat1 V c).arrAt 2 cfg1.N = product1 V c :=
  (dat1 V c).arrAt_eq_of_cover 2 (product1 V c) (fun t _ => flushed1 V c t) cover1

end Cert.LayerIdeal.Proj

end
-- ==== Proof.ProjRest.lean ====
module

public import proofs.«01_k».proof.Proof.ProjBlock

@[expose] public section

noncomputable section

namespace Cert.LayerIdeal.Proj

open Cert.LayerIdeal Cert.LayerIdeal.Gen Idealize.ShloMosaic Idealize.ShloMosaic.TcCoe Idealize.SL.Sem
open Idealize.ShloMosaic.Pointwise
open Idealize.ShloMosaic.Pipeline (Dat Window)

variable (V : (c : Dev nD) → (b : Ref sig .tc) → Buf (Elt Ideal) ((c : Thread nD τ).loc b))

/-- The rows' window of the second projection's call moves with the outer coordinate of the point. -/
theorem idx2_0 : ∀ t : Fin cfg2.N, win2_0.index t ⟨0, by decide⟩ = t.val / 10 ∧ win2_0.index t ⟨1, by decide⟩ = 0 :=
  (by decide +kernel : ∀ t : Fin grid2.N, win2_0.index t ⟨0, by decide⟩ = t.val / 10 ∧ win2_0.index t ⟨1, by decide⟩ = 0)
/-- The columns' window moves with the inner one. -/
theorem idx2_1 : ∀ t : Fin cfg2.N, win2_1.index t ⟨0, by decide⟩ = 0 ∧ win2_1.index t ⟨1, by decide⟩ = t.val % 10 :=
  (by decide +kernel : ∀ t : Fin grid2.N, win2_1.index t ⟨0, by decide⟩ = 0 ∧ win2_1.index t ⟨1, by decide⟩ = t.val % 10)
/-- The output's window moves with both. -/
theorem idx2_2 : ∀ t : Fin cfg2.N, win2_2.index t ⟨0, by decide⟩ = t.val / 10 ∧ win2_2.index t ⟨1, by decide⟩ = t.val % 10 :=
  (by decide +kernel : ∀ t : Fin grid2.N, win2_2.index t ⟨0, by decide⟩ = t.val / 10 ∧ win2_2.index t ⟨1, by decide⟩ = t.val % 10)

/-- The number of points of the second projection's call. -/
theorem pt2_lt (t : Fin cfg2.N) : t.val < 160 := t.isLt.trans_eq N_2

/-- The rows' block at an index. -/
theorem blk2_a (c : Dev nD) (t : Fin cfg2.N) (q : Fin 1024) (k : Fin 2048) :
    iblk2 V c 0 t (ix2 q k) = V c main_v5 (ix2 ⟨t.val / 10 * 1024 + q.val, by have := pt2_lt t; omega⟩ k) := by
  show V c main_v5 ((win2_0.rect t).emb (ix2 q k)) = _
  refine congrArg _ (funext fun a => Fin.ext ?_)
  rw [win2_0.rect_emb_val_off]
  match a with
  | ⟨0, _⟩ => exact congrArg (· * 1024 + q.val) (idx2_0 t).1
  | ⟨1, _⟩ => exact (congrArg (· * 2048 + k.val) (idx2_0 t).2).trans (by show 0 * 2048 + k.val = k.val; omega)

/-- The columns' block at an index. -/
theorem blk2_b (c : Dev nD) (t : Fin cfg2.N) (k : Fin 2048) (f : Fin 1024) :
    iblk2 V c 1 t (ix2 k f) = V c main_v8 (ix2 k ⟨t.val % 10 * 1024 + f.val, by omega⟩) := by
  show V c main_v8 ((win2_1.rect t).emb (ix2 k f)) = _
  refine congrArg _ (funext fun a => Fin.ext ?_)
  rw [win2_1.rect_emb_val_off]
  match a with
  | ⟨0, _⟩ => exact (congrArg (· * 2048 + k.val) (idx2_1 t).1).trans (by show 0 * 2048 + k.val = k.val; omega)
  | ⟨1, _⟩ => exact congrArg (· * 1024 + f.val) (idx2_1 t).2

/-- An entry of a product of matrices of the call's sizes. -/
def entry2 (a : FVec Ideal S16384x2048 .bf16) (b : FVec Ideal S2048x10240 .bf16) (r : Fin 16384) (f : Fin 10240) : EReal :=
  ∑ k : Fin 2048, a (ix2 r k) * b (ix2 k f)

/-- What the second projection's call leaves in its array: the product of its two matrices. -/
def product2 (c : Dev nD) : Buf (Elt Ideal) ((c : Thread nD τ).loc main_v9) := fun i =>
  entry2 (V c main_v5) (V c main_v8) (i 0) (i 1)

/-- What a point writes back is its block of that product. -/
theorem flushed2 (c : Dev nD) (t : Fin cfg2.N) :
    (dat2 V c).flushed 2 t = (win2_2.blk t).view.read (Elt Ideal) (product2 V c) := by
  show (cfg2.win 2).cut (grid2.coords t) ((dat2 V c).after 2 t) = _
  rw [after2_2]
  funext y
  obtain ⟨q, f, rfl⟩ : ∃ (q : Fin 1024) (f : Fin 1024), y = ix2 q f := ⟨y 0, y 1, by funext a; match a with | ⟨0, _⟩ => rfl | ⟨1, _⟩ => rfl⟩
  show out2_2 (iblk2 V c 0 t) (iblk2 V c 1 t) (ix2 q f) = product2 V c ((win2_2.rect t).emb (ix2 q f))
  rw [rest_apply]
  simp only [blk2_a, blk2_b]
  have e0 : (win2_2.rect t).emb (ix2 q f) 0 = (⟨t.val / 10 * 1024 + q.val, by have := pt2_lt t; omega⟩ : Fin 16384) :=
    by
    refine Fin.ext ((win2_2.rect_emb_val_off t (ix2 q f) ⟨0, by decide⟩).trans ?_)
    exact (congrArg (· * 1024 + q.val) (idx2_2 t).1)
  have e1 : (win2_2.rect t).emb (ix2 q f) 1 = (⟨t.val % 10 * 1024 + f.val, by omega⟩ : Fin 10240) :=
    by
    refine Fin.ext ((win2_2.rect_emb_val_off t (ix2 q f) ⟨1, by decide⟩).trans ?_)
    exact (congrArg (· * 1024 + f.val) (idx2_2 t).2)
  unfold product2
  rw [e0, e1]
  rfl

/-- An index of the array is in the block of a point when its row and column are. -/
theorem mem_blk2 (t : Fin cfg2.N) (i : S16384x10240.Idx) (hr : (i 0).val / 1024 = t.val / 10) (hc : (i 1).val / 1024 = t.val % 10) :
    i ∈ ((cfg2.win 2).blk t).view.set := by
  show i ∈ ((View.whole main_v9).slice (win2_2.rect t)).set
  rw [View.set_slice_whole, Rect.mem_set_unit]
  intro a
  match a with
  | ⟨0, _⟩ =>
    show win2_2.index t ⟨0, by decide⟩ * 1024 ≤ (i 0).val ∧ (i 0).val < win2_2.index t ⟨0, by decide⟩ * 1024 + 1024
    rw [(idx2_2 t).1]; omega
  | ⟨1, _⟩ =>
    show win2_2.index t ⟨1, by decide⟩ * 1024 ≤ (i 1).val ∧ (i 1).val < win2_2.index t ⟨1, by decide⟩ * 1024 + 1024
    rw [(idx2_2 t).2]; omega

/-- The blocks cover the array. -/
theorem cover2 (i : S16384x10240.Idx) : ∃ t : Fin cfg2.N, (cfg2.win 2).flush t = true ∧ i ∈ ((cfg2.win 2).blk t).view.set := by
  have h0 : (i 0).val < 16384 := (i 0).isLt
  have h1 : (i 1).val < 10240 := (i 1).isLt
  have hN : cfg2.N = 160 := N_2
  have hd : ((i 0).val / 1024 * 10 + (i 1).val / 1024) / 10 = (i 0).val / 1024 := by omega
  have hm : ((i 0).val / 1024 * 10 + (i 1).val / 1024) % 10 = (i 1).val / 1024 := by omega
  exact ⟨⟨(i 0).val / 1024 * 10 + (i 1).val / 1024, by omega⟩, flush2_2 _, mem_blk2 _ i hd.symm hm.symm⟩

/-- So the call leaves the product. -/
theorem final2 (c : Dev nD) : (dat2 V c).arrAt 2 cfg2.N = product2 V c :=
  (dat2 V c).arrAt_eq_of_cover 2 (product2 V c) (fun t _ => flushed2 V c t) cover2

end Cert.LayerIdeal.Proj

end
-- ==== Proof.ProjHost.lean ====
module

public import proofs.«01_k».proof.Proof.ProjNorm
public import proofs.«01_k».proof.Proof.ProjQkv
public import proofs.«01_k».proof.Proof.ProjRest

@[expose] public section

noncomputable section

namespace Cert.LayerIdeal.Proj

open Cert.LayerIdeal Cert.LayerIdeal.Gen Idealize.ShloMosaic Idealize.ShloMosaic.TcCoe Idealize.SL.Sem
open Idealize.ShloMosaic.Pointwise

variable (m : (ℓ : Loc nD τ sig) → Buf (Elt Ideal) ℓ) (ρ : Dev nD → PrngReg)

/-- The rows the norm's call finds, at an index: the argument's. -/
theorem entry_x (c : Dev nD) (r : Fin 16384) (k : Fin 2048) :
    V1 m ρ c main_v0 (ix2 r k) = m ((c : Thread nD τ).loc main_arg0) (ix3 0 r k) := by
  have e : V1 m ρ c main_v0 = shapeCast S16384x2048 (m ((c : Thread nD τ).loc main_arg0)) shapeCasts_S1x16384x2048_S16384x2048 := by
    show StableHlo.after hostOps0 (W0 m ρ c) main_v0 = _
    after_results_simp
    rfl
  rw [e]
  generalize m ((c : Thread nD τ).loc main_arg0) = y
  exact shapeCast_apply (s := S1x16384x2048) y _ (ix2 r k) (ix3 0 r k)
    (by rewrite [Shape.rowMajor_val_three, Shape.rowMajor_val_two]; show (0 * 16384 + r.val) * 2048 + k.val = r.val * 2048 + k.val; omega)

/-- The weights it finds, at an index. -/
theorem entry_w (c : Dev nD) (k : Fin 2048) :
    V1 m ρ c main_v4 (ix2 0 k) = m ((c : Thread nD τ).loc main_arg1) (ix2 0 k) := by
  have e : V1 m ρ c main_v4 = shapeCast S1x2048 (shapeCast S2048 (m ((c : Thread nD τ).loc main_arg1)) shapeCasts_S1x2048_S2048) shapeCasts_S2048_S1x2048 := by
    show StableHlo.after hostOps0 (W0 m ρ c) main_v4 = _
    after_results_simp
    rfl
  rw [e]
  generalize m ((c : Thread nD τ).loc main_arg1) = y
  pointwise []

/-- The projection matrix the host makes, at an index. -/
theorem entry_u (c : Dev nD) (k : Fin 2048) (f : Fin 13312) :
    V1 m ρ c main_v2 (ix2 k f) = m ((c : Thread nD τ).loc main_arg2) (ix3 0 k f) := by
  have e : V1 m ρ c main_v2 = (truncf (F := Ideal) .bf16 (shapeCast S2048x13312 (m ((c : Thread nD τ).loc main_arg2)) shapeCasts_S1x2048x13312_S2048x13312 : FVec Ideal S2048x13312 .f32) bitsLt_bf16_f32 : FVec Ideal S2048x13312 .bf16) := by
    show StableHlo.after hostOps0 (W0 m ρ c) main_v2 = _
    after_results_simp
    rfl
  rw [e, ValueIdx.truncf_apply]
  generalize m ((c : Thread nD τ).loc main_arg2) = y
  exact shapeCast_apply (s := S1x2048x13312) (α := Ideal .f32) y _ (ix2 k f) (ix3 0 k f)
    (by rewrite [Shape.rowMajor_val_three, Shape.rowMajor_val_two]; show (0 * 2048 + k.val) * 13312 + f.val = k.val * 13312 + f.val; omega)

/-- The rows after the norm stand unchanged when the first projection's call starts. -/
theorem rows1 (c : Dev nD) : V3 m ρ c main_v5 = rows (V1 m ρ) c :=
  (W3_of m ρ c main_v5 (by decide)).trans ((W2_arr m ρ c 2).trans (final0 (V1 m ρ) c))

/-- And when the second's starts. -/
theorem rows2 (c : Dev nD) : V5 m ρ c main_v5 = rows (V1 m ρ) c :=
  (W5_of m ρ c main_v5 (by decide)).trans ((W4_of m ρ c main_v5 (by decide)).trans (rows1 m ρ c))

/-- The matrix of the first projection, at an index: the first columns. -/
theorem entry_qkv (c : Dev nD) (k : Fin 2048) (f : Fin 3072) :
    V3 m ρ c main_v6 (ix2 k f) = m ((c : Thread nD τ).loc main_arg2) (ix3 0 k ⟨f.val, by omega⟩) := by
  have e : V3 m ρ c main_v6 = extractStridedSlice S2048x3072 ![0, 0] (W2 m ρ c main_v2) slices_S2048x13312_S2048x3072_0_0 := by
    show StableHlo.after hostOps1 (W2 m ρ c) main_v6 = _
    after_results_simp
  rw [e, W2_of_ne m ρ c main_v2 (by decide), ← entry_u m ρ c k ⟨f.val, by omega⟩]
  show extractStridedSlice S2048x3072 ![0, 0] (V1 m ρ c main_v2) slices_S2048x13312_S2048x3072_0_0 (ix2 k f) = _
  generalize V1 m ρ c main_v2 = y
  pointwise []

/-- The matrix of the second, at an index: the other columns. -/
theorem entry_rest (c : Dev nD) (k : Fin 2048) (f : Fin 10240) :
    V5 m ρ c main_v8 (ix2 k f) = m ((c : Thread nD τ).loc main_arg2) (ix3 0 k ⟨3072 + f.val, by omega⟩) := by
  have e : V5 m ρ c main_v8 = extractStridedSlice S2048x10240 ![0, 3072] (W4 m ρ c main_v2) slices_S2048x13312_S2048x10240_0_3072 := by
    show StableHlo.after hostOps2 (W4 m ρ c) main_v8 = _
    after_results_simp
  rw [e, W4_of_ne m ρ c main_v2 (by decide), W3_of m ρ c main_v2 (by decide), W2_of_ne m ρ c main_v2 (by decide),
    ← entry_u m ρ c k ⟨3072 + f.val, by omega⟩]
  show extractStridedSlice S2048x10240 ![0, 3072] (V1 m ρ c main_v2) slices_S2048x13312_S2048x10240_0_3072 (ix2 k f) = _
  generalize V1 m ρ c main_v2 = y
  pointwise []

end Cert.LayerIdeal.Proj

end
-- ==== Proof.Spec.lean ====
module

public import Idealize.ShloMosaic.Lib.Pointwise
public import Idealize.ShloMosaic.PureOps.Ideal.Laws

@[expose] public section

noncomputable section

namespace Cert.Na

open Idealize.ShloMosaic Idealize.ShloMosaic.Pointwise

/-- The first column of a query column's window of sixteen key columns. -/
def colStart (q : Nat) : Nat := min 48 (q - 8)

/-- The column of the relative position bias for query column `q` and key column `k`. -/
def colBias (q k : Nat) : Nat := min 30 (k + 15 - q)

/-- The first row of a query row's band of eight key rows. -/
def rowStart (r : Nat) : Nat := min 248 (r - 4)

/-- A window starts early enough for its eight rows to fit in the grid. -/
theorem rowStart_le (r : Nat) : rowStart r ≤ 248 := Nat.min_le_left _ _

/-- The column of the bias table is one of its thirty-one. -/
theorem colBias_lt (q k : Nat) : colBias q k < 31 := by unfold colBias; omega

/-- The key columns a query column attends to. -/
def inWindow (q k : Nat) : Bool := decide (colStart q ≤ k) && decide (k < colStart q + 16)

/-- Every query column attends to the first column of its window. -/
theorem inWindow_start (q : Nat) : inWindow q (colStart q) = true := by
  simp [inWindow]

/-- The average of the values `v` under weights the exponentials of the scores less their greatest, normalised after
    the sum. -/
def average (s v : Fin 512 → EReal) : EReal :=
  Ideal.div (∑ n, Ideal.exp (s n - Finset.univ.fold max (⊥ : EReal) s) * v n)
    (∑ n, Ideal.exp (s n - Finset.univ.fold max (⊥ : EReal) s))

/-- A value under its sigmoid linear unit. -/
def silu (z : EReal) : EReal := z * Ideal.logistic z

/-- The score of the query at array row `i` for key `n` of its band, in head `h`: the scaled query's product with the key,
    and the bias of their offset, or minus infinity outside the query's window of columns. -/
def score (x : (⟨2, ![16384, 3072]⟩ : Shape).Idx → EReal) (b : (⟨3, ![16, 15, 31]⟩ : Shape).Idx → EReal) (i : Fin 16384)
    (h : Fin 16) (n : Fin 512) : EReal :=
  (∑ e : Fin 64, x (ix2 i ⟨64 * h.val + e.val, by omega⟩) * ((1 / 8 : ℝ) : EReal)
      * x (ix2 ⟨64 * rowStart (i.val / 64) + n.val, by have := rowStart_le (i.val / 64); omega⟩
          ⟨1024 + (64 * h.val + e.val), by omega⟩))
    + if inWindow (i.val % 64) (n.val % 64) then
        b (ix3 h ⟨n.val / 64 + 7 - (i.val / 64 - rowStart (i.val / 64)), by omega⟩ ⟨colBias (i.val % 64) (n.val % 64), colBias_lt _ _⟩)
      else ⊥

/-- The attention and its gate, index by index. -/
def attention (x : (⟨2, ![16384, 3072]⟩ : Shape).Idx → EReal) (z : (⟨2, ![16384, 10240]⟩ : Shape).Idx → EReal)
    (b : (⟨3, ![16, 15, 31]⟩ : Shape).Idx → EReal) (i : Fin 16384) (f : Fin 1024) : EReal :=
  average (score x b i ⟨f.val / 64, by omega⟩)
      (fun n => x (ix2 ⟨64 * rowStart (i.val / 64) + n.val, by have := rowStart_le (i.val / 64); omega⟩ ⟨2048 + f.val, by omega⟩))
    * silu (z (ix2 i ⟨f.val, by omega⟩))

end Cert.Na
-- ==== Proof.Consts.lean ====
module

public import Idealize.ShloMosaic.PureOps.Ideal.Laws

@[expose] public section

noncomputable section

namespace Cert.Consts

open Idealize.ShloMosaic

/-- The float32 word of minus infinity is the least extended real. -/
theorem neg_inf : Ideal.ofBits .f32 0xFF800000#32 = ⊥ := by simp [Ideal.ofBits, Ideal.ieee]

/-- The float32 word of infinity is the greatest extended real. -/
theorem pos_inf : Ideal.ofBits .f32 0x7F800000#32 = ⊤ := by simp [Ideal.ofBits, Ideal.ieee]

/-- The bfloat16 word of the score scale is one eighth. -/
theorem eighth_bf16 : Ideal.ofBits .bf16 0x3E00#16 = ((1 / 8 : ℝ) : EReal) := by
  simp [Ideal.ofBits, Ideal.ieee, -EReal.coe_mul]; norm_num

/-- The float32 word of the score scale is one eighth. -/
theorem eighth_f32 : Ideal.ofBits .f32 0x3E000000#32 = ((1 / 8 : ℝ) : EReal) := by
  simp [Ideal.ofBits, Ideal.ieee, -EReal.coe_mul]; norm_num

/-- The float32 word of zero is zero. -/
theorem zero_f32 : Ideal.ofBits .f32 0x00000000#32 = 0 := by simp [Ideal.ofBits, Ideal.ieee]

/-- The float32 word of one is one. -/
theorem one_f32 : Ideal.ofBits .f32 0x3F800000#32 = 1 := by
  simp [Ideal.ofBits, Ideal.ieee, -EReal.coe_mul]; norm_num

/-- The float32 word of the rows' length is 2048. -/
theorem width : Ideal.ofBits .f32 0x45000000#32 = ((2048 : ℝ) : EReal) := by
  simp [Ideal.ofBits, Ideal.ieee, -EReal.coe_mul]; norm_num

/-- The float32 word of the norm's constant is a positive real. -/
theorem small_pos : ∃ e : ℝ, Ideal.ofBits .f32 0x358637BD#32 = (e : EReal) ∧ 0 < e := by
  refine ⟨8796093 * (2 : ℝ) ^ (-43 : ℤ), ?_, by positivity⟩
  simp [Ideal.ofBits, Ideal.ieee, -EReal.coe_mul]

end Cert.Consts
-- ==== Proof.Head.lean ====
module

public import proofs.«01_k».proof.Proof.Gen.LayerIdeal.Frame
public import proofs.«01_k».proof.Proof.Spec
public import proofs.«01_k».proof.Proof.Consts
public import Idealize.ShloMosaic.Lib.Pointwise
public import Idealize.ShloMosaic.Lib.Pipeline.Value
public import Idealize.ShloMosaic.PureOps.Ideal.Laws

@[expose] public section

noncomputable section

namespace Cert.LayerIdeal.Attn

open Cert.LayerIdeal Cert.LayerIdeal.Gen Idealize.ShloMosaic Idealize.ShloMosaic.Pointwise

/-- What one head computes at an index: the average of the values' column under the scores of the query's row, each
    score the scaled query's product with the key plus the bias. -/
theorem head_apply (q : Vec Ideal S64x64 .bf16) (k : Vec Ideal S512x64 .bf16) (b : Vec Ideal S1x1x64x512 .f32)
    (v : Vec Ideal S512x64 .bf16) (r d : Fin 64) :
    k3_pay3 q k b v (ix2 r d) = Na.average
      (fun n => ∑ e, q (ix2 r e) * ((1 / 8 : ℝ) : EReal) * k (ix2 n e) + b (ix4 0 0 r n)) (fun n => v (ix2 n d)) := by
  pointwise [k3_pay3]
  rw [Consts.eighth_bf16, Consts.neg_inf]
  rfl

/-- The gate at an index. -/
theorem gate_apply (o z : Vec Ideal S64x1024 .f32) (r : Fin 64) (d : Fin 1024) :
    k3_pay2 (F := Ideal) o z (ix2 r d) = o (ix2 r d) * Na.silu (z (ix2 r d)) := by
  pointwise [k3_pay2]
  rfl

/-- A head's sixty-four columns lie inside the block of queries. -/
theorem inb_q (h : Fin 16) (a : Fin S64x1024.rank) :
    (![0, 64 * h.val] : Fin 2 → Nat) a + S64x64.size a ≤ S64x1024.size a := by
  match a with
  | ⟨0, _⟩ => show 0 + 64 ≤ 64; omega
  | ⟨1, _⟩ => show 64 * h.val + 64 ≤ 1024; omega

/-- A head's sixty-four columns lie inside the band of keys or values. -/
theorem inb_k (h : Fin 16) (a : Fin S512x1024.rank) :
    (![0, 64 * h.val] : Fin 2 → Nat) a + S512x64.size a ≤ S512x1024.size a := by
  match a with
  | ⟨0, _⟩ => show 0 + 512 ≤ 512; omega
  | ⟨1, _⟩ => show 64 * h.val + 64 ≤ 1024; omega

/-- A head's slice lies inside the bias block. -/
theorem inb_b (h : Fin 16) (a : Fin S1x16x64x512.rank) :
    (![0, h.val, 0, 0] : Fin 4 → Nat) a + S1x1x64x512.size a ≤ S1x16x64x512.size a := by
  match a with
  | ⟨0, _⟩ => show 0 + 1 ≤ 1; omega
  | ⟨1, _⟩ => show h.val + 1 ≤ 16; omega
  | ⟨2, _⟩ => show 0 + 64 ≤ 64; omega
  | ⟨3, _⟩ => show 0 + 512 ≤ 512; omega

/-- Head `h` of the queries' block. -/
abbrev rectQ (h : Fin 16) : Rect S64x1024 := Rect.unit (s := S64x1024) ![0, 64 * h.val] S64x64.size (inb_q h)
/-- Head `h` of the keys' or the values' block. -/
abbrev rectK (h : Fin 16) : Rect S512x1024 := Rect.unit (s := S512x1024) ![0, 64 * h.val] S512x64.size (inb_k h)
/-- Head `h` of the bias table's block. -/
abbrev rectB (h : Fin 16) : Rect S1x16x64x512 := Rect.unit (s := S1x16x64x512) ![0, h.val, 0, 0] S1x1x64x512.size (inb_b h)

/-- What head `h` computes from the blocks. -/
def headOf (x0 : Vec Ideal S64x1024 .bf16) (x1 x2 : Vec Ideal S512x1024 .bf16) (x4 : Vec Ideal S1x16x64x512 .f32)
    (h : Fin 16) : FVec Ideal S64x64 .f32 :=
  k3_pay3 (View.ld x0 (rectQ h)) (View.ld x1 (rectK h)) (View.ld x4 (rectB h)) (View.ld x2 (rectK h))

/-- The sixteen heads laid side by side. -/
def heads (x0 : Vec Ideal S64x1024 .bf16) (x1 x2 : Vec Ideal S512x1024 .bf16) (x4 : Vec Ideal S1x16x64x512 .f32) :
    FVec Ideal S64x1024 .f32 :=
  concatenate S64x1024 1 (List.ofFn fun h : Fin 16 => (⟨S64x64, headOf x0 x1 x2 x4 h⟩ : (s : Shape) × (s.Idx → Ideal .f32)))
    concatenates_S64x64_S64x64_S64x64_S64x64_S64x64_S64x64_S64x64_S64x64_S64x64_S64x64_S64x64_S64x64_S64x64_S64x64_S64x64_S64x64_S64x1024_d1

/-- What one block of the output holds: the heads under the gate. -/
theorem out_eq (x0 : Vec Ideal S64x1024 .bf16) (x1 x2 : Vec Ideal S512x1024 .bf16) (x3 : Vec Ideal S64x1024 .f32)
    (x4 : Vec Ideal S1x16x64x512 .f32) : out3_5 x0 x1 x2 x3 x4 = k3_pay2 (heads x0 x1 x2 x4) x3 := by
  have hz : (![0, 0] : Fin 2 → Nat) = fun _ => 0 := by decide
  unfold out3_5
  rw [View.canon_unit_zero hz, View.ld_unit_zero hz]
  rfl

/-- What one block of the output holds at an index. -/
theorem out_apply (x0 : Vec Ideal S64x1024 .bf16) (x1 x2 : Vec Ideal S512x1024 .bf16) (x3 : Vec Ideal S64x1024 .f32)
    (x4 : Vec Ideal S1x16x64x512 .f32) (r : Fin 64) (f : Fin 1024) :
    out3_5 x0 x1 x2 x3 x4 (ix2 r f) = Na.average
      (fun n => ∑ e : Fin 64, x0 (ix2 r ⟨64 * (f.val / 64) + e.val, by omega⟩) * ((1 / 8 : ℝ) : EReal)
          * x1 (ix2 n ⟨64 * (f.val / 64) + e.val, by omega⟩) + x4 (ix4 0 ⟨f.val / 64, by omega⟩ r n))
      (fun n => x2 (ix2 n f)) * Na.silu (x3 (ix2 r f)) := by
  rw [out_eq, gate_apply]
  congr 1
  have hd : f.val / 64 < 16 := by omega
  have hm : f.val % 64 < 64 := by omega
  refine (Idealize.ShloMosaic.concatenate_ofFn_apply (t := S64x1024) (s₁ := S64x64) (1 : Fin 2) (headOf x0 x1 x2 x4) _ rfl 64 rfl (ix2 r f) ⟨f.val / 64, hd⟩ rfl
    (ix2 r ⟨f.val % 64, hm⟩) rfl ?_).trans ?_
  · intro b hb
    match b with
    | ⟨0, _⟩ => rfl
    | ⟨1, _⟩ => exact absurd rfl hb
  · unfold headOf
    rw [head_apply]
    pointwise []
    simp only [Nat.div_add_mod, Fin.eta]

end Cert.LayerIdeal.Attn
-- ==== Proof.Gathers.lean ====
module

public import Idealize.ShloMosaic.Lib.Pointwise
public import Idealize.ShloMosaic.PureOps.Ideal.Laws

@[expose] public section

namespace Cert.Gathers

open Idealize.ShloMosaic Idealize.ShloMosaic.Pointwise

variable {α : Type}

/-- A gather's operand coordinate on an axis that is neither gathered along nor a batching axis is the slice's own. -/
theorem coord_kept {s si t : Shape} (d : GatherDims s si t) {w : Nat} (j : t.Idx) (idx : IVec si w) (b : Fin s.rank)
    (hs : b ∉ d.startIndexMap) (hb : b ∉ d.operandBatchingDims) :
    d.start j idx b + d.batchCoord j b + d.offCoord j b = d.offCoord j b := by
  rw [GatherDims.batchCoord_eq_zero _ _ _ hb]
  unfold GatherDims.start
  rw [dif_neg hs]
  omega

/-- A gather's operand coordinate on a collapsed axis is the clamped start index. -/
theorem coord_taken {s si t : Shape} (d : GatherDims s si t) {w : Nat} (j : t.Idx) (idx : IVec si w) (b : Fin s.rank)
    (hc : b ∈ d.collapsedSliceDims) (hb : b ∉ d.operandBatchingDims) :
    d.start j idx b + d.batchCoord j b + d.offCoord j b = d.start j idx b := by
  rw [GatherDims.batchCoord_eq_zero _ _ _ hb, GatherDims.offCoord_eq_zero _ _ _ (fun h => ((GatherDims.mem_sKept _ _).mp h).1 hc)]
  omega

/-- The dimension numbers of a gather of rows along the middle axis of a rank-3 operand, named by an array of rank 2. -/
abbrev midDims (A N C R S : Nat)
    (wf : GatherDims.WF ⟨3, ![A, N, C]⟩ ⟨3, ![R, S, 1]⟩ ⟨4, ![A, R, S, C]⟩ [0, 3] [1] [] [1] [] 2 ![A, 1, C]) :
    GatherDims ⟨3, ![A, N, C]⟩ ⟨3, ![R, S, 1]⟩ ⟨4, ![A, R, S, C]⟩ where
  offsetDims := [0, 3]
  collapsedSliceDims := [1]
  operandBatchingDims := []
  startIndicesBatchingDims := []
  startIndexMap := [1]
  indexVectorDim := 2
  sliceSizes := ![A, 1, C]
  wf := wf

/-- That gather at an index: the operand at the place its start index names, clamped into the operand. -/
theorem mid_apply {A N C R S w : Nat} (hN : 0 < N)
    (wf : GatherDims.WF ⟨3, ![A, N, C]⟩ ⟨3, ![R, S, 1]⟩ ⟨4, ![A, R, S, C]⟩ [0, 3] [1] [] [1] [] 2 ![A, 1, C])
    (x : (⟨3, ![A, N, C]⟩ : Shape).Idx → α) (idx : IVec ⟨3, ![R, S, 1]⟩ w)
    (a : Fin A) (r : Fin R) (s : Fin S) (c : Fin C) :
    Host.gather (midDims A N C R S wf) x idx (ix4 a r s c)
      = x (ix3 a ⟨min (idx (ix3 r s 0)).toInt.toNat (N - 1), by omega⟩ c) := by
  unfold Host.gather
  congr 1
  funext k
  refine Fin.ext ?_
  show (midDims A N C R S wf).start (ix4 a r s c) idx k + (midDims A N C R S wf).batchCoord (ix4 a r s c) k
    + (midDims A N C R S wf).offCoord (ix4 a r s c) k = _
  match k with
  | ⟨0, h⟩ =>
    rw [coord_kept _ _ _ _ (show (⟨0, h⟩ : Fin 3) ∉ ([1] : List (Fin 3)) from (by decide : (0 : Fin 3) ∉ ([1] : List (Fin 3)))) List.not_mem_nil]
    unfold GatherDims.offCoord
    rw [dif_pos (show (⟨0, h⟩ : Fin 3) ∈ (midDims A N C R S wf).sKept from (GatherDims.mem_sKept _ _).mpr
      ⟨(by decide : (0 : Fin 3) ∉ ([1] : List (Fin 3))), List.not_mem_nil⟩)]
    rfl
  | ⟨1, h⟩ =>
    rw [coord_taken _ _ _ _ (List.mem_singleton.mpr rfl) List.not_mem_nil]
    unfold GatherDims.start
    rw [dif_pos (show (⟨1, h⟩ : Fin 3) ∈ (midDims A N C R S wf).startIndexMap from List.mem_singleton.mpr rfl)]
    have hsi : (midDims A N C R S wf).siIdx (ix4 a r s c) ⟨List.idxOf (⟨1, h⟩ : Fin 3) (midDims A N C R S wf).startIndexMap,
        List.idxOf_lt_length_iff.2 (List.mem_singleton.mpr rfl)⟩ = ix3 r s 0 := by
      funext b; refine Fin.ext ?_
      match b with
      | ⟨0, _⟩ => rfl
      | ⟨1, _⟩ => rfl
      | ⟨2, _⟩ => rfl
    rw [hsi]
    rfl
  | ⟨2, h⟩ =>
    rw [coord_kept _ _ _ _ (show (⟨2, h⟩ : Fin 3) ∉ ([1] : List (Fin 3)) from (by decide : (2 : Fin 3) ∉ ([1] : List (Fin 3)))) List.not_mem_nil]
    unfold GatherDims.offCoord
    rw [dif_pos (show (⟨2, h⟩ : Fin 3) ∈ (midDims A N C R S wf).sKept from (GatherDims.mem_sKept _ _).mpr
      ⟨(by decide : (2 : Fin 3) ∉ ([1] : List (Fin 3))), List.not_mem_nil⟩)]
    rfl

/-- The dimension numbers of a gather of entries along the last axis of a rank-4 operand, named by an array of rank 2. -/
abbrev lastDims (A B D N R S : Nat)
    (wf : GatherDims.WF ⟨4, ![A, B, D, N]⟩ ⟨3, ![R, S, 1]⟩ ⟨5, ![A, B, D, R, S]⟩ [0, 1, 2] [3] [] [3] [] 2 ![A, B, D, 1]) :
    GatherDims ⟨4, ![A, B, D, N]⟩ ⟨3, ![R, S, 1]⟩ ⟨5, ![A, B, D, R, S]⟩ where
  offsetDims := [0, 1, 2]
  collapsedSliceDims := [3]
  operandBatchingDims := []
  startIndicesBatchingDims := []
  startIndexMap := [3]
  indexVectorDim := 2
  sliceSizes := ![A, B, D, 1]
  wf := wf

/-- That gather at an index: the operand at the place its start index names, clamped into the operand. -/
theorem last_apply {A B D N R S w : Nat} (hN : 0 < N)
    (wf : GatherDims.WF ⟨4, ![A, B, D, N]⟩ ⟨3, ![R, S, 1]⟩ ⟨5, ![A, B, D, R, S]⟩ [0, 1, 2] [3] [] [3] [] 2 ![A, B, D, 1])
    (x : (⟨4, ![A, B, D, N]⟩ : Shape).Idx → α) (idx : IVec ⟨3, ![R, S, 1]⟩ w)
    (a : Fin A) (b : Fin B) (e : Fin D) (r : Fin R) (s : Fin S) :
    Host.gather (lastDims A B D N R S wf) x idx (ix5 a b e r s)
      = x (ix4 a b e ⟨min (idx (ix3 r s 0)).toInt.toNat (N - 1), by omega⟩) := by
  unfold Host.gather
  congr 1
  funext k
  refine Fin.ext ?_
  show (lastDims A B D N R S wf).start (ix5 a b e r s) idx k + (lastDims A B D N R S wf).batchCoord (ix5 a b e r s) k
    + (lastDims A B D N R S wf).offCoord (ix5 a b e r s) k = _
  match k with
  | ⟨0, h⟩ =>
    rw [coord_kept _ _ _ _ (show (⟨0, h⟩ : Fin 4) ∉ ([3] : List (Fin 4)) from (by decide : (0 : Fin 4) ∉ ([3] : List (Fin 4)))) List.not_mem_nil]
    unfold GatherDims.offCoord
    rw [dif_pos (show (⟨0, h⟩ : Fin 4) ∈ (lastDims A B D N R S wf).sKept from (GatherDims.mem_sKept _ _).mpr
      ⟨(by decide : (0 : Fin 4) ∉ ([3] : List (Fin 4))), List.not_mem_nil⟩)]
    rfl
  | ⟨1, h⟩ =>
    rw [coord_kept _ _ _ _ (show (⟨1, h⟩ : Fin 4) ∉ ([3] : List (Fin 4)) from (by decide : (1 : Fin 4) ∉ ([3] : List (Fin 4)))) List.not_mem_nil]
    unfold GatherDims.offCoord
    rw [dif_pos (show (⟨1, h⟩ : Fin 4) ∈ (lastDims A B D N R S wf).sKept from (GatherDims.mem_sKept _ _).mpr
      ⟨(by decide : (1 : Fin 4) ∉ ([3] : List (Fin 4))), List.not_mem_nil⟩)]
    rfl
  | ⟨2, h⟩ =>
    rw [coord_kept _ _ _ _ (show (⟨2, h⟩ : Fin 4) ∉ ([3] : List (Fin 4)) from (by decide : (2 : Fin 4) ∉ ([3] : List (Fin 4)))) List.not_mem_nil]
    unfold GatherDims.offCoord
    rw [dif_pos (show (⟨2, h⟩ : Fin 4) ∈ (lastDims A B D N R S wf).sKept from (GatherDims.mem_sKept _ _).mpr
      ⟨(by decide : (2 : Fin 4) ∉ ([3] : List (Fin 4))), List.not_mem_nil⟩)]
    rfl
  | ⟨3, h⟩ =>
    rw [coord_taken _ _ _ _ (List.mem_singleton.mpr rfl) List.not_mem_nil]
    unfold GatherDims.start
    rw [dif_pos (show (⟨3, h⟩ : Fin 4) ∈ (lastDims A B D N R S wf).startIndexMap from List.mem_singleton.mpr rfl)]
    have hsi : (lastDims A B D N R S wf).siIdx (ix5 a b e r s) ⟨List.idxOf (⟨3, h⟩ : Fin 4) (lastDims A B D N R S wf).startIndexMap,
        List.idxOf_lt_length_iff.2 (List.mem_singleton.mpr rfl)⟩ = ix3 r s 0 := by
      funext b; refine Fin.ext ?_
      match b with
      | ⟨0, _⟩ => rfl
      | ⟨1, _⟩ => rfl
      | ⟨2, _⟩ => rfl
    rw [hsi]
    rfl

/-- The dimension numbers of a gather of rows along the first axis of a rank-4 operand, named by an array of rank 2. -/
abbrev firstDims (N A B C R S : Nat)
    (wf : GatherDims.WF ⟨4, ![N, A, B, C]⟩ ⟨3, ![R, S, 1]⟩ ⟨5, ![R, S, A, B, C]⟩ [2, 3, 4] [0] [] [0] [] 2 ![1, A, B, C]) :
    GatherDims ⟨4, ![N, A, B, C]⟩ ⟨3, ![R, S, 1]⟩ ⟨5, ![R, S, A, B, C]⟩ where
  offsetDims := [2, 3, 4]
  collapsedSliceDims := [0]
  operandBatchingDims := []
  startIndicesBatchingDims := []
  startIndexMap := [0]
  indexVectorDim := 2
  sliceSizes := ![1, A, B, C]
  wf := wf

/-- That gather at an index: the operand at the place its start index names, clamped into the operand. -/
theorem first_apply {N A B C R S w : Nat} (hN : 0 < N)
    (wf : GatherDims.WF ⟨4, ![N, A, B, C]⟩ ⟨3, ![R, S, 1]⟩ ⟨5, ![R, S, A, B, C]⟩ [2, 3, 4] [0] [] [0] [] 2 ![1, A, B, C])
    (x : (⟨4, ![N, A, B, C]⟩ : Shape).Idx → α) (idx : IVec ⟨3, ![R, S, 1]⟩ w)
    (r : Fin R) (s : Fin S) (a : Fin A) (b : Fin B) (c : Fin C) :
    Host.gather (firstDims N A B C R S wf) x idx (ix5 r s a b c)
      = x (ix4 ⟨min (idx (ix3 r s 0)).toInt.toNat (N - 1), by omega⟩ a b c) := by
  unfold Host.gather
  congr 1
  funext k
  refine Fin.ext ?_
  show (firstDims N A B C R S wf).start (ix5 r s a b c) idx k + (firstDims N A B C R S wf).batchCoord (ix5 r s a b c) k
    + (firstDims N A B C R S wf).offCoord (ix5 r s a b c) k = _
  match k with
  | ⟨0, h⟩ =>
    rw [coord_taken _ _ _ _ (List.mem_singleton.mpr rfl) List.not_mem_nil]
    unfold GatherDims.start
    rw [dif_pos (show (⟨0, h⟩ : Fin 4) ∈ (firstDims N A B C R S wf).startIndexMap from List.mem_singleton.mpr rfl)]
    have hsi : (firstDims N A B C R S wf).siIdx (ix5 r s a b c) ⟨List.idxOf (⟨0, h⟩ : Fin 4) (firstDims N A B C R S wf).startIndexMap,
        List.idxOf_lt_length_iff.2 (List.mem_singleton.mpr rfl)⟩ = ix3 r s 0 := by
      funext b; refine Fin.ext ?_
      match b with
      | ⟨0, _⟩ => rfl
      | ⟨1, _⟩ => rfl
      | ⟨2, _⟩ => rfl
    rw [hsi]
    rfl
  | ⟨1, h⟩ =>
    rw [coord_kept _ _ _ _ (show (⟨1, h⟩ : Fin 4) ∉ ([0] : List (Fin 4)) from (by decide : (1 : Fin 4) ∉ ([0] : List (Fin 4)))) List.not_mem_nil]
    unfold GatherDims.offCoord
    rw [dif_pos (show (⟨1, h⟩ : Fin 4) ∈ (firstDims N A B C R S wf).sKept from (GatherDims.mem_sKept _ _).mpr
      ⟨(by decide : (1 : Fin 4) ∉ ([0] : List (Fin 4))), List.not_mem_nil⟩)]
    rfl
  | ⟨2, h⟩ =>
    rw [coord_kept _ _ _ _ (show (⟨2, h⟩ : Fin 4) ∉ ([0] : List (Fin 4)) from (by decide : (2 : Fin 4) ∉ ([0] : List (Fin 4)))) List.not_mem_nil]
    unfold GatherDims.offCoord
    rw [dif_pos (show (⟨2, h⟩ : Fin 4) ∈ (firstDims N A B C R S wf).sKept from (GatherDims.mem_sKept _ _).mpr
      ⟨(by decide : (2 : Fin 4) ∉ ([0] : List (Fin 4))), List.not_mem_nil⟩)]
    rfl
  | ⟨3, h⟩ =>
    rw [coord_kept _ _ _ _ (show (⟨3, h⟩ : Fin 4) ∉ ([0] : List (Fin 4)) from (by decide : (3 : Fin 4) ∉ ([0] : List (Fin 4)))) List.not_mem_nil]
    unfold GatherDims.offCoord
    rw [dif_pos (show (⟨3, h⟩ : Fin 4) ∈ (firstDims N A B C R S wf).sKept from (GatherDims.mem_sKept _ _).mpr
      ⟨(by decide : (3 : Fin 4) ∉ ([0] : List (Fin 4))), List.not_mem_nil⟩)]
    rfl

end Cert.Gathers
-- ==== Proof.Table.lean ====
module

public import proofs.«01_k».proof.Proof.Gen.LayerIdeal.Frame
public import proofs.«01_k».proof.Proof.Gathers
public import proofs.«01_k».proof.Proof.Spec
public import proofs.«01_k».proof.Proof.Consts
public import Idealize.ShloMosaic.Lib.Pointwise
public import Idealize.ShloMosaic.Lib.StableHlo.Run
public import Idealize.ShloMosaic.PureOps.Ideal.Laws

@[expose] public section

noncomputable section

namespace Cert.LayerIdeal.Attn

open Cert.LayerIdeal Cert.LayerIdeal.Gen Idealize.ShloMosaic Idealize.ShloMosaic.TcCoe Idealize.SL.Sem Idealize.ShloMosaic.StableHlo

/-- The first key column of each query column's window, as the host computes it. -/
def colFirst : IVec S64 32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- The host's mask over query and key columns. -/
def colOk : IVec S64x64 1 :=
  andi
    (cmpi .sge
      (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colFirst)))
    (cmpi .slt
      (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 colFirst) (broadcastInDim S64x1 ![] bcast_S_S64x1 (constantI S_ 32 16#32)))))

/-- The column of the bias a query column takes for a key column, before the wrap of negative indices. -/
def colRel : IVec S64x64 32 :=
  minsi (broadcastInDim S64x64 ![] bcast_S_S64x64 (constantI S_ 32 30#32))
    (maxsi (broadcastInDim S64x64 ![] bcast_S_S64x64 (constantI S_ 32 0#32))
      (subi
        (addi
          (subi
            (broadcastInDim S64x64 ![0, 1] bcast_S1x64_S64x64_0_1 (broadcastInDim S1x64 ![1] bcast_S64_S1x64_1 (iotaInDim S64 32 0)))
            (broadcastInDim S64x64 ![0, 1] bcast_S64x1_S64x64_0_1 (broadcastInDim S64x1 ![0] bcast_S64_S64x1_0 (iotaInDim S64 32 0))))
          (broadcastInDim S64x64 ![] bcast_S_S64x64 (constantI S_ 32 16#32)))
        (broadcastInDim S64x64 ![] bcast_S_S64x64 (constantI S_ 32 1#32))))

/-- The start indices of the second gather. -/
def colIdx : IVec S64x64x1 32 :=
  broadcastInDim S64x64x1 ![0, 1] bcast_S64x64_S64x64x1_0_1
    (select (cmpi .slt colRel (broadcastInDim S64x64 ![] bcast_S_S64x64 (constantI S_ 32 0#32)))
      (addi colRel (broadcastInDim S64x64 ![] bcast_S_S64x64 (constantI S_ 32 31#32))) colRel)

/-- The row of the bias the row offset takes for a key row, before the wrap of negative indices. -/
def rowRel : IVec S8x8 32 :=
  subi
    (addi
      (subi
        (broadcastInDim S8x8 ![0, 1] bcast_S1x8_S8x8_0_1 (broadcastInDim S1x8 ![1] bcast_S8_S1x8_1 (iotaInDim S8 32 0)))
        (broadcastInDim S8x8 ![0, 1] bcast_S8x1_S8x8_0_1 (broadcastInDim S8x1 ![0] bcast_S8_S8x1_0 (iotaInDim S8 32 0))))
      (broadcastInDim S8x8 ![] bcast_S_S8x8 (constantI S_ 32 8#32)))
    (broadcastInDim S8x8 ![] bcast_S_S8x8 (constantI S_ 32 1#32))

/-- The start indices of the first gather. -/
def rowIdx : IVec S8x8x1 32 :=
  broadcastInDim S8x8x1 ![0, 1] bcast_S8x8_S8x8x1_0_1
    (select (cmpi .slt rowRel (broadcastInDim S8x8 ![] bcast_S_S8x8 (constantI S_ 32 0#32)))
      (addi rowRel (broadcastInDim S8x8 ![] bcast_S_S8x8 (constantI S_ 32 15#32))) rowRel)

/-- The host's bias table: the two gathers, the mask, and the layout the kernel reads. -/
def table (b : FVec Ideal S16x15x31 .f32) : FVec Ideal S8x16x64x512 .f32 :=
  shapeCast S8x16x64x512
    (transpose S8x16x64x8x64 [1, 0, 3, 2, 4]
      (select
        (broadcastInDim S16x8x8x64x64 ![0, 1, 2, 3, 4] bcast_S1x1x1x64x64_S16x8x8x64x64_0_1_2_3_4
          (broadcastInDim S1x1x1x64x64 ![3, 4] bcast_S64x64_S1x1x1x64x64_3_4 colOk))
        (Host.gather gather_S16x8x8x31_S64x64x1_S16x8x8x64x64_012_3_n_n_3_2_16881
          (Host.gather gather_S16x15x31_S8x8x1_S16x8x8x31_03_1_n_n_1_2_16131 b rowIdx) colIdx)
        (broadcastInDim S16x8x8x64x64 ![] bcast_S_S16x8x8x64x64 (constant (F := Ideal) S_ .f32 0xFF800000#32)))
      transposes_S16x8x8x64x64_S8x16x64x8x64_1_0_3_2_4)
    shapeCasts_S8x16x64x8x64_S8x16x64x512

variable (m : (ℓ : Loc nD τ sig) → Buf (Elt Ideal) ℓ) (ρ : Dev nD → PrngReg)

/-- The table's buffer when the attention's call starts is the host's bias table of the reshaped bias. -/
theorem entry_table (c : Dev nD) : V13 m ρ c main_v67 = table (W7 m ρ c main_v10) := by
  show (StableHlo.after hostOps3_6 (StableHlo.after hostOps3_5 (StableHlo.after hostOps3_4 (StableHlo.after hostOps3_3
    (StableHlo.after hostOps3_2 (StableHlo.after hostOps3_1 (StableHlo.after hostOps3 (W6 m ρ c)))))))) main_v67
      = table (StableHlo.after hostOps3 (W6 m ρ c) main_v10)
  simp only [hostOps3, hostOps3_1, hostOps3_2, hostOps3_3, hostOps3_4, hostOps3_5, hostOps3_6, List.flatten_cons,
    List.flatten_nil, List.append_nil, List.cons_append, List.nil_append, TRef.binary, TRef.nullary, TRef.ternary,
    TRef.unary, TRef.toBuf, TRef.ofBuf, cast_eq]
  after_results_simp
  rfl

open Idealize.ShloMosaic.Pointwise

/-- The mask at a query and a key column says whether the key column is in the query column's window. -/
theorem colOk_apply (q k : Fin 64) : colOk (ix2 q k) = if Na.inWindow q.val k.val then 1#1 else 0#1 := by
  pointwise [colOk, colFirst]
  revert q k
  decide +kernel

/-- The column the second gather takes. -/
theorem colIdx_apply (q k : Fin 64) : (colIdx (ix3 q k 0)).toInt.toNat = Na.colBias q.val k.val := by
  pointwise [colIdx, colRel]
  revert q k
  decide +kernel

/-- The row the first gather takes. -/
theorem rowIdx_apply (v j : Fin 8) : (rowIdx (ix3 v j 0)).toInt.toNat = j.val + 7 - v.val := by
  pointwise [rowIdx, rowRel]
  revert v j
  decide +kernel

/-- The second gather at an index. -/
theorem gather_col (x : FVec Ideal S16x8x8x31 .f32) (idx : IVec S64x64x1 32) (h : Fin 16) (v j : Fin 8) (q k : Fin 64) :
    Host.gather gather_S16x8x8x31_S64x64x1_S16x8x8x64x64_012_3_n_n_3_2_16881 x idx (ix5 h v j q k)
      = x (ix4 h v j ⟨min (idx (ix3 q k 0)).toInt.toNat (31 - 1), by omega⟩) :=
  Gathers.last_apply (N := 31) (by decide) gather_S16x8x8x31_S64x64x1_S16x8x8x64x64_012_3_n_n_3_2_16881.wf x idx h v j q k

/-- The first gather at an index. -/
theorem gather_row (x : FVec Ideal S16x15x31 .f32) (idx : IVec S8x8x1 32) (h : Fin 16) (v j : Fin 8) (c : Fin 31) :
    Host.gather gather_S16x15x31_S8x8x1_S16x8x8x31_03_1_n_n_1_2_16131 x idx (ix4 h v j c)
      = x (ix3 h ⟨min (idx (ix3 v j 0)).toInt.toNat (15 - 1), by omega⟩ c) :=
  Gathers.mid_apply (N := 15) (by decide) gather_S16x15x31_S8x8x1_S16x8x8x31_03_1_n_n_1_2_16131.wf x idx h v j c

attribute [local irreducible] rowIdx colIdx colOk

/-- The host's bias table at an index: the bias of the head at the row and column offsets of the key from the query,
    and minus infinity for a key column outside the query's window. -/
theorem table_apply (b : FVec Ideal S16x15x31 .f32) (v : Fin 8) (h : Fin 16) (q : Fin 64) (n : Fin 512) :
    table b (ix4 v h q n) = if Na.inWindow q.val (n.val % 64) then
      b (ix3 h ⟨n.val / 64 + 7 - v.val, by omega⟩ ⟨Na.colBias q.val (n.val % 64), Na.colBias_lt _ _⟩) else ⊥ := by
  pointwise [table]
  rw [colOk_apply, Consts.neg_inf]
  by_cases hw : Na.inWindow q.val (n.val % 64) = true
  · rw [if_pos hw, if_pos hw]
    rw [gather_col, gather_row, ValueIdx.select_one]
    have e1 : (⟨min (rowIdx (ix3 v (⟨n.val / 64, by omega⟩ : Fin 8) 0)).toInt.toNat (15 - 1), by omega⟩ : Fin 15)
        = ⟨n.val / 64 + 7 - v.val, by omega⟩ := Fin.ext (by simp only [rowIdx_apply]; omega)
    have e2 : (⟨min (colIdx (ix3 q (⟨n.val % 64, by omega⟩ : Fin 64) 0)).toInt.toNat (31 - 1), by omega⟩ : Fin 31)
        = ⟨Na.colBias q.val (n.val % 64), Na.colBias_lt _ _⟩ := Fin.ext (by
      have := Na.colBias_lt q.val (n.val % 64)
      simp only [colIdx_apply]; omega)
    exact congrArg b (congr (congrArg (ix3 h) e1) e2)
  · rw [if_neg hw, if_neg hw, ValueIdx.select_zero]

end Cert.LayerIdeal.Attn
-- ==== Proof.Blocks.lean ====
module

public import proofs.«01_k».proof.Proof.Gen.LayerIdeal.Frame
public import proofs.«01_k».proof.Proof.Head
public import proofs.«01_k».proof.Proof.Table
public import Idealize.ShloMosaic.Lib.Pipeline.Value

@[expose] public section

noncomputable section

namespace Cert.LayerIdeal.Attn

open Cert.LayerIdeal Cert.LayerIdeal.Gen Idealize.ShloMosaic Idealize.ShloMosaic.TcCoe Idealize.SL.Sem
open Idealize.ShloMosaic.Pointwise
open Idealize.ShloMosaic.Pipeline (Dat Window)

variable (V : (c : Dev nD) → (b : Ref sig .tc) → Buf (Elt Ideal) ((c : Thread nD τ).loc b))

/-- Where the windows stand at a grid point: one fact per axis, decided over the grid. -/
theorem idx3_0 : ∀ t : Fin cfg3.N, win3_0.index t ⟨0, by decide⟩ = t.val ∧ win3_0.index t ⟨1, by decide⟩ = 0 :=
  (by decide +kernel : ∀ t : Fin grid3.N, win3_0.index t ⟨0, by decide⟩ = t.val ∧ win3_0.index t ⟨1, by decide⟩ = 0)
/-- The keys' window starts at the first row of the band. -/
theorem idx3_1 : ∀ t : Fin cfg3.N, win3_1.index t ⟨0, by decide⟩ = 64 * Na.rowStart t.val ∧ win3_1.index t ⟨1, by decide⟩ = 1024 :=
  (by decide +kernel : ∀ t : Fin grid3.N, win3_1.index t ⟨0, by decide⟩ = 64 * Na.rowStart t.val ∧ win3_1.index t ⟨1, by decide⟩ = 1024)
/-- The values' window starts at the first row of the band. -/
theorem idx3_2 : ∀ t : Fin cfg3.N, win3_2.index t ⟨0, by decide⟩ = 64 * Na.rowStart t.val ∧ win3_2.index t ⟨1, by decide⟩ = 2048 :=
  (by decide +kernel : ∀ t : Fin grid3.N, win3_2.index t ⟨0, by decide⟩ = 64 * Na.rowStart t.val ∧ win3_2.index t ⟨1, by decide⟩ = 2048)
/-- The gate's window moves with the point. -/
theorem idx3_3 : ∀ t : Fin cfg3.N, win3_3.index t ⟨0, by decide⟩ = t.val ∧ win3_3.index t ⟨1, by decide⟩ = 0 :=
  (by decide +kernel : ∀ t : Fin grid3.N, win3_3.index t ⟨0, by decide⟩ = t.val ∧ win3_3.index t ⟨1, by decide⟩ = 0)
/-- The table's window stands at the offset of the query row in its band. -/
theorem idx3_4 : ∀ t : Fin cfg3.N, win3_4.index t ⟨0, by decide⟩ = t.val - Na.rowStart t.val ∧ win3_4.index t ⟨1, by decide⟩ = 0
    ∧ win3_4.index t ⟨2, by decide⟩ = 0 ∧ win3_4.index t ⟨3, by decide⟩ = 0 :=
  (by decide +kernel : ∀ t : Fin grid3.N, win3_4.index t ⟨0, by decide⟩ = t.val - Na.rowStart t.val ∧ win3_4.index t ⟨1, by decide⟩ = 0
    ∧ win3_4.index t ⟨2, by decide⟩ = 0 ∧ win3_4.index t ⟨3, by decide⟩ = 0)
/-- The output's window moves with the point. -/
theorem idx3_5 : ∀ t : Fin cfg3.N, win3_5.index t ⟨0, by decide⟩ = t.val ∧ win3_5.index t ⟨1, by decide⟩ = 0 :=
  (by decide +kernel : ∀ t : Fin grid3.N, win3_5.index t ⟨0, by decide⟩ = t.val ∧ win3_5.index t ⟨1, by decide⟩ = 0)

/-- A grid point's number is below 256, the number of grid rows. -/
theorem pt_lt (t : Fin cfg3.N) : t.val < 256 := t.isLt.trans_eq N_3

/-- A grid row lies fewer than eight rows below the start of its window. -/
theorem rowOff_le (r : Nat) (h : r < 256) : r - Na.rowStart r < 8 := by unfold Na.rowStart; omega

/-- The queries' block at an index. -/
theorem blk_q (c : Dev nD) (t : Fin cfg3.N) (q : Fin 64) (f : Fin 1024) :
    iblk3 V c 0 t (ix2 q f) = V c main_v7
      (ix2 ⟨64 * t.val + q.val, by have := pt_lt t; omega⟩ ⟨f.val, by omega⟩) := by
  show V c main_v7 ((win3_0.rect t).emb (ix2 q f)) = _
  refine congrArg _ (funext fun a => Fin.ext ?_)
  rw [win3_0.rect_emb_val_off]
  match a with
  | ⟨0, _⟩ => exact (congrArg (· * 64 + q.val) (idx3_0 t).1).trans (by show t.val * 64 + q.val = 64 * t.val + q.val; omega)
  | ⟨1, _⟩ => exact (congrArg (· * 1024 + f.val) (idx3_0 t).2).trans (by show 0 * 1024 + f.val = f.val; omega)

/-- The keys' block at an index. -/
theorem blk_k (c : Dev nD) (t : Fin cfg3.N) (n : Fin 512) (f : Fin 1024) :
    iblk3 V c 1 t (ix2 n f) = V c main_v7
      (ix2 ⟨64 * Na.rowStart t.val + n.val, by have := Na.rowStart_le t.val; omega⟩ ⟨1024 + f.val, by omega⟩) := by
  show V c main_v7 ((win3_1.rect t).emb (ix2 n f)) = _
  refine congrArg _ (funext fun a => Fin.ext ?_)
  rw [win3_1.rect_emb_val_off]
  match a with
  | ⟨0, _⟩ => exact congrArg (· + n.val) (idx3_1 t).1
  | ⟨1, _⟩ => exact congrArg (· + f.val) (idx3_1 t).2

/-- The values' block at an index. -/
theorem blk_v (c : Dev nD) (t : Fin cfg3.N) (n : Fin 512) (f : Fin 1024) :
    iblk3 V c 2 t (ix2 n f) = V c main_v7
      (ix2 ⟨64 * Na.rowStart t.val + n.val, by have := Na.rowStart_le t.val; omega⟩ ⟨2048 + f.val, by omega⟩) := by
  show V c main_v7 ((win3_2.rect t).emb (ix2 n f)) = _
  refine congrArg _ (funext fun a => Fin.ext ?_)
  rw [win3_2.rect_emb_val_off]
  match a with
  | ⟨0, _⟩ => exact congrArg (· + n.val) (idx3_2 t).1
  | ⟨1, _⟩ => exact congrArg (· + f.val) (idx3_2 t).2

/-- The gate's block at an index. -/
theorem blk_z (c : Dev nD) (t : Fin cfg3.N) (q : Fin 64) (f : Fin 1024) :
    iblk3 V c 3 t (ix2 q f) = V c main_v9
      (ix2 ⟨64 * t.val + q.val, by have := pt_lt t; omega⟩ ⟨f.val, by omega⟩) := by
  show V c main_v9 ((win3_3.rect t).emb (ix2 q f)) = _
  refine congrArg _ (funext fun a => Fin.ext ?_)
  rw [win3_3.rect_emb_val_off]
  match a with
  | ⟨0, _⟩ => exact (congrArg (· * 64 + q.val) (idx3_3 t).1).trans (by show t.val * 64 + q.val = 64 * t.val + q.val; omega)
  | ⟨1, _⟩ => exact (congrArg (· * 1024 + f.val) (idx3_3 t).2).trans (by show 0 * 1024 + f.val = f.val; omega)

/-- The table's block at an index. -/
theorem blk_b (c : Dev nD) (t : Fin cfg3.N) (h : Fin 16) (q : Fin 64) (n : Fin 512) :
    iblk3 V c 4 t (ix4 0 h q n) = V c main_v67
      (ix4 ⟨t.val - Na.rowStart t.val, rowOff_le _ (pt_lt t)⟩ h q n) := by
  show V c main_v67 ((win3_4.rect t).emb (ix4 0 h q n)) = _
  refine congrArg _ (funext fun a => Fin.ext ?_)
  rw [win3_4.rect_emb_val_off]
  match a with
  | ⟨0, _⟩ => exact (congrArg (· * 1 + 0) (idx3_4 t).1).trans (by show (t.val - Na.rowStart t.val) * 1 + 0 = t.val - Na.rowStart t.val; omega)
  | ⟨1, _⟩ => exact (congrArg (· * 16 + h.val) (idx3_4 t).2.1).trans (by show 0 * 16 + h.val = h.val; omega)
  | ⟨2, _⟩ => exact (congrArg (· * 64 + q.val) (idx3_4 t).2.2.1).trans (by show 0 * 64 + q.val = q.val; omega)
  | ⟨3, _⟩ => exact (congrArg (· * 512 + n.val) (idx3_4 t).2.2.2).trans (by show 0 * 512 + n.val = n.val; omega)

/-- What the result array is shown to hold. -/
def result (b : FVec Ideal S16x15x31 .f32) (c : Dev nD) : Buf (Elt Ideal) ((c : Thread nD τ).loc main_v68) := fun i =>
  Na.attention (V c main_v7) (V c main_v9) b
    (i 0) (i 1)

/-- What a grid point's block of the result holds at an index: the attention of the index's array row. -/
theorem block_apply (b : FVec Ideal S16x15x31 .f32) (c : Dev nD) (hb : V c main_v67 = table b) (t : Fin cfg3.N) (q : Fin 64) (f : Fin 1024) :
    out3_5 (iblk3 V c 0 t) (iblk3 V c 1 t) (iblk3 V c 2 t) (iblk3 V c 3 t) (iblk3 V c 4 t) (ix2 q f)
      = Na.attention (V c main_v7) (V c main_v9)
          b ⟨64 * t.val + q.val, by have := pt_lt t; omega⟩ f := by
  have hd : (64 * t.val + q.val) / 64 = t.val := by omega
  have hm : (64 * t.val + q.val) % 64 = q.val := by omega
  rw [out_apply]
  unfold Na.attention
  simp only [blk_q, blk_k, blk_v, blk_z, blk_b, hb, table_apply, hd]
  congr 2
  funext n
  simp only [Na.score, hd, hm]

/-- What point `t` writes back is its block of the result. -/
theorem flushed_eq (b : FVec Ideal S16x15x31 .f32) (c : Dev nD) (hb : V c main_v67 = table b) (t : Fin cfg3.N) :
    (dat3 V c).flushed 5 t = (win3_5.blk t).view.read (Elt Ideal) (result V b c) := by
  show (cfg3.win 5).cut (grid3.coords t) ((dat3 V c).after 5 t) = _
  rw [after3_5]
  funext y
  obtain ⟨q, f, rfl⟩ : ∃ (q : Fin 64) (f : Fin 1024), y = ix2 q f := ⟨y 0, y 1, by funext a; match a with | ⟨0, _⟩ => rfl | ⟨1, _⟩ => rfl⟩
  show out3_5 (iblk3 V c 0 t) (iblk3 V c 1 t) (iblk3 V c 2 t) (iblk3 V c 3 t) (iblk3 V c 4 t) (ix2 q f) = result V b c ((win3_5.rect t).emb (ix2 q f))
  rw [block_apply V b c hb]
  unfold result
  congr 1
  · refine Fin.ext ?_
    refine Eq.symm ((win3_5.rect_emb_val_off t (ix2 q f) ⟨0, by decide⟩).trans ?_)
    exact (congrArg (· * 64 + q.val) (idx3_5 t).1).trans (by show t.val * 64 + q.val = 64 * t.val + q.val; omega)
  · refine Fin.ext ?_
    refine Eq.symm ((win3_5.rect_emb_val_off t (ix2 q f) ⟨1, by decide⟩).trans ?_)
    exact (congrArg (· * 1024 + f.val) (idx3_5 t).2).trans (by show 0 * 1024 + f.val = f.val; omega)

/-- An index of the result array is in the block of the point its row names. -/
theorem mem_blk (t : Fin cfg3.N) (i : S16384x1024.Idx) (h : (i 0).val / 64 = t.val) : i ∈ ((cfg3.win 5).blk t).view.set := by
  show i ∈ ((View.whole main_v68).slice (win3_5.rect t)).set
  rw [View.set_slice_whole, Rect.mem_set_unit]
  have h1 : (i 1).val < 1024 := (i 1).isLt
  intro a
  match a with
  | ⟨0, _⟩ =>
    show win3_5.index t ⟨0, by decide⟩ * 64 ≤ (i 0).val ∧ (i 0).val < win3_5.index t ⟨0, by decide⟩ * 64 + 64
    rw [(idx3_5 t).1]; omega
  | ⟨1, _⟩ =>
    show win3_5.index t ⟨1, by decide⟩ * 1024 ≤ (i 1).val ∧ (i 1).val < win3_5.index t ⟨1, by decide⟩ * 1024 + 1024
    rw [(idx3_5 t).2]; omega

/-- The blocks cover the result array. -/
theorem cover (i : S16384x1024.Idx) : ∃ t : Fin cfg3.N, (cfg3.win 5).flush t = true ∧ i ∈ ((cfg3.win 5).blk t).view.set := by
  have h0 : (i 0).val < 16384 := (i 0).isLt
  have hN : cfg3.N = 256 := N_3
  exact ⟨⟨(i 0).val / 64, by omega⟩, flush3_5 _, mem_blk _ _ rfl⟩

/-- So the result array ends holding the attention. -/
theorem final (b : FVec Ideal S16x15x31 .f32) (c : Dev nD) (hb : V c main_v67 = table b) : (dat3 V c).arrAt 5 cfg3.N = result V b c :=
  (dat3 V c).arrAt_eq_of_cover 5 (result V b c) (fun t _ => flushed_eq V b c hb t) cover

end Cert.LayerIdeal.Attn
-- ==== Proof.MergeSpec.lean ====
module

public import proofs.«01_k».proof.Proof.Rms
public import Idealize.ShloMosaic.Lib.Pointwise

@[expose] public section

noncomputable section

namespace Cert.Mix

open Idealize.ShloMosaic Idealize.ShloMosaic.Pointwise

/-- A row of 1024 features under the norm of its heads of 128 features: each feature times its head's scale, times its
    weight. -/
def headNorm (s w : Fin 1024 → EReal) (f : Fin 1024) : EReal :=
  s f * Rms.scale 0x43000000#32 (fun k : Fin 128 => s ⟨128 * (f.val / 128) + k.val, by omega⟩) * w f

/-- The row after its heads' norm, under the sigmoid linear unit of `z`. -/
def gated (s z w : Fin 1024 → EReal) (f : Fin 1024) : EReal := headNorm s w f * (z f * Ideal.logistic (z f))

/-- The two branches' projections, each under the sigmoid of its gate, added. -/
def mixed (a b : Fin 1024 → EReal) (p q : Fin 2048 → EReal) (u v : Fin 1024 → Fin 2048 → EReal) (j : Fin 2048) : EReal :=
  Ideal.logistic (p j) * (∑ k, a k * u k j) + Ideal.logistic (q j) * (∑ k, b k * v k j)

/-- A row projected by a matrix. -/
def projected (y : Fin 2048 → EReal) (u : Fin 2048 → Fin 2048 → EReal) (j : Fin 2048) : EReal := ∑ k, y k * u k j

/-- A row added to the norm of another. -/
def residual (x y w : Fin 2048 → EReal) (j : Fin 2048) : EReal := x j + y j * Rms.scale 0x45000000#32 y * w j

/-- The layer's merge of a row: the mix of the two branches, projected, normed and added to the layer's input. -/
def merge (x : Fin 2048 → EReal) (a s z w : Fin 1024 → EReal) (p q : Fin 2048 → EReal)
    (u v : Fin 1024 → Fin 2048 → EReal) (o : Fin 2048 → Fin 2048 → EReal) (n : Fin 2048 → EReal) : Fin 2048 → EReal :=
  residual x (projected (mixed a (gated s z w) p q u v) o) n

/-- The merge of a row reads its arguments entry by entry. -/
theorem merge_congr {x x' : Fin 2048 → EReal} {a a' s s' z z' w w' : Fin 1024 → EReal} {p p' q q' : Fin 2048 → EReal}
    {u u' v v' : Fin 1024 → Fin 2048 → EReal} {o o' : Fin 2048 → Fin 2048 → EReal} {n n' : Fin 2048 → EReal}
    (hx : ∀ k, x k = x' k) (ha : ∀ k, a k = a' k) (hs : ∀ k, s k = s' k) (hz : ∀ k, z k = z' k) (hw : ∀ k, w k = w' k)
    (hp : ∀ k, p k = p' k) (hq : ∀ k, q k = q' k) (hu : ∀ k j, u k j = u' k j) (hv : ∀ k j, v k j = v' k j)
    (ho : ∀ k j, o k j = o' k j) (hn : ∀ k, n k = n' k) (j : Fin 2048) :
    merge x a s z w p q u v o n j = merge x' a' s' z' w' p' q' u' v' o' n' j := by
  rw [funext hx, funext ha, funext hs, funext hz, funext hw, funext hp, funext hq, funext fun k => funext (hu k),
    funext fun k => funext (hv k), funext fun k => funext (ho k), funext hn]

/-- The layer's merge at an index, from the arrays it is launched with: the layer's input, the attention's result, the two
    scans, the columns of the input projection, the gate's bias, the heads' weights, the two projection matrices, and the
    last norm's weights. -/
def layer (x0 : (⟨3, ![1, 16384, 2048]⟩ : Shape).Idx → EReal) (x1 x2 x3 : (⟨2, ![16384, 1024]⟩ : Shape).Idx → EReal)
    (x4 : (⟨2, ![16384, 10240]⟩ : Shape).Idx → EReal) (x5 : (⟨2, ![1, 4096]⟩ : Shape).Idx → EReal)
    (x6 : (⟨2, ![1, 1024]⟩ : Shape).Idx → EReal) (x7 x8 : (⟨3, ![1, 2048, 2048]⟩ : Shape).Idx → EReal)
    (x9 : (⟨2, ![1, 2048]⟩ : Shape).Idx → EReal) (r : Fin 16384) : Fin 2048 → EReal :=
  merge (fun k => x0 (ix3 0 r k)) (fun k => x1 (ix2 r k)) (fun k => x2 (ix2 r k) + x3 (ix2 r k))
    (fun k => x4 (ix2 r ⟨5120 + k.val, by omega⟩)) (fun k => x6 (ix2 0 k))
    (fun k => x4 (ix2 r ⟨6144 + k.val, by omega⟩) + x5 (ix2 0 ⟨k.val, by omega⟩))
    (fun k => x4 (ix2 r ⟨8192 + k.val, by omega⟩) + x5 (ix2 0 ⟨2048 + k.val, by omega⟩))
    (fun k j => x7 (ix3 0 ⟨k.val, by omega⟩ j)) (fun k j => x7 (ix3 0 ⟨1024 + k.val, by omega⟩ j))
    (fun k j => x8 (ix3 0 k j)) (fun k => x9 (ix2 0 k))

end Cert.Mix

end
-- ==== Proof.MergeHead.lean ====
module

public import proofs.«01_k».proof.Proof.Gen.LayerIdeal.Frame
public import proofs.«01_k».proof.Proof.MergeSpec
public import Idealize.ShloMosaic.Lib.Pointwise
public import Idealize.ShloMosaic.Lib.Pipeline.Value
public import Idealize.ShloMosaic.PureOps.Ideal.Laws

@[expose] public section

noncomputable section

namespace Cert.LayerIdeal.Mix

open Cert.LayerIdeal Cert.LayerIdeal.Gen Idealize.ShloMosaic Idealize.ShloMosaic.Pointwise

/-- The columns of a head are inside the block of rows. -/
theorem slices_head (h : Fin 8) : S256x1024.Slices ![0, 128 * h.val] S256x128 := by
  revert h; decide

/-- The weights of a head are inside the row of weights. -/
theorem inb_head (h : Fin 8) (a : Fin S1x1024.rank) : (![0, 128 * h.val] : Fin 2 → Nat) a + S1x128.size a ≤ S1x1024.size a := by
  match a with
  | ⟨0, _⟩ => show 0 + 1 ≤ 1; omega
  | ⟨1, _⟩ => show 128 * h.val + 128 ≤ 1024; omega

/-- The weights of head `h`. -/
abbrev rectW (h : Fin 8) : Rect S1x1024 := Rect.unit (s := S1x1024) ![0, 128 * h.val] S1x128.size (inb_head h)

/-- A head's norm: the block of its columns, scaled row by row, under its weights. -/
def normOf (v : FVec Ideal S256x128 .f32) (w : Vec Ideal S1x128 .f32) : FVec Ideal S256x128 .f32 :=
  k4_pay8 v (shapeCast S256x1 (multiReduction .add [1] S256 (mulf v v) 0x00000000#32 reduces_S256x128_S256 (.inl rfl) rfl)
    shapeCasts_S256_S256x1) (Scalar.ofBits .f32 0x43000000#32) w

/-- A head's norm at an index. -/
theorem normOf_apply (v : FVec Ideal S256x128 .f32) (w : Vec Ideal S1x128 .f32) (i : Fin 256) (d : Fin 128) :
    normOf v w (ix2 i d) = v (ix2 i d) * Rms.scale 0x43000000#32 (fun k : Fin 128 => v (ix2 i k)) * w (ix2 0 d) := by
  pointwise [normOf, k4_pay8]
  rfl

/-- What head `h` leaves of the summed scans `s` under the weights `w`. -/
def headOf (s : FVec Ideal S256x1024 .f32) (w : Vec Ideal S1x1024 .f32) (h : Fin 8) : FVec Ideal S256x128 .f32 :=
  normOf (extractStridedSlice S256x128 ![0, 128 * h.val] s (slices_head h)) (View.ld w (rectW h))

/-- The eight heads laid side by side. -/
def heads (s : FVec Ideal S256x1024 .f32) (w : Vec Ideal S1x1024 .f32) : FVec Ideal S256x1024 .f32 :=
  concatenate S256x1024 1 (List.ofFn fun h : Fin 8 => (⟨S256x128, headOf s w h⟩ : (s : Shape) × (s.Idx → Ideal .f32)))
    concatenates_S256x128_S256x128_S256x128_S256x128_S256x128_S256x128_S256x128_S256x128_S256x1024_d1

/-- The heads at an index. -/
theorem heads_apply (s : FVec Ideal S256x1024 .f32) (w : Vec Ideal S1x1024 .f32) (i : Fin 256) (f : Fin 1024) :
    heads s w (ix2 i f) = Cert.Mix.headNorm (fun k => s (ix2 i k)) (fun k => w (ix2 0 k)) f := by
  have hd : f.val / 128 < 8 := by omega
  have hm : f.val % 128 < 128 := by omega
  refine (Idealize.ShloMosaic.concatenate_ofFn_apply (t := S256x1024) (s₁ := S256x128) (1 : Fin 2) (headOf s w) _ rfl 128 rfl
    (ix2 i f) ⟨f.val / 128, hd⟩ rfl (ix2 i ⟨f.val % 128, hm⟩) rfl ?_).trans ?_
  · intro b hb
    match b with
    | ⟨0, _⟩ => rfl
    | ⟨1, _⟩ => exact absurd rfl hb
  · unfold headOf
    rw [normOf_apply]
    pointwise [Cert.Mix.headNorm]
    simp only [Nat.div_add_mod]

end Cert.LayerIdeal.Mix

end
-- ==== Proof.MergeBlock.lean ====
module

public import proofs.«01_k».proof.Proof.MergeHead

@[expose] public section

noncomputable section

namespace Cert.LayerIdeal.Mix

open Cert.LayerIdeal Cert.LayerIdeal.Gen Idealize.ShloMosaic Idealize.ShloMosaic.Pointwise

/-- The second branch's block: the heads under the gate of `z`. -/
def branch (s z : FVec Ideal S256x1024 .f32) (w : Vec Ideal S1x1024 .f32) : FVec Ideal S256x1024 .bf16 :=
  truncf .bf16 (mulf (heads s w) (k4_pay2 (F := Ideal) z)) bitsLt_bf16_f32

/-- The second branch at an index. -/
theorem branch_apply (s z : FVec Ideal S256x1024 .f32) (w : Vec Ideal S1x1024 .f32) (i : Fin 256) (f : Fin 1024) :
    branch s z w (ix2 i f) = Cert.Mix.gated (fun k => s (ix2 i k)) (fun k => z (ix2 i k)) (fun k => w (ix2 0 k)) f := by
  have h := heads_apply s w i f
  unfold branch
  revert h
  generalize heads s w = y
  intro h
  pointwise [k4_pay2, h]
  rfl

/-- The projected and scaled mix at an index, from the second branch's block. -/
theorem mix_apply (b : FVec Ideal S256x1024 .bf16) (a : Vec Ideal S256x1024 .bf16) (u v : Vec Ideal S1024x2048 .bf16)
    (p : Vec Ideal S256x2048 .f32) (pb : Vec Ideal S1x2048 .f32) (q : Vec Ideal S256x2048 .f32) (qb : Vec Ideal S1x2048 .f32)
    (o : Vec Ideal S2048x2048 .bf16) (x : Vec Ideal S256x2048 .f32) (n : Vec Ideal S1x2048 .f32) (i : Fin 256) (j : Fin 2048) :
    k4_pay1 (k4_pay14 b a u v p pb q qb o) (k4_pay15 x) (k4_pay16 b a u v p pb q qb o) n (ix2 i j)
      = Cert.Mix.residual (fun k => x (ix2 i k)) (Cert.Mix.projected
          (Cert.Mix.mixed (fun k => a (ix2 i k)) (fun k => b (ix2 i k)) (fun k => p (ix2 i k) + pb (ix2 0 k))
            (fun k => q (ix2 i k) + qb (ix2 0 k)) (fun k j => u (ix2 k j)) (fun k j => v (ix2 k j)))
          (fun k j => o (ix2 k j))) (fun k => n (ix2 0 k)) j := by
  pointwise [k4_pay1, k4_pay14, k4_pay15, k4_pay16]
  rfl

/-- What the call leaves in a block of its output, from the blocks it reads. -/
theorem out_eq (x0 : Vec Ideal S256x2048 .f32) (x1 : Vec Ideal S256x1024 .bf16) (x2 x3 x4 : Vec Ideal S256x1024 .f32)
    (x5 x6 : Vec Ideal S256x2048 .f32) (x7 x8 : Vec Ideal S1x2048 .f32) (x9 : Vec Ideal S1x1024 .f32)
    (x10 x11 : Vec Ideal S1024x2048 .bf16) (x12 : Vec Ideal S2048x2048 .bf16) (x13 : Vec Ideal S1x2048 .f32) :
    out4_14 x0 x1 x2 x3 x4 x5 x6 x7 x8 x9 x10 x11 x12 x13
      = k4_pay1 (k4_pay14 (branch (k4_pay3 x2 x3) x4 x9) x1 x10 x11 x5 x7 x6 x8 x12) (k4_pay15 x0)
          (k4_pay16 (branch (k4_pay3 x2 x3) x4 x9) x1 x10 x11 x5 x7 x6 x8 x12) x13 := by
  have hz : (![0, 0] : Fin 2 → Nat) = fun _ => 0 := by decide
  unfold_out out4_14
  rw [View.canon_unit_zero hz]
  repeat rw [View.ld_unit_zero hz]
  rfl

/-- What the call leaves in a block of its output, at an index. -/
theorem out_apply (x0 : Vec Ideal S256x2048 .f32) (x1 : Vec Ideal S256x1024 .bf16) (x2 x3 x4 : Vec Ideal S256x1024 .f32)
    (x5 x6 : Vec Ideal S256x2048 .f32) (x7 x8 : Vec Ideal S1x2048 .f32) (x9 : Vec Ideal S1x1024 .f32)
    (x10 x11 : Vec Ideal S1024x2048 .bf16) (x12 : Vec Ideal S2048x2048 .bf16) (x13 : Vec Ideal S1x2048 .f32)
    (i : Fin 256) (j : Fin 2048) :
    out4_14 x0 x1 x2 x3 x4 x5 x6 x7 x8 x9 x10 x11 x12 x13 (ix2 i j)
      = Cert.Mix.merge (fun k => x0 (ix2 i k)) (fun k => x1 (ix2 i k)) (fun k => x2 (ix2 i k) + x3 (ix2 i k))
          (fun k => x4 (ix2 i k)) (fun k => x9 (ix2 0 k)) (fun k => x5 (ix2 i k) + x7 (ix2 0 k))
          (fun k => x6 (ix2 i k) + x8 (ix2 0 k)) (fun k j => x10 (ix2 k j)) (fun k j => x11 (ix2 k j))
          (fun k j => x12 (ix2 k j)) (fun k => x13 (ix2 0 k)) j := by
  rw [out_eq, mix_apply]
  simp only [branch_apply]
  rfl

end Cert.LayerIdeal.Mix

end
-- ==== Proof.MergeWindows.lean ====
module

public import proofs.«01_k».proof.Proof.Gen.LayerIdeal.Frame
public import proofs.«01_k».proof.Proof.MergeBlock
public import Idealize.ShloMosaic.Lib.Pipeline.Value

@[expose] public section

noncomputable section

namespace Cert.LayerIdeal.Mix

open Cert.LayerIdeal Cert.LayerIdeal.Gen Idealize.ShloMosaic Idealize.ShloMosaic.TcCoe Idealize.SL.Sem
open Idealize.ShloMosaic.Pointwise
open Idealize.ShloMosaic.Pipeline (Dat Window)

variable (V : (c : Dev nD) → (b : Ref sig .tc) → Buf (Elt Ideal) ((c : Thread nD τ).loc b))

/-- The number of grid points. -/
theorem pt_lt (t : Fin cfg4.N) : t.val < 64 := t.isLt.trans_eq N_4

/-- Where a window's block puts an index, from its place on each axis. -/
theorem emb_eq (w : Window sig grid4) (t : Fin grid4.N) (y : (w.xblock (grid4.coords t)).Idx) (i : w.shape.Idx)
    (h : ∀ a, w.kind.off (w.index t a) (w.size a) + (y a : Nat) = i a) : (w.rect t).emb y = i :=
  funext fun a => Fin.ext ((w.rect_emb_val_off t y a).trans (h a))

/-- Where the window of the layer's input stands at a point. -/
theorem idx0 : ∀ t : Fin cfg4.N, win4_0.index t ⟨0, by decide⟩ = t.val ∧ win4_0.index t ⟨1, by decide⟩ = 0 :=
  (by decide +kernel : ∀ t : Fin grid4.N, win4_0.index t ⟨0, by decide⟩ = t.val ∧ win4_0.index t ⟨1, by decide⟩ = 0)
/-- Where the window of the attention's result stands at a point. -/
theorem idx1 : ∀ t : Fin cfg4.N, win4_1.index t ⟨0, by decide⟩ = t.val ∧ win4_1.index t ⟨1, by decide⟩ = 0 :=
  (by decide +kernel : ∀ t : Fin grid4.N, win4_1.index t ⟨0, by decide⟩ = t.val ∧ win4_1.index t ⟨1, by decide⟩ = 0)
/-- Where the window of the forward scan stands at a point. -/
theorem idx2 : ∀ t : Fin cfg4.N, win4_2.index t ⟨0, by decide⟩ = t.val ∧ win4_2.index t ⟨1, by decide⟩ = 0 :=
  (by decide +kernel : ∀ t : Fin grid4.N, win4_2.index t ⟨0, by decide⟩ = t.val ∧ win4_2.index t ⟨1, by decide⟩ = 0)
/-- Where the window of the backward scan stands at a point. -/
theorem idx3 : ∀ t : Fin cfg4.N, win4_3.index t ⟨0, by decide⟩ = t.val ∧ win4_3.index t ⟨1, by decide⟩ = 0 :=
  (by decide +kernel : ∀ t : Fin grid4.N, win4_3.index t ⟨0, by decide⟩ = t.val ∧ win4_3.index t ⟨1, by decide⟩ = 0)
/-- Where the window of the scans' gate stands at a point. -/
theorem idx4 : ∀ t : Fin cfg4.N, win4_4.index t ⟨0, by decide⟩ = t.val ∧ win4_4.index t ⟨1, by decide⟩ = 5 :=
  (by decide +kernel : ∀ t : Fin grid4.N, win4_4.index t ⟨0, by decide⟩ = t.val ∧ win4_4.index t ⟨1, by decide⟩ = 5)
/-- Where the window of the first branch's gate stands at a point. -/
theorem idx5 : ∀ t : Fin cfg4.N, win4_5.index t ⟨0, by decide⟩ = t.val ∧ win4_5.index t ⟨1, by decide⟩ = 3 :=
  (by decide +kernel : ∀ t : Fin grid4.N, win4_5.index t ⟨0, by decide⟩ = t.val ∧ win4_5.index t ⟨1, by decide⟩ = 3)
/-- Where the window of the second branch's gate stands at a point. -/
theorem idx6 : ∀ t : Fin cfg4.N, win4_6.index t ⟨0, by decide⟩ = t.val ∧ win4_6.index t ⟨1, by decide⟩ = 4 :=
  (by decide +kernel : ∀ t : Fin grid4.N, win4_6.index t ⟨0, by decide⟩ = t.val ∧ win4_6.index t ⟨1, by decide⟩ = 4)
/-- Where the window of the result stands at a point. -/
theorem idx14 : ∀ t : Fin cfg4.N, win4_14.index t ⟨0, by decide⟩ = t.val ∧ win4_14.index t ⟨1, by decide⟩ = 0 :=
  (by decide +kernel : ∀ t : Fin grid4.N, win4_14.index t ⟨0, by decide⟩ = t.val ∧ win4_14.index t ⟨1, by decide⟩ = 0)
/-- The window of the first half of the gate's bias holds it whole. -/
theorem idx7 : ∀ t : Fin cfg4.N, win4_7.index t ⟨0, by decide⟩ = 0 ∧ win4_7.index t ⟨1, by decide⟩ = 0 :=
  (by decide +kernel : ∀ t : Fin grid4.N, win4_7.index t ⟨0, by decide⟩ = 0 ∧ win4_7.index t ⟨1, by decide⟩ = 0)
/-- The window of the second half of the gate's bias holds it whole. -/
theorem idx8 : ∀ t : Fin cfg4.N, win4_8.index t ⟨0, by decide⟩ = 0 ∧ win4_8.index t ⟨1, by decide⟩ = 0 :=
  (by decide +kernel : ∀ t : Fin grid4.N, win4_8.index t ⟨0, by decide⟩ = 0 ∧ win4_8.index t ⟨1, by decide⟩ = 0)
/-- The window of the heads' weights holds it whole. -/
theorem idx9 : ∀ t : Fin cfg4.N, win4_9.index t ⟨0, by decide⟩ = 0 ∧ win4_9.index t ⟨1, by decide⟩ = 0 :=
  (by decide +kernel : ∀ t : Fin grid4.N, win4_9.index t ⟨0, by decide⟩ = 0 ∧ win4_9.index t ⟨1, by decide⟩ = 0)
/-- The window of the first branch's matrix holds it whole. -/
theorem idx10 : ∀ t : Fin cfg4.N, win4_10.index t ⟨0, by decide⟩ = 0 ∧ win4_10.index t ⟨1, by decide⟩ = 0 :=
  (by decide +kernel : ∀ t : Fin grid4.N, win4_10.index t ⟨0, by decide⟩ = 0 ∧ win4_10.index t ⟨1, by decide⟩ = 0)
/-- The window of the second branch's matrix holds it whole. -/
theorem idx11 : ∀ t : Fin cfg4.N, win4_11.index t ⟨0, by decide⟩ = 0 ∧ win4_11.index t ⟨1, by decide⟩ = 0 :=
  (by decide +kernel : ∀ t : Fin grid4.N, win4_11.index t ⟨0, by decide⟩ = 0 ∧ win4_11.index t ⟨1, by decide⟩ = 0)
/-- The window of the last projection's matrix holds it whole. -/
theorem idx12 : ∀ t : Fin cfg4.N, win4_12.index t ⟨0, by decide⟩ = 0 ∧ win4_12.index t ⟨1, by decide⟩ = 0 :=
  (by decide +kernel : ∀ t : Fin grid4.N, win4_12.index t ⟨0, by decide⟩ = 0 ∧ win4_12.index t ⟨1, by decide⟩ = 0)
/-- The window of the last norm's weights holds it whole. -/
theorem idx13 : ∀ t : Fin cfg4.N, win4_13.index t ⟨0, by decide⟩ = 0 ∧ win4_13.index t ⟨1, by decide⟩ = 0 :=
  (by decide +kernel : ∀ t : Fin grid4.N, win4_13.index t ⟨0, by decide⟩ = 0 ∧ win4_13.index t ⟨1, by decide⟩ = 0)

/-- The block of the layer's input at an index. -/
theorem blk_x (c : Dev nD) (t : Fin cfg4.N) (q : Fin 256) (k : Fin 2048) :
    iblk4 V c 0 t (ix2 q k) = V c main_v0 (ix2 ⟨256 * t.val + q.val, by have := pt_lt t; omega⟩ k) := by
  show V c main_v0 ((win4_0.rect t).emb (ix2 q k)) = _
  refine congrArg _ (emb_eq win4_0 t (ix2 q k) _ fun a => ?_)
  match a with
  | ⟨0, _⟩ => exact (congrArg (· * 256 + q.val) (idx0 t).1).trans (by show t.val * 256 + q.val = 256 * t.val + q.val; omega)
  | ⟨1, _⟩ => exact (congrArg (· * 2048 + k.val) (idx0 t).2).trans (by show 0 * 2048 + k.val = k.val; omega)

/-- The block of the attention's result at an index. -/
theorem blk_a (c : Dev nD) (t : Fin cfg4.N) (q : Fin 256) (k : Fin 1024) :
    iblk4 V c 1 t (ix2 q k) = V c main_v68 (ix2 ⟨256 * t.val + q.val, by have := pt_lt t; omega⟩ k) := by
  show V c main_v68 ((win4_1.rect t).emb (ix2 q k)) = _
  refine congrArg _ (emb_eq win4_1 t (ix2 q k) _ fun a => ?_)
  match a with
  | ⟨0, _⟩ => exact (congrArg (· * 256 + q.val) (idx1 t).1).trans (by show t.val * 256 + q.val = 256 * t.val + q.val; omega)
  | ⟨1, _⟩ => exact (congrArg (· * 1024 + k.val) (idx1 t).2).trans (by show 0 * 1024 + k.val = k.val; omega)

/-- The block of the forward scan at an index. -/
theorem blk_f (c : Dev nD) (t : Fin cfg4.N) (q : Fin 256) (k : Fin 1024) :
    iblk4 V c 2 t (ix2 q k) = V c main_arg5 (ix2 ⟨256 * t.val + q.val, by have := pt_lt t; omega⟩ k) := by
  show V c main_arg5 ((win4_2.rect t).emb (ix2 q k)) = _
  refine congrArg _ (emb_eq win4_2 t (ix2 q k) _ fun a => ?_)
  match a with
  | ⟨0, _⟩ => exact (congrArg (· * 256 + q.val) (idx2 t).1).trans (by show t.val * 256 + q.val = 256 * t.val + q.val; omega)
  | ⟨1, _⟩ => exact (congrArg (· * 1024 + k.val) (idx2 t).2).trans (by show 0 * 1024 + k.val = k.val; omega)

/-- The block of the backward scan at an index. -/
theorem blk_g (c : Dev nD) (t : Fin cfg4.N) (q : Fin 256) (k : Fin 1024) :
    iblk4 V c 3 t (ix2 q k) = V c main_arg6 (ix2 ⟨256 * t.val + q.val, by have := pt_lt t; omega⟩ k) := by
  show V c main_arg6 ((win4_3.rect t).emb (ix2 q k)) = _
  refine congrArg _ (emb_eq win4_3 t (ix2 q k) _ fun a => ?_)
  match a with
  | ⟨0, _⟩ => exact (congrArg (· * 256 + q.val) (idx3 t).1).trans (by show t.val * 256 + q.val = 256 * t.val + q.val; omega)
  | ⟨1, _⟩ => exact (congrArg (· * 1024 + k.val) (idx3 t).2).trans (by show 0 * 1024 + k.val = k.val; omega)

/-- The block of the scans' gate at an index. -/
theorem blk_z (c : Dev nD) (t : Fin cfg4.N) (q : Fin 256) (k : Fin 1024) :
    iblk4 V c 4 t (ix2 q k) = V c main_v9 (ix2 ⟨256 * t.val + q.val, by have := pt_lt t; omega⟩ ⟨5120 + k.val, by omega⟩) := by
  show V c main_v9 ((win4_4.rect t).emb (ix2 q k)) = _
  refine congrArg _ (emb_eq win4_4 t (ix2 q k) _ fun a => ?_)
  match a with
  | ⟨0, _⟩ => exact (congrArg (· * 256 + q.val) (idx4 t).1).trans (by show t.val * 256 + q.val = 256 * t.val + q.val; omega)
  | ⟨1, _⟩ => exact (congrArg (· * 1024 + k.val) (idx4 t).2).trans (by show 5 * 1024 + k.val = 5120 + k.val; omega)

/-- The block of the first branch's gate at an index. -/
theorem blk_p (c : Dev nD) (t : Fin cfg4.N) (q : Fin 256) (k : Fin 2048) :
    iblk4 V c 5 t (ix2 q k) = V c main_v9 (ix2 ⟨256 * t.val + q.val, by have := pt_lt t; omega⟩ ⟨6144 + k.val, by omega⟩) := by
  show V c main_v9 ((win4_5.rect t).emb (ix2 q k)) = _
  refine congrArg _ (emb_eq win4_5 t (ix2 q k) _ fun a => ?_)
  match a with
  | ⟨0, _⟩ => exact (congrArg (· * 256 + q.val) (idx5 t).1).trans (by show t.val * 256 + q.val = 256 * t.val + q.val; omega)
  | ⟨1, _⟩ => exact (congrArg (· * 2048 + k.val) (idx5 t).2).trans (by show 3 * 2048 + k.val = 6144 + k.val; omega)

/-- The block of the second branch's gate at an index. -/
theorem blk_q (c : Dev nD) (t : Fin cfg4.N) (q : Fin 256) (k : Fin 2048) :
    iblk4 V c 6 t (ix2 q k) = V c main_v9 (ix2 ⟨256 * t.val + q.val, by have := pt_lt t; omega⟩ ⟨8192 + k.val, by omega⟩) := by
  show V c main_v9 ((win4_6.rect t).emb (ix2 q k)) = _
  refine congrArg _ (emb_eq win4_6 t (ix2 q k) _ fun a => ?_)
  match a with
  | ⟨0, _⟩ => exact (congrArg (· * 256 + q.val) (idx6 t).1).trans (by show t.val * 256 + q.val = 256 * t.val + q.val; omega)
  | ⟨1, _⟩ => exact (congrArg (· * 2048 + k.val) (idx6 t).2).trans (by show 4 * 2048 + k.val = 8192 + k.val; omega)

/-- The block of the first half of the gate's bias at an index: its array's. -/
theorem blk_ba (c : Dev nD) (t : Fin cfg4.N) (q : Fin 1) (k : Fin 2048) : iblk4 V c 7 t (ix2 q k) = V c main_v79 (ix2 q k) := by
  refine congrArg (V c main_v79) (emb_eq win4_7 t (ix2 q k) _ fun a => ?_)
  match a with
  | ⟨0, _⟩ => exact (congrArg (· * 1 + q.val) (idx7 t).1).trans (by show 0 * 1 + q.val = q.val; omega)
  | ⟨1, _⟩ => exact (congrArg (· * 2048 + k.val) (idx7 t).2).trans (by show 0 * 2048 + k.val = k.val; omega)

/-- The block of the second half of the gate's bias at an index: its array's. -/
theorem blk_bb (c : Dev nD) (t : Fin cfg4.N) (q : Fin 1) (k : Fin 2048) : iblk4 V c 8 t (ix2 q k) = V c main_v81 (ix2 q k) := by
  refine congrArg (V c main_v81) (emb_eq win4_8 t (ix2 q k) _ fun a => ?_)
  match a with
  | ⟨0, _⟩ => exact (congrArg (· * 1 + q.val) (idx8 t).1).trans (by show 0 * 1 + q.val = q.val; omega)
  | ⟨1, _⟩ => exact (congrArg (· * 2048 + k.val) (idx8 t).2).trans (by show 0 * 2048 + k.val = k.val; omega)

/-- The block of the heads' weights at an index: its array's. -/
theorem blk_hw (c : Dev nD) (t : Fin cfg4.N) (q : Fin 1) (k : Fin 1024) : iblk4 V c 9 t (ix2 q k) = V c main_v82 (ix2 q k) := by
  refine congrArg (V c main_v82) (emb_eq win4_9 t (ix2 q k) _ fun a => ?_)
  match a with
  | ⟨0, _⟩ => exact (congrArg (· * 1 + q.val) (idx9 t).1).trans (by show 0 * 1 + q.val = q.val; omega)
  | ⟨1, _⟩ => exact (congrArg (· * 1024 + k.val) (idx9 t).2).trans (by show 0 * 1024 + k.val = k.val; omega)

/-- The block of the first branch's matrix at an index: its array's. -/
theorem blk_ua (c : Dev nD) (t : Fin cfg4.N) (q : Fin 1024) (k : Fin 2048) : iblk4 V c 10 t (ix2 q k) = V c main_v73 (ix2 q k) := by
  refine congrArg (V c main_v73) (emb_eq win4_10 t (ix2 q k) _ fun a => ?_)
  match a with
  | ⟨0, _⟩ => exact (congrArg (· * 1024 + q.val) (idx10 t).1).trans (by show 0 * 1024 + q.val = q.val; omega)
  | ⟨1, _⟩ => exact (congrArg (· * 2048 + k.val) (idx10 t).2).trans (by show 0 * 2048 + k.val = k.val; omega)

/-- The block of the second branch's matrix at an index: its array's. -/
theorem blk_ub (c : Dev nD) (t : Fin cfg4.N) (q : Fin 1024) (k : Fin 2048) : iblk4 V c 11 t (ix2 q k) = V c main_v74 (ix2 q k) := by
  refine congrArg (V c main_v74) (emb_eq win4_11 t (ix2 q k) _ fun a => ?_)
  match a with
  | ⟨0, _⟩ => exact (congrArg (· * 1024 + q.val) (idx11 t).1).trans (by show 0 * 1024 + q.val = q.val; omega)
  | ⟨1, _⟩ => exact (congrArg (· * 2048 + k.val) (idx11 t).2).trans (by show 0 * 2048 + k.val = k.val; omega)

/-- The block of the last projection's matrix at an index: its array's. -/
theorem blk_oo (c : Dev nD) (t : Fin cfg4.N) (q : Fin 2048) (k : Fin 2048) : iblk4 V c 12 t (ix2 q k) = V c main_v76 (ix2 q k) := by
  refine congrArg (V c main_v76) (emb_eq win4_12 t (ix2 q k) _ fun a => ?_)
  match a with
  | ⟨0, _⟩ => exact (congrArg (· * 2048 + q.val) (idx12 t).1).trans (by show 0 * 2048 + q.val = q.val; omega)
  | ⟨1, _⟩ => exact (congrArg (· * 2048 + k.val) (idx12 t).2).trans (by show 0 * 2048 + k.val = k.val; omega)

/-- The block of the last norm's weights at an index: its array's. -/
theorem blk_nw (c : Dev nD) (t : Fin cfg4.N) (q : Fin 1) (k : Fin 2048) : iblk4 V c 13 t (ix2 q k) = V c main_v83 (ix2 q k) := by
  refine congrArg (V c main_v83) (emb_eq win4_13 t (ix2 q k) _ fun a => ?_)
  match a with
  | ⟨0, _⟩ => exact (congrArg (· * 1 + q.val) (idx13 t).1).trans (by show 0 * 1 + q.val = q.val; omega)
  | ⟨1, _⟩ => exact (congrArg (· * 2048 + k.val) (idx13 t).2).trans (by show 0 * 2048 + k.val = k.val; omega)

end Cert.LayerIdeal.Mix

end
-- ==== Proof.MergeRun.lean ====
module

public import proofs.«01_k».proof.Proof.MergeWindows

@[expose] public section

noncomputable section

namespace Cert.LayerIdeal.Mix

open Cert.LayerIdeal Cert.LayerIdeal.Gen Idealize.ShloMosaic Idealize.ShloMosaic.TcCoe Idealize.SL.Sem
open Idealize.ShloMosaic.Pointwise

variable (V : (c : Dev nD) → (b : Ref sig .tc) → Buf (Elt Ideal) ((c : Thread nD τ).loc b))

/-- The merge of an array row, from the arrays the call finds. -/
def mergeAt (c : Dev nD) (r : Fin 16384) : Fin 2048 → EReal :=
  Cert.Mix.merge (fun k => V c main_v0 (ix2 r k)) (fun k => V c main_v68 (ix2 r k))
    (fun k => (show EReal from V c main_arg5 (ix2 r k)) + (show EReal from V c main_arg6 (ix2 r k)))
    (fun k => V c main_v9 (ix2 r ⟨5120 + k.val, by omega⟩)) (fun k => V c main_v82 (ix2 0 k))
    (fun k => (show EReal from V c main_v9 (ix2 r ⟨6144 + k.val, by omega⟩)) + (show EReal from V c main_v79 (ix2 0 k)))
    (fun k => (show EReal from V c main_v9 (ix2 r ⟨8192 + k.val, by omega⟩)) + (show EReal from V c main_v81 (ix2 0 k)))
    (fun k j => V c main_v73 (ix2 k j)) (fun k j => V c main_v74 (ix2 k j))
    (fun k j => V c main_v76 (ix2 k j)) (fun k => V c main_v83 (ix2 0 k))

/-- What the result array is shown to hold. -/
def result (c : Dev nD) : Buf (Elt Ideal) ((c : Thread nD τ).loc main_v84) := fun i =>
  mergeAt V c (i 0) (i 1)

/-- What a grid point's block of the result holds at an index: the merge of the index's array row. -/
theorem block_apply (c : Dev nD) (t : Fin cfg4.N) (q : Fin 256) (f : Fin 2048) :
    out4_14 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (ix2 q f)
      = mergeAt V c ⟨256 * t.val + q.val, by have := pt_lt t; omega⟩ f := by
  rw [out_apply]
  exact Cert.Mix.merge_congr (fun k => blk_x V c t q k) (fun k => blk_a V c t q k)
    (fun k => congrArg₂ (fun a b : EReal => a + b) (blk_f V c t q k) (blk_g V c t q k)) (fun k => blk_z V c t q k)
    (fun k => blk_hw V c t 0 k)
    (fun k => congrArg₂ (fun a b : EReal => a + b) (blk_p V c t q k) (blk_ba V c t 0 k))
    (fun k => congrArg₂ (fun a b : EReal => a + b) (blk_q V c t q k) (blk_bb V c t 0 k))
    (fun k j => blk_ua V c t k j) (fun k j => blk_ub V c t k j)
    (fun k j => blk_oo V c t k j) (fun k => blk_nw V c t 0 k) f

/-- What point `t` writes back is its block of the result. -/
theorem flushed_eq (c : Dev nD) (t : Fin cfg4.N) :
    (dat4 V c).flushed 14 t = (win4_14.blk t).view.read (Elt Ideal) (result V c) := by
  show (cfg4.win 14).cut (grid4.coords t) ((dat4 V c).after 14 t) = _
  rw [after4_14]
  funext y
  obtain ⟨q, f, rfl⟩ : ∃ (q : Fin 256) (f : Fin 2048), y = ix2 q f := ⟨y 0, y 1, by funext a; match a with | ⟨0, _⟩ => rfl | ⟨1, _⟩ => rfl⟩
  show out4_14 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (ix2 q f) = result V c ((win4_14.rect t).emb (ix2 q f))
  rw [block_apply]
  have e : (win4_14.rect t).emb (ix2 q f) = (ix2 ⟨256 * t.val + q.val, by have := pt_lt t; omega⟩ f : S16384x2048.Idx) := by
    refine emb_eq win4_14 t (ix2 q f) _ fun a => ?_
    match a with
    | ⟨0, _⟩ => exact (congrArg (· * 256 + q.val) (idx14 t).1).trans (by show t.val * 256 + q.val = 256 * t.val + q.val; omega)
    | ⟨1, _⟩ => exact (congrArg (· * 2048 + f.val) (idx14 t).2).trans (by show 0 * 2048 + f.val = f.val; omega)
  rw [e]
  rfl

/-- An index of the result array is in the block of the point its row names. -/
theorem mem_blk (t : Fin cfg4.N) (i : S16384x2048.Idx) (h : (i 0).val / 256 = t.val) : i ∈ ((cfg4.win 14).blk t).view.set := by
  show i ∈ ((View.whole main_v84).slice (win4_14.rect t)).set
  rw [View.set_slice_whole, Rect.mem_set_unit]
  have h1 : (i 1).val < 2048 := (i 1).isLt
  intro a
  match a with
  | ⟨0, _⟩ =>
    show win4_14.index t ⟨0, by decide⟩ * 256 ≤ (i 0).val ∧ (i 0).val < win4_14.index t ⟨0, by decide⟩ * 256 + 256
    rw [(idx14 t).1]; omega
  | ⟨1, _⟩ =>
    show win4_14.index t ⟨1, by decide⟩ * 2048 ≤ (i 1).val ∧ (i 1).val < win4_14.index t ⟨1, by decide⟩ * 2048 + 2048
    rw [(idx14 t).2]; omega

/-- The blocks cover the result array. -/
theorem cover (i : S16384x2048.Idx) : ∃ t : Fin cfg4.N, (cfg4.win 14).flush t = true ∧ i ∈ ((cfg4.win 14).blk t).view.set := by
  have h0 : (i 0).val < 16384 := (i 0).isLt
  have hN : cfg4.N = 64 := N_4
  exact ⟨⟨(i 0).val / 256, by omega⟩, flush4_14 _, mem_blk _ _ rfl⟩

/-- So the result array ends holding the merge. -/
theorem final (c : Dev nD) : (dat4 V c).arrAt 14 cfg4.N = result V c :=
  (dat4 V c).arrAt_eq_of_cover 14 (result V c) (fun t _ => flushed_eq V c t) cover

end Cert.LayerIdeal.Mix

end
-- ==== Proof.MergeHost.lean ====
module

public import proofs.«01_k».proof.Proof.MergeBlock
public import proofs.«01_k».proof.Proof.ProjHost
public import Idealize.ShloMosaic.Lib.StableHlo.Run

@[expose] public section

noncomputable section

namespace Cert.LayerIdeal.Mix

open Cert.LayerIdeal Cert.LayerIdeal.Gen Idealize.ShloMosaic Idealize.ShloMosaic.TcCoe Idealize.SL.Sem Idealize.ShloMosaic.StableHlo
open Idealize.ShloMosaic.Pointwise

variable (m : (ℓ : Loc nD τ sig) → Buf (Elt Ideal) ℓ) (ρ : Dev nD → PrngReg)

/-- The gate's bias as the host lays it out, at an index. -/
theorem bias_apply (y : FVec Ideal S1x4096 .f32) (n : Fin 4096) :
    shapeCast S4096 y shapeCasts_S1x4096_S4096 (ix1 n) = y (ix2 0 n) :=
  shapeCast_apply (s := S1x4096) y _ (ix1 n) (ix2 0 n)
    (by rewrite [Shape.rowMajor_val_two, Shape.rowMajor_val_one]; show 0 * 4096 + n.val = n.val; omega)

/-- The first half of the gate's bias, at an index. -/
theorem entry_ba (c : Dev nD) (k : Fin 2048) :
    V15 m ρ c main_v79 (ix2 0 k) = m ((c : Thread nD τ).loc main_arg3) (ix2 0 ⟨k.val, by omega⟩) := by
  have e : V15 m ρ c main_v79 = shapeCast S1x2048 (extractStridedSlice S2048 ![0] (shapeCast S4096 (m ((c : Thread nD τ).loc main_arg3)) shapeCasts_S1x4096_S4096) slices_S4096_S2048_0) shapeCasts_S2048_S1x2048 := by
    show StableHlo.after hostOps4 (W14 m ρ c) main_v79 = _
    after_results_simp
    rw [W14_args m ρ c main_arg3 (by decide)]
    rfl
  rw [e]
  generalize m ((c : Thread nD τ).loc main_arg3) = y
  refine Eq.trans ?_ (bias_apply y ⟨k.val, by omega⟩)
  generalize shapeCast S4096 y shapeCasts_S1x4096_S4096 = z
  pointwise []

/-- The second half of the gate's bias, at an index. -/
theorem entry_bb (c : Dev nD) (k : Fin 2048) :
    V15 m ρ c main_v81 (ix2 0 k) = m ((c : Thread nD τ).loc main_arg3) (ix2 0 ⟨2048 + k.val, by omega⟩) := by
  have e : V15 m ρ c main_v81 = shapeCast S1x2048 (extractStridedSlice S2048 ![2048] (shapeCast S4096 (m ((c : Thread nD τ).loc main_arg3)) shapeCasts_S1x4096_S4096) slices_S4096_S2048_2048) shapeCasts_S2048_S1x2048 := by
    show StableHlo.after hostOps4 (W14 m ρ c) main_v81 = _
    after_results_simp
    rw [W14_args m ρ c main_arg3 (by decide)]
    rfl
  rw [e]
  generalize m ((c : Thread nD τ).loc main_arg3) = y
  refine Eq.trans ?_ (bias_apply y ⟨2048 + k.val, by omega⟩)
  generalize shapeCast S4096 y shapeCasts_S1x4096_S4096 = z
  pointwise []

/-- The heads' weights at an index. -/
theorem entry_hw (c : Dev nD) (k : Fin 1024) :
    V15 m ρ c main_v82 (ix2 0 k) = m ((c : Thread nD τ).loc main_arg7) (ix2 0 k) := by
  have e : V15 m ρ c main_v82 = shapeCast S1x1024 (shapeCast S1024 (m ((c : Thread nD τ).loc main_arg7)) shapeCasts_S1x1024_S1024) shapeCasts_S1024_S1x1024 := by
    show StableHlo.after hostOps4 (W14 m ρ c) main_v82 = _
    after_results_simp
    rw [W14_args m ρ c main_arg7 (by decide)]
    rfl
  rw [e]
  generalize m ((c : Thread nD τ).loc main_arg7) = y
  pointwise []

/-- The last norm's weights at an index. -/
theorem entry_nw (c : Dev nD) (k : Fin 2048) :
    V15 m ρ c main_v83 (ix2 0 k) = m ((c : Thread nD τ).loc main_arg10) (ix2 0 k) := by
  have e : V15 m ρ c main_v83 = shapeCast S1x2048 (shapeCast S2048 (m ((c : Thread nD τ).loc main_arg10)) shapeCasts_S1x2048_S2048) shapeCasts_S2048_S1x2048 := by
    show StableHlo.after hostOps4 (W14 m ρ c) main_v83 = _
    after_results_simp
    rw [W14_args m ρ c main_arg10 (by decide)]
    rfl
  rw [e]
  generalize m ((c : Thread nD τ).loc main_arg10) = y
  pointwise []

/-- A matrix as the host lays it out and rounds it, at an index. -/
theorem matrix_apply (y : FVec Ideal S1x2048x2048 .f32) (k j : Fin 2048) :
    truncf (F := Ideal) .bf16 (shapeCast S2048x2048 y shapeCasts_S1x2048x2048_S2048x2048 : FVec Ideal S2048x2048 .f32) bitsLt_bf16_f32
      (ix2 k j) = y (ix3 0 k j) := by
  rw [ValueIdx.truncf_apply]
  exact shapeCast_apply (s := S1x2048x2048) (α := Ideal .f32) y _ (ix2 k j) (ix3 0 k j)
    (by rewrite [Shape.rowMajor_val_three, Shape.rowMajor_val_two]; show (0 * 2048 + k.val) * 2048 + j.val = k.val * 2048 + j.val; omega)

/-- The last projection's matrix at an index. -/
theorem entry_o (c : Dev nD) (k j : Fin 2048) :
    V15 m ρ c main_v76 (ix2 k j) = m ((c : Thread nD τ).loc main_arg9) (ix3 0 k j) := by
  have e : V15 m ρ c main_v76 = (truncf (F := Ideal) .bf16 (shapeCast S2048x2048 (m ((c : Thread nD τ).loc main_arg9)) shapeCasts_S1x2048x2048_S2048x2048 : FVec Ideal S2048x2048 .f32) bitsLt_bf16_f32 : FVec Ideal S2048x2048 .bf16) := by
    show StableHlo.after hostOps4 (W14 m ρ c) main_v76 = _
    after_results_simp
    rw [W14_args m ρ c main_arg9 (by decide)]
    rfl
  rw [e]
  generalize m ((c : Thread nD τ).loc main_arg9) = y
  exact matrix_apply y k j

/-- The first branch's matrix at an index: the upper rows. -/
theorem entry_ua (c : Dev nD) (k : Fin 1024) (j : Fin 2048) :
    V15 m ρ c main_v73 (ix2 k j) = m ((c : Thread nD τ).loc main_arg8) (ix3 0 ⟨k.val, by omega⟩ j) := by
  have e : V15 m ρ c main_v73 = extractStridedSlice S1024x2048 ![0, 0] (truncf (F := Ideal) .bf16 (shapeCast S2048x2048 (m ((c : Thread nD τ).loc main_arg8)) shapeCasts_S1x2048x2048_S2048x2048 : FVec Ideal S2048x2048 .f32) bitsLt_bf16_f32 : FVec Ideal S2048x2048 .bf16) slices_S2048x2048_S1024x2048_0_0 := by
    show StableHlo.after hostOps4 (W14 m ρ c) main_v73 = _
    after_results_simp
    rw [W14_args m ρ c main_arg8 (by decide)]
    rfl
  rw [e]
  generalize m ((c : Thread nD τ).loc main_arg8) = y
  refine Eq.trans ?_ (matrix_apply y ⟨k.val, by omega⟩ j)
  generalize truncf (F := Ideal) .bf16 (shapeCast S2048x2048 y shapeCasts_S1x2048x2048_S2048x2048 : FVec Ideal S2048x2048 .f32) bitsLt_bf16_f32 = z
  pointwise []

/-- The second branch's matrix at an index: the lower rows. -/
theorem entry_ub (c : Dev nD) (k : Fin 1024) (j : Fin 2048) :
    V15 m ρ c main_v74 (ix2 k j) = m ((c : Thread nD τ).loc main_arg8) (ix3 0 ⟨1024 + k.val, by omega⟩ j) := by
  have e : V15 m ρ c main_v74 = extractStridedSlice S1024x2048 ![1024, 0] (truncf (F := Ideal) .bf16 (shapeCast S2048x2048 (m ((c : Thread nD τ).loc main_arg8)) shapeCasts_S1x2048x2048_S2048x2048 : FVec Ideal S2048x2048 .f32) bitsLt_bf16_f32 : FVec Ideal S2048x2048 .bf16) slices_S2048x2048_S1024x2048_1024_0 := by
    show StableHlo.after hostOps4 (W14 m ρ c) main_v74 = _
    after_results_simp
    rw [W14_args m ρ c main_arg8 (by decide)]
    rfl
  rw [e]
  generalize m ((c : Thread nD τ).loc main_arg8) = y
  refine Eq.trans ?_ (matrix_apply y ⟨1024 + k.val, by omega⟩ j)
  generalize truncf (F := Ideal) .bf16 (shapeCast S2048x2048 y shapeCasts_S1x2048x2048_S2048x2048 : FVec Ideal S2048x2048 .f32) bitsLt_bf16_f32 = z
  pointwise []

end Cert.LayerIdeal.Mix

end
-- ==== Proof.Carry.lean ====
module

public import proofs.«01_k».proof.Proof.ProjHost
public import proofs.«01_k».proof.Proof.Blocks
public import proofs.«01_k».proof.Proof.MergeRun
public import proofs.«01_k».proof.Proof.MergeHost

@[expose] public section

noncomputable section

namespace Cert.LayerIdeal.Whole

open Cert.LayerIdeal Cert.LayerIdeal.Gen Idealize.ShloMosaic Idealize.ShloMosaic.TcCoe Idealize.SL.Sem
open Idealize.ShloMosaic.Pointwise

variable (m : (ℓ : Loc nD τ sig) → Buf (Elt Ideal) ℓ) (ρ : Dev nD → PrngReg)

/-- The host's operations before the attention's call leave an array they do not write as the projections left it. -/
theorem at13 (c : Dev nD) (b : Ref sig .tc) (h0 : b ∉ hostOps3_W) (h1 : b ∉ hostOps3_1_W) (h2 : b ∉ hostOps3_2_W)
    (h3 : b ∉ hostOps3_3_W) (h4 : b ∉ hostOps3_4_W) (h5 : b ∉ hostOps3_5_W) (h6 : b ∉ hostOps3_6_W) :
    W13 m ρ c (Proc.devRef .tc b) = W6 m ρ c (Proc.devRef .tc b) :=
  (W13_of m ρ c b h6).trans ((W12_of m ρ c b h5).trans ((W11_of m ρ c b h4).trans ((W10_of m ρ c b h3).trans
    ((W9_of m ρ c b h2).trans ((W8_of m ρ c b h1).trans (W7_of m ρ c b h0))))))

/-- The projection of the arguments the memory holds. -/
def argProj (c : Dev nD) (r : Fin 16384) (f : Fin 13312) : EReal :=
  Rms.proj (fun r k => m ((c : Thread nD τ).loc main_arg0) (ix3 0 r k)) (fun k => m ((c : Thread nD τ).loc main_arg1) (ix2 0 k))
    (fun k f => m ((c : Thread nD τ).loc main_arg2) (ix3 0 k f)) r f

/-- The rows after the norm, of the arguments. -/
theorem rows_apply (c : Dev nD) (r : Fin 16384) (k : Fin 2048) :
    Proj.rows (V1 m ρ) c (ix2 r k) = Rms.normed (fun r k => m ((c : Thread nD τ).loc main_arg0) (ix3 0 r k))
      (fun k => m ((c : Thread nD τ).loc main_arg1) (ix2 0 k)) r k := by
  show Rms.normed (fun r k => V1 m ρ c main_v0 (ix2 r k)) (fun k => V1 m ρ c main_v4 (ix2 0 k)) r k = _
  exact congrArg₂ (fun a b => Rms.normed a b r k) (funext fun r => funext fun k => Proj.entry_x m ρ c r k)
    (funext fun k => Proj.entry_w m ρ c k)

/-- The queries, keys and values of the arguments. -/
def qkv (c : Dev nD) : FVec Ideal S16384x3072 .bf16 := fun i =>
  argProj m c (i 0) ⟨(i 1).val, by have h : (i 1).val < 3072 := (i 1).isLt; omega⟩

/-- The projection's other columns. -/
def rest (c : Dev nD) : FVec Ideal S16384x10240 .f32 := fun i =>
  argProj m c (i 0) ⟨3072 + (i 1).val, by have h : (i 1).val < 10240 := (i 1).isLt; omega⟩

/-- The bias as the attention's call takes it. -/
def bias (c : Dev nD) : FVec Ideal S16x15x31 .f32 :=
  shapeCast S16x15x31 (m ((c : Thread nD τ).loc main_arg4)) shapeCasts_S1x16x15x31_S16x15x31

/-- The attention's call finds the queries, keys and values of the arguments. -/
theorem at13_qkv (c : Dev nD) : V13 m ρ c main_v7 = qkv m c := by
  have e : V13 m ρ c main_v7 = Proj.product1 (V3 m ρ) c :=
    (at13 m ρ c main_v7 (by decide) (by decide) (by decide) (by decide) (by decide) (by decide) (by decide)).trans
      ((W6_of_ne m ρ c main_v7 (by decide)).trans ((W5_of m ρ c main_v7 (by decide)).trans
        ((W4_arr m ρ c 2).trans (Proj.final1 (V3 m ρ) c))))
  rw [e]
  funext i
  show Proj.entry1 (V3 m ρ c main_v5) (V3 m ρ c main_v6) (i 0) (i 1) = _
  rw [Proj.rows1]
  unfold Proj.entry1 qkv argProj Rms.proj
  refine Finset.sum_congr rfl fun k _ => ?_
  exact congrArg₂ (· * ·) (rows_apply m ρ c (i 0) k) (Proj.entry_qkv m ρ c k (i 1))

/-- And the projection's other columns. -/
theorem at13_rest (c : Dev nD) : V13 m ρ c main_v9 = rest m c := by
  have e : V13 m ρ c main_v9 = Proj.product2 (V5 m ρ) c :=
    (at13 m ρ c main_v9 (by decide) (by decide) (by decide) (by decide) (by decide) (by decide) (by decide)).trans
      ((W6_arr m ρ c 2).trans (Proj.final2 (V5 m ρ) c))
  rw [e]
  funext i
  show Proj.entry2 (V5 m ρ c main_v5) (V5 m ρ c main_v8) (i 0) (i 1) = _
  rw [Proj.rows2]
  unfold Proj.entry2 rest argProj Rms.proj
  refine Finset.sum_congr rfl fun k _ => ?_
  exact congrArg₂ (· * ·) (rows_apply m ρ c (i 0) k) (Proj.entry_rest m ρ c k (i 1))

/-- The host lays out the bias for the table. -/
theorem at7_bias (c : Dev nD) : W7 m ρ c main_v10 = bias m c := by
  have e : W7 m ρ c main_v10 = shapeCast S16x15x31 (W6 m ρ c main_arg4) shapeCasts_S1x16x15x31_S16x15x31 := by
    show StableHlo.after hostOps3 (W6 m ρ c) main_v10 = _
    after_results_simp
    rfl
  rw [e, W6_args m ρ c main_arg4 (by decide)]
  rfl

/-- So it finds the bias table of the arguments. -/
theorem at13_table (c : Dev nD) : V13 m ρ c main_v67 = Attn.table (bias m c) := by
  rw [Attn.entry_table, at7_bias]

/-- The attention of the arguments. -/
def att (c : Dev nD) : FVec Ideal S16384x1024 .bf16 := fun i => Na.attention (qkv m c) (rest m c) (bias m c) (i 0) (i 1)

/-- The merge's call finds the attention of the arguments. -/
theorem at15_att (c : Dev nD) : V15 m ρ c main_v68 = att m c := by
  have e : V15 m ρ c main_v68 = Attn.result (V13 m ρ) (bias m c) c :=
    (W15_of m ρ c main_v68 (by decide)).trans ((W14_arr m ρ c 5).trans (Attn.final (V13 m ρ) (bias m c) c (at13_table m ρ c)))
  rw [e]
  funext i
  show Na.attention (V13 m ρ c main_v7) (V13 m ρ c main_v9) (bias m c) (i 0) (i 1) = _
  rw [at13_qkv, at13_rest]
  rfl

/-- And the projection's other columns. -/
theorem at15_rest (c : Dev nD) : V15 m ρ c main_v9 = rest m c :=
  (W15_of m ρ c main_v9 (by decide)).trans ((W14_of m ρ c main_v9 (by decide)).trans (at13_rest m ρ c))

/-- And the layer's input, at an index. -/
theorem at15_x (c : Dev nD) (r : Fin 16384) (k : Fin 2048) :
    V15 m ρ c main_v0 (ix2 r k) = m ((c : Thread nD τ).loc main_arg0) (ix3 0 r k) := by
  have e : V15 m ρ c main_v0 = V1 m ρ c main_v0 :=
    (W15_of m ρ c main_v0 (by decide)).trans ((W14_of m ρ c main_v0 (by decide)).trans
      ((at13 m ρ c main_v0 (by decide) (by decide) (by decide) (by decide) (by decide) (by decide) (by decide)).trans
        ((W6_of m ρ c main_v0 (by decide)).trans ((W5_of m ρ c main_v0 (by decide)).trans ((W4_of m ρ c main_v0 (by decide)).trans
          ((W3_of m ρ c main_v0 (by decide)).trans (W2_of m ρ c main_v0 (by decide))))))))
  rw [e]
  exact Proj.entry_x m ρ c r k

end Cert.LayerIdeal.Whole

end
-- ==== Proof.ProjLaunch.lean ====
module

public import proofs.«01_k».proof.Proof.Gen.LayerIdeal.Frame
public import Idealize.ShloMosaic.PureOps.Ideal.Laws

@[expose] public section

set_option maxRecDepth 16384

noncomputable section

namespace Cert.LayerIdeal.Proj

open Cert.LayerIdeal Cert.LayerIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable (m : (ℓ : Loc nD τ sig) → Buf (Elt Ideal) ℓ) (ρ : Dev nD → PrngReg)

local notation "𝕄" => MT nD τ sig Unit (Elt Ideal) ℕ (UR sig nD τ) ℕ

/-- The ghost resource the five pipelines start from. -/
abbrev seed : UR sig nD τ := initOf (Pipeline.cells cfgs cellOf_inj) (Pipeline.launchToks cfgs cellOf_inj)

/-- Owning the seed is what the launch hands out: the pipelines' share, and nothing for each core. -/
theorem seed_split : (ownU seed : sProp 𝕄) ⊢ iprop(BI.own (emb₁ seed) ∗ bigSep Finset.univ (fun _ : Dev nD => (BI.emp : sProp 𝕄))) := by
  have h1 : (ownU seed : sProp 𝕄) ⊢ BI.own (emb₁ seed) := .rfl
  have h2 : (BI.emp : sProp 𝕄) ⊢ bigSep Finset.univ (fun _ : Dev nD => (BI.emp : sProp 𝕄)) := by rw [BI.bigSep_emp_const]
  iintro H
  isplitl [H]
  · iapply h1; iexact H
  · iapply h2; iempintro

set_option backward.isDefEq.respectTransparency.types false in
/-- The five calls in order, run from any memory: in the end every array outside a call's own scope holds what the
    last boundary says. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W16 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := seed)
    (hu₀ := by iintro H; imodintro; iapply seed_split; iexact H)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W16 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W16 m ρ c) s')
      isplitl [Hbufs] <;> iassumption)
    (hQ := fun _ h _ => h)

end Cert.LayerIdeal.Proj

end
-- ==== Proof.LayerRun.lean ====
module

public import proofs.«01_k».proof.Proof.Carry
public import proofs.«01_k».proof.Proof.ProjLaunch

@[expose] public section

noncomputable section

namespace Cert.LayerIdeal.Whole

open Cert.LayerIdeal Cert.LayerIdeal.Gen Idealize.ShloMosaic Idealize.ShloMosaic.TcCoe Idealize.SL.Sem
open Idealize.ShloMosaic.Pointwise

variable (m : (ℓ : Loc nD τ sig) → Buf (Elt Ideal) ℓ) (ρ : Dev nD → PrngReg)

/-- What the result array is shown to hold: the layer of the arguments. -/
def out (c : Dev nD) : Buf (Elt Ideal) ((c : Thread nD τ).loc main_v84) := fun i =>
  Cert.Mix.layer (m ((c : Thread nD τ).loc main_arg0)) (att m c) (m ((c : Thread nD τ).loc main_arg5))
    (m ((c : Thread nD τ).loc main_arg6)) (rest m c) (m ((c : Thread nD τ).loc main_arg3)) (m ((c : Thread nD τ).loc main_arg7))
    (m ((c : Thread nD τ).loc main_arg8)) (m ((c : Thread nD τ).loc main_arg9)) (m ((c : Thread nD τ).loc main_arg10)) (i 0) (i 1)

/-- The forward scan reaches the merge's call as given. -/
theorem at15_f (c : Dev nD) (i : S16384x1024.Idx) : V15 m ρ c main_arg5 i = m ((c : Thread nD τ).loc main_arg5) i :=
  congrFun (W15_args m ρ c main_arg5 (by decide)) i

/-- The backward scan reaches the merge's call as given. -/
theorem at15_b (c : Dev nD) (i : S16384x1024.Idx) : V15 m ρ c main_arg6 i = m ((c : Thread nD τ).loc main_arg6) i :=
  congrFun (W15_args m ρ c main_arg6 (by decide)) i

/-- The merge of the arrays its call finds is the layer of the arguments. -/
theorem merge_eq (c : Dev nD) (r : Fin 16384) (j : Fin 2048) : Mix.mergeAt (V15 m ρ) c r j = out m c (ix2 r j) :=
  Cert.Mix.merge_congr (fun k => at15_x m ρ c r k) (fun k => congrFun (at15_att m ρ c) (ix2 r k))
    (fun k => congrArg₂ (fun a b : EReal => a + b) (at15_f m ρ c (ix2 r k)) (at15_b m ρ c (ix2 r k)))
    (fun k => congrFun (at15_rest m ρ c) (ix2 r ⟨5120 + k.val, by omega⟩)) (fun k => Mix.entry_hw m ρ c k)
    (fun k => congrArg₂ (fun a b : EReal => a + b) (congrFun (at15_rest m ρ c) (ix2 r ⟨6144 + k.val, by omega⟩)) (Mix.entry_ba m ρ c k))
    (fun k => congrArg₂ (fun a b : EReal => a + b) (congrFun (at15_rest m ρ c) (ix2 r ⟨8192 + k.val, by omega⟩)) (Mix.entry_bb m ρ c k))
    (fun k j => Mix.entry_ua m ρ c k j) (fun k j => Mix.entry_ub m ρ c k j) (fun k j => Mix.entry_o m ρ c k j)
    (fun k => Mix.entry_nw m ρ c k) j

/-- The result array at the end. -/
theorem end_out (c : Dev nD) : W16 m ρ c main_v84 = out m c := by
  have e : W16 m ρ c main_v84 = Mix.result (V15 m ρ) c := (W16_arr m ρ c 14).trans (Mix.final (V15 m ρ) c)
  rw [e]
  funext i
  obtain ⟨r, j, rfl⟩ : ∃ (r : Fin 16384) (j : Fin 2048), i = ix2 r j := ⟨i 0, i 1, by funext a; match a with | ⟨0, _⟩ => rfl | ⟨1, _⟩ => rfl⟩
  exact merge_eq m ρ c r j

/-- The run of the five calls: the result array holds the layer of the arguments, and the arguments are unchanged. -/
theorem run :
    θ_run defs (onTc (τ := τ) (main (F := Ideal))) ⟨m, fun _ => 0, ρ⟩ fun r => ∀ c : Dev nD,
      r.2.mem ((c : Thread nD τ).loc main_v84) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c =>
    ⟨(h c _ (mem_uc main_v84 (by decide))).trans (end_out m ρ c),
      (h c _ (mem_uc main_arg0 (by decide))).trans (W16_main_arg0 m ρ c),
      (h c _ (mem_uc main_arg1 (by decide))).trans (W16_main_arg1 m ρ c),
      (h c _ (mem_uc main_arg2 (by decide))).trans (W16_main_arg2 m ρ c),
      (h c _ (mem_uc main_arg3 (by decide))).trans (W16_main_arg3 m ρ c),
      (h c _ (mem_uc main_arg4 (by decide))).trans (W16_main_arg4 m ρ c),
      (h c _ (mem_uc main_arg5 (by decide))).trans (W16_main_arg5 m ρ c),
      (h c _ (mem_uc main_arg6 (by decide))).trans (W16_main_arg6 m ρ c),
      (h c _ (mem_uc main_arg7 (by decide))).trans (W16_main_arg7 m ρ c),
      (h c _ (mem_uc main_arg8 (by decide))).trans (W16_main_arg8 m ρ c),
      (h c _ (mem_uc main_arg9 (by decide))).trans (W16_main_arg9 m ρ c),
      (h c _ (mem_uc main_arg10 (by decide))).trans (W16_main_arg10 m ρ c)⟩) (Proj.run_all m ρ)

end Cert.LayerIdeal.Whole

end
-- ==== Proof.RefProj.lean ====
module

public import proofs.«01_k».proof.Proof.Gen.LayerRefIdeal.Read
public import proofs.«01_k».proof.Proof.Rms
public import proofs.«01_k».proof.Proof.Consts
public import Idealize.ShloMosaic.Lib.Pointwise
public import Idealize.ShloMosaic.PureOps.Ideal.Laws

@[expose] public section

noncomputable section

namespace Cert.LayerRefIdeal.Proj

open Cert.LayerRefIdeal Cert.LayerRefIdeal.Read Idealize.ShloMosaic Idealize.ShloMosaic.Pointwise

variable (x : FVec Ideal S1x16384x2048 .f32) (w : FVec Ideal S1x2048 .f32) (u : FVec Ideal S1x2048x13312 .f32)

/-- The layer's input at an index. -/
theorem input_apply (r : Fin 16384) (k : Fin 2048) : val_main_v0 (F := Ideal) x (ix2 r k) = x (ix3 0 r k) := by
  rw [val_main_v0_apply]
  refine congrArg x (funext fun a => Fin.ext ?_)
  have hr := r.isLt
  have hk := k.isLt
  match a with
  | ⟨0, _⟩ => rfl
  | ⟨1, _⟩ => show (r.val * 2048 + k.val) / 2048 % 16384 = r.val; omega
  | ⟨2, _⟩ => show (r.val * 2048 + k.val) % 2048 = k.val; omega

/-- The reference's row scale at a row. -/
theorem scale_apply (r : Fin 16384) :
    val_main_v9 (F := Ideal) x (ix2 r 0) = Rms.scale 0x45000000#32 (fun k : Fin 2048 => x (ix3 0 r k)) := by
  rw [val_main_v9_apply, val_main_v8_apply, val_main_v6_apply, val_main_v7_apply, val_main_v5_apply, val_main_v4_apply,
    val_main_v3_apply]
  have e : ∀ i, val_main_cst (F := Ideal) i = 0 := fun i => Consts.zero_f32
  rw [e, zero_add]
  have s : (∑ k : Fin 2048, val_main_v2 (F := Ideal) x (idx_main_v3 (idx_main_v4 (ix2 r 0)) k))
      = ∑ k : Fin 2048, x (ix3 0 r k) * x (ix3 0 r k) := by
    refine Finset.sum_congr rfl fun k _ => ?_
    rw [val_main_v2_apply]
    have ei : idx_main_v3 (idx_main_v4 (ix2 r 0)) k = ix2 r k := by
      funext a; match a with | ⟨0, _⟩ => rfl | ⟨1, _⟩ => rfl
    rw [ei, input_apply]
    rfl
  rw [s]
  rfl

/-- The reference's rows after the norm, at an index. -/
theorem norm_apply (r : Fin 16384) (k : Fin 2048) :
    val_main_v14 (F := Ideal) x w (ix2 r k)
      = Rms.normed (fun r k => x (ix3 0 r k)) (fun k => w (ix2 0 k)) r k := by
  rw [val_main_v14_apply, val_main_v11_apply, val_main_v10_apply, val_main_v13_apply, val_main_v12_apply, val_main_v1_apply]
  have e1 : idx_main_v10 (ix2 r k) = ix2 r 0 := by
    funext a; match a with | ⟨0, _⟩ => rfl | ⟨1, _⟩ => rfl
  have e2 : idx_main_v1 (idx_main_v12 (idx_main_v13 (ix2 r k))) = ix2 0 k := by
    funext a
    match a with
    | ⟨0, _⟩ => rfl
    | ⟨1, _⟩ => exact Fin.ext (Nat.mod_eq_of_lt k.isLt)
  rw [e1, e2, scale_apply, input_apply]
  rfl

/-- The reference's projection at an index. -/
theorem proj_apply (r : Fin 16384) (f : Fin 13312) :
    val_main_v16 (F := Ideal) x w u (ix2 r f)
      = Rms.proj (fun r k => x (ix3 0 r k)) (fun k => w (ix2 0 k)) (fun k f => u (ix3 0 k f)) r f := by
  rw [val_main_v16_apply]
  refine Finset.sum_congr rfl fun k _ => ?_
  have e1 : lidx_main_v16 (ix2 r f) k = ix2 r k := by
    funext a; match a with | ⟨0, _⟩ => rfl | ⟨1, _⟩ => rfl
  rw [e1, norm_apply, val_main_v15_apply]
  refine congrArg (_ * ·) (congrArg u (funext fun a => Fin.ext ?_))
  have hk := k.isLt
  have hf := f.isLt
  match a with
  | ⟨0, _⟩ => rfl
  | ⟨1, _⟩ => show (k.val * 13312 + f.val) / 13312 % 2048 = k.val; omega
  | ⟨2, _⟩ => show (k.val * 13312 + f.val) % 13312 = f.val; omega

/-- The queries, the keys and the values at an index: the first 3072 columns of the projection. -/
theorem qkv_apply (r : Fin 16384) (f : Fin 3072) :
    val_main_v17 (F := Ideal) x w u (ix2 r f)
      = Rms.proj (fun r k => x (ix3 0 r k)) (fun k => w (ix2 0 k)) (fun k f => u (ix3 0 k f)) r ⟨f.val, by omega⟩ := by
  rw [val_main_v17_apply]
  refine Eq.trans (congrArg (val_main_v16 (F := Ideal) x w u) (funext fun a => ?_)) (proj_apply x w u r ⟨f.val, by omega⟩)
  match a with | ⟨0, _⟩ => rfl | ⟨1, _⟩ => rfl

/-- The other columns of the projection at an index. -/
theorem rest_apply (r : Fin 16384) (f : Fin 10240) :
    val_main_v18 (F := Ideal) x w u (ix2 r f)
      = Rms.proj (fun r k => x (ix3 0 r k)) (fun k => w (ix2 0 k)) (fun k f => u (ix3 0 k f)) r ⟨3072 + f.val, by omega⟩ := by
  rw [val_main_v18_apply]
  refine Eq.trans (congrArg (val_main_v16 (F := Ideal) x w u) (funext fun a => ?_)) (proj_apply x w u r ⟨3072 + f.val, by omega⟩)
  match a with | ⟨0, _⟩ => rfl | ⟨1, _⟩ => rfl

end Cert.LayerRefIdeal.Proj

end
-- ==== Proof.RefHead.lean ====
module

public import proofs.«01_k».proof.Proof.Gen.LayerRefIdeal.Read
public import proofs.«01_k».proof.Proof.MergeSpec
public import proofs.«01_k».proof.Proof.Consts
public import Idealize.ShloMosaic.Lib.Pointwise
public import Idealize.ShloMosaic.PureOps.Ideal.Laws

@[expose] public section

noncomputable section

namespace Cert.LayerRefIdeal.Mix

open Cert.LayerRefIdeal Cert.LayerRefIdeal.Read Idealize.ShloMosaic Idealize.ShloMosaic.Pointwise

variable (x0 : FVec Ideal S1x16384x2048 .f32) (x1 : FVec Ideal S1x2048 .f32) (x2 : FVec Ideal S1x2048x13312 .f32)
  (x3 : FVec Ideal S1x4096 .f32) (x4 : FVec Ideal S1x16x15x31 .f32) (x5 x6 : FVec Ideal S16384x1024 .f32) (x7 : FVec Ideal S1x1024 .f32)
  (x8 x9 : FVec Ideal S1x2048x2048 .f32) (x10 : FVec Ideal S1x2048 .f32)

/-- The summed scans, head by head, at an index. -/
theorem sum_apply (r : Fin 16384) (h : Fin 8) (d : Fin 128) :
    val_main_v128 (F := Ideal) x5 x6 (ix3 r h d)
      = x5 (ix2 r ⟨128 * h.val + d.val, by omega⟩) + x6 (ix2 r ⟨128 * h.val + d.val, by omega⟩) := by
  rw [val_main_v128_apply]
  have e : idx_main_v128 (ix3 r h d) = ix2 r ⟨128 * h.val + d.val, by omega⟩ := by
    have hr := r.isLt
    have hh := h.isLt
    have hd := d.isLt
    funext a
    match a with
    | ⟨0, _⟩ => exact Fin.ext (by show ((r.val * 8 + h.val) * 128 + d.val) / 1024 = r.val; omega)
    | ⟨1, _⟩ => exact Fin.ext (by show ((r.val * 8 + h.val) * 128 + d.val) % 1024 = 128 * h.val + d.val; omega)
  rw [e]
  rfl

/-- The reference's scale of a head's row. -/
theorem scale_apply (r : Fin 16384) (h : Fin 8) :
    val_main_v138 (F := Ideal) x5 x6 (ix3 r h 0) = Rms.scale 0x43000000#32
      (fun k : Fin 128 => x5 (ix2 r ⟨128 * h.val + k.val, by omega⟩) + x6 (ix2 r ⟨128 * h.val + k.val, by omega⟩)) := by
  rw [val_main_v138_apply, val_main_v137_apply, val_main_v135_apply, val_main_v136_apply, val_main_v134_apply, val_main_v133_apply,
    val_main_v132_apply]
  have e : ∀ i, val_main_cst_27 (F := Ideal) i = 0 := fun i => Consts.zero_f32
  rw [e, zero_add]
  have s : (∑ k : Fin 128, val_main_v131 (F := Ideal) x5 x6 (idx_main_v132 (idx_main_v133 (ix3 r h 0)) k))
      = ∑ k : Fin 128, (x5 (ix2 r ⟨128 * h.val + k.val, by omega⟩) + x6 (ix2 r ⟨128 * h.val + k.val, by omega⟩))
          * (x5 (ix2 r ⟨128 * h.val + k.val, by omega⟩) + x6 (ix2 r ⟨128 * h.val + k.val, by omega⟩)) := by
    refine Finset.sum_congr rfl fun k _ => ?_
    rw [val_main_v131_apply]
    have ei : idx_main_v132 (idx_main_v133 (ix3 r h 0)) k = ix3 r h k := by
      funext a; match a with | ⟨0, _⟩ => rfl | ⟨1, _⟩ => rfl | ⟨2, _⟩ => rfl
    rw [ei, sum_apply]
    rfl
  rw [s]
  rfl

/-- The heads' weights at an index. -/
theorem weight_apply (r : Fin 16384) (h : Fin 8) (d : Fin 128) :
    val_main_v142 (F := Ideal) x7 (ix3 r h d) = x7 (ix2 0 ⟨128 * h.val + d.val, by omega⟩) := by
  rw [val_main_v142_apply, val_main_v141_apply, val_main_v130_apply, val_main_v129_apply]
  refine congrArg x7 (funext fun a => Fin.ext ?_)
  have hh := h.isLt
  have hd := d.isLt
  match a with
  | ⟨0, _⟩ => rfl
  | ⟨1, _⟩ => show (h.val * 128 + d.val) % 1024 = 128 * h.val + d.val; omega

/-- The reference's heads after their norm, at an index. -/
theorem norm_apply (r : Fin 16384) (f : Fin 1024) :
    val_main_v144 (F := Ideal) x5 x6 x7 (ix2 r f)
      = Cert.Mix.headNorm (fun k => x5 (ix2 r k) + x6 (ix2 r k)) (fun k => x7 (ix2 0 k)) f := by
  have hd : f.val / 128 < 8 := by omega
  have hm : f.val % 128 < 128 := by omega
  have ei : idx_main_v144 (ix2 r f) = ix3 r ⟨f.val / 128, hd⟩ ⟨f.val % 128, hm⟩ := by
    have hr := r.isLt
    have hf := f.isLt
    funext a
    match a with
    | ⟨0, _⟩ => exact Fin.ext (by show (r.val * 1024 + f.val) / 1024 = r.val; omega)
    | ⟨1, _⟩ => exact Fin.ext (by show (r.val * 1024 + f.val) / 128 % 8 = f.val / 128; omega)
    | ⟨2, _⟩ => exact Fin.ext (by show (r.val * 1024 + f.val) % 128 = f.val % 128; omega)
  have e16 : idx_main_v139 (ix3 r ⟨f.val / 128, hd⟩ ⟨f.val % 128, hm⟩) = ix3 r ⟨f.val / 128, hd⟩ 0 := by
    funext a; match a with | ⟨0, _⟩ => rfl | ⟨1, _⟩ => rfl | ⟨2, _⟩ => rfl
  rw [val_main_v144_apply, ei, val_main_v143_apply, val_main_v140_apply, val_main_v139_apply, e16, sum_apply, scale_apply, weight_apply]
  simp only [Nat.div_add_mod]
  rfl

/-- The sigmoid the reference spells out. -/
theorem sigmoid_eq (z : EReal) :
    Ideal.div (Ideal.ofBits .f32 0x3F800000#32) (Ideal.ofBits .f32 0x3F800000#32 + Ideal.exp (-z)) = Ideal.logistic z := by
  rw [Consts.one_f32]
  rfl

/-- The reference's second branch at an index: the heads under the gate. -/
theorem branch_apply (r : Fin 16384) (f : Fin 1024) :
    val_main_v146 (F := Ideal) x0 x1 x2 x5 x6 x7 (ix2 r f)
      = Cert.Mix.gated (fun k => x5 (ix2 r k) + x6 (ix2 r k)) (fun k => val_main_v18 (F := Ideal) x0 x1 x2 (ix2 r ⟨5120 + k.val, by omega⟩))
          (fun k => x7 (ix2 0 k)) f := by
  have e1 : val_main_v125 (F := Ideal) x0 x1 x2 (ix2 r f) = val_main_v18 (F := Ideal) x0 x1 x2 (ix2 r ⟨5120 + f.val, by omega⟩) := by
    rw [val_main_v125_apply]
    refine congrArg (val_main_v18 (F := Ideal) x0 x1 x2) (funext fun a => ?_)
    match a with | ⟨0, _⟩ => rfl | ⟨1, _⟩ => rfl
  have e2 : val_main_call5_v5 (F := Ideal) x0 x1 x2 (ix2 r f) = Ideal.logistic (val_main_v18 (F := Ideal) x0 x1 x2 (ix2 r ⟨5120 + f.val, by omega⟩)) := by
    rw [← sigmoid_eq, ← e1]
    rfl
  rw [val_main_v146_apply, val_main_v145_apply, norm_apply, e1, e2]
  rfl

end Cert.LayerRefIdeal.Mix

end
-- ==== Proof.RefMerge.lean ====
module

public import proofs.«01_k».proof.Proof.RefHead

@[expose] public section

noncomputable section

namespace Cert.LayerRefIdeal.Mix

open Cert.LayerRefIdeal Cert.LayerRefIdeal.Read Idealize.ShloMosaic Idealize.ShloMosaic.Pointwise

variable (x0 : FVec Ideal S1x16384x2048 .f32) (x1 : FVec Ideal S1x2048 .f32) (x2 : FVec Ideal S1x2048x13312 .f32)
  (x3 : FVec Ideal S1x4096 .f32) (x4 : FVec Ideal S1x16x15x31 .f32) (x5 x6 : FVec Ideal S16384x1024 .f32) (x7 : FVec Ideal S1x1024 .f32)
  (x8 x9 : FVec Ideal S1x2048x2048 .f32) (x10 : FVec Ideal S1x2048 .f32)

/-- The gate of a column, before its sigmoid. -/
theorem gate_apply (r : Fin 16384) (n : Fin 4096) :
    val_main_v156 (F := Ideal) x0 x1 x2 x3 (ix2 r n)
      = Ideal.logistic (val_main_v18 (F := Ideal) x0 x1 x2 (ix2 r ⟨6144 + n.val, by omega⟩) + x3 (ix2 0 n)) := by
  have e : val_main_v150 (F := Ideal) x0 x1 x2 x3 (ix2 r n) = val_main_v18 (F := Ideal) x0 x1 x2 (ix2 r ⟨6144 + n.val, by omega⟩) + x3 (ix2 0 n) := by
    rw [val_main_v150_apply, val_main_v126_apply, val_main_v149_apply, val_main_v148_apply, val_main_v147_apply]
    refine congrArg₂ (fun a b : EReal => a + b) (congrArg (val_main_v18 (F := Ideal) x0 x1 x2) (funext fun a => ?_)) (congrArg x3 (funext fun a => ?_))
    · match a with | ⟨0, _⟩ => rfl | ⟨1, _⟩ => rfl
    · match a with
      | ⟨0, _⟩ => rfl
      | ⟨1, _⟩ => exact Fin.ext (Nat.mod_eq_of_lt n.isLt)
  rw [← e, ← sigmoid_eq]
  rfl

/-- The first branch's projection at an index. -/
theorem first_apply (r : Fin 16384) (j : Fin 2048) :
    val_main_v161 (F := Ideal) x0 x1 x2 x4 x8 (ix2 r j) = ∑ k : Fin 1024, val_main_v124 (F := Ideal) x0 x1 x2 x4 (ix2 r k) * x8 (ix3 0 ⟨k.val, by omega⟩ j) := by
  rw [val_main_v161_apply]
  refine Finset.sum_congr rfl fun k _ => ?_
  have e1 : lidx_main_v161 (ix2 r j) k = ix2 r k := by
    funext a; match a with | ⟨0, _⟩ => rfl | ⟨1, _⟩ => rfl
  rw [e1, val_main_v160_apply, val_main_v159_apply]
  refine congrArg₂ (fun a b : EReal => a * b) rfl (congrArg x8 (funext fun a => Fin.ext ?_))
  have hk := k.isLt
  have hj := j.isLt
  match a with
  | ⟨0, _⟩ => rfl
  | ⟨1, _⟩ => show (k.val * 2048 + j.val) / 2048 % 1024 = k.val; omega
  | ⟨2, _⟩ => show (k.val * 2048 + j.val) % 2048 = j.val; omega

/-- The second branch's projection at an index. -/
theorem second_apply (r : Fin 16384) (j : Fin 2048) :
    val_main_v165 (F := Ideal) x0 x1 x2 x5 x6 x7 x8 (ix2 r j)
      = ∑ k : Fin 1024, Cert.Mix.gated (fun k => x5 (ix2 r k) + x6 (ix2 r k)) (fun k => val_main_v18 (F := Ideal) x0 x1 x2 (ix2 r ⟨5120 + k.val, by omega⟩))
          (fun k => x7 (ix2 0 k)) k * x8 (ix3 0 ⟨1024 + k.val, by omega⟩ j) := by
  rw [val_main_v165_apply]
  refine Finset.sum_congr rfl fun k _ => ?_
  have e1 : lidx_main_v165 (ix2 r j) k = ix2 r k := by
    funext a; match a with | ⟨0, _⟩ => rfl | ⟨1, _⟩ => rfl
  rw [e1, branch_apply, val_main_v164_apply, val_main_v163_apply]
  refine congrArg (_ * ·) (congrArg x8 (funext fun a => Fin.ext ?_))
  have hk := k.isLt
  have hj := j.isLt
  match a with
  | ⟨0, _⟩ => rfl
  | ⟨1, _⟩ => show 1024 + (k.val * 2048 + j.val) / 2048 % 1024 = 1024 + k.val; omega
  | ⟨2, _⟩ => show (k.val * 2048 + j.val) % 2048 = j.val; omega

/-- The two branches under their gates, added, at an index. -/
theorem mixed_apply (r : Fin 16384) (j : Fin 2048) :
    val_main_v167 (F := Ideal) x0 x1 x2 x3 x4 x5 x6 x7 x8 (ix2 r j)
      = Cert.Mix.mixed (fun k => val_main_v124 (F := Ideal) x0 x1 x2 x4 (ix2 r k))
          (Cert.Mix.gated (fun k => x5 (ix2 r k) + x6 (ix2 r k)) (fun k => val_main_v18 (F := Ideal) x0 x1 x2 (ix2 r ⟨5120 + k.val, by omega⟩)) (fun k => x7 (ix2 0 k)))
          (fun k => val_main_v18 (F := Ideal) x0 x1 x2 (ix2 r ⟨6144 + k.val, by omega⟩) + x3 (ix2 0 ⟨k.val, by omega⟩))
          (fun k => val_main_v18 (F := Ideal) x0 x1 x2 (ix2 r ⟨8192 + k.val, by omega⟩) + x3 (ix2 0 ⟨2048 + k.val, by omega⟩))
          (fun k j => x8 (ix3 0 ⟨k.val, by omega⟩ j)) (fun k j => x8 (ix3 0 ⟨1024 + k.val, by omega⟩ j)) j := by
  have ea : idx_main_v157 (ix2 r j) = ix2 r ⟨j.val, by omega⟩ := by
    funext a; match a with | ⟨0, _⟩ => rfl | ⟨1, _⟩ => rfl
  have eb : idx_main_v158 (ix2 r j) = ix2 r ⟨2048 + j.val, by omega⟩ := by
    funext a; match a with | ⟨0, _⟩ => rfl | ⟨1, _⟩ => rfl
  have en : ∀ h, (⟨6144 + (2048 + j.val), h⟩ : Fin 10240) = ⟨8192 + j.val, by omega⟩ := fun h => Fin.ext (by show 6144 + (2048 + j.val) = 8192 + j.val; omega)
  rw [val_main_v167_apply, val_main_v162_apply, val_main_v166_apply, val_main_v157_apply, val_main_v158_apply, ea, eb, gate_apply,
    gate_apply, first_apply, second_apply]
  rw [en]
  rfl

/-- The mix projected, at an index. -/
theorem projected_apply (r : Fin 16384) (j : Fin 2048) :
    val_main_v169 (F := Ideal) x0 x1 x2 x3 x4 x5 x6 x7 x8 x9 (ix2 r j)
      = Cert.Mix.projected (fun k => val_main_v167 (F := Ideal) x0 x1 x2 x3 x4 x5 x6 x7 x8 (ix2 r k)) (fun k j => x9 (ix3 0 k j)) j := by
  rw [val_main_v169_apply]
  generalize val_main_v167 (F := Ideal) x0 x1 x2 x3 x4 x5 x6 x7 x8 = y
  refine Finset.sum_congr rfl fun k _ => ?_
  have e1 : lidx_main_v169 (ix2 r j) k = ix2 r k := by
    funext a; match a with | ⟨0, _⟩ => rfl | ⟨1, _⟩ => rfl
  rw [e1, val_main_v168_apply]
  refine congrArg (_ * ·) (congrArg x9 (funext fun a => Fin.ext ?_))
  have hk := k.isLt
  have hj := j.isLt
  match a with
  | ⟨0, _⟩ => rfl
  | ⟨1, _⟩ => show (k.val * 2048 + j.val) / 2048 % 2048 = k.val; omega
  | ⟨2, _⟩ => show (k.val * 2048 + j.val) % 2048 = j.val; omega

/-- The last norm's scale of a row. -/
theorem last_scale (r : Fin 16384) (j : Fin 2048) :
    val_main_v179 (F := Ideal) x0 x1 x2 x3 x4 x5 x6 x7 x8 x9 (ix2 r j)
      = Rms.scale 0x45000000#32 (fun k : Fin 2048 => val_main_v169 (F := Ideal) x0 x1 x2 x3 x4 x5 x6 x7 x8 x9 (ix2 r k)) := by
  rw [val_main_v179_apply, val_main_v178_apply, val_main_v177_apply, val_main_v175_apply, val_main_v176_apply, val_main_v174_apply,
    val_main_v173_apply, val_main_v172_apply]
  have e : ∀ i, val_main_cst_32 (F := Ideal) i = 0 := fun i => Consts.zero_f32
  rw [e, zero_add]
  have s : (∑ k : Fin 2048, val_main_v171 (F := Ideal) x0 x1 x2 x3 x4 x5 x6 x7 x8 x9 (idx_main_v172 (idx_main_v173 (idx_main_v179 (ix2 r j))) k))
      = ∑ k : Fin 2048, val_main_v169 (F := Ideal) x0 x1 x2 x3 x4 x5 x6 x7 x8 x9 (ix2 r k)
          * val_main_v169 (F := Ideal) x0 x1 x2 x3 x4 x5 x6 x7 x8 x9 (ix2 r k) := by
    refine Finset.sum_congr rfl fun k _ => ?_
    have ei : idx_main_v172 (idx_main_v173 (idx_main_v179 (ix2 r j))) k = ix2 r k := by
      funext a; match a with | ⟨0, _⟩ => rfl | ⟨1, _⟩ => rfl
    rw [ei]
    rfl
  rw [s]
  rfl

/-- The reference's result at an index is the layer's merge. -/
theorem out_apply (r : Fin 16384) (j : Fin 2048) :
    val_main_v184 (F := Ideal) x0 x1 x2 x3 x4 x5 x6 x7 x8 x9 x10 (ix2 r j) = Cert.Mix.layer x0 (val_main_v124 (F := Ideal) x0 x1 x2 x4) x5 x6 (val_main_v18 (F := Ideal) x0 x1 x2) x3 x7 x8 x9 x10 r j := by
  have e0 : val_main_v0 (F := Ideal) x0 (ix2 r j) = x0 (ix3 0 r j) := by
    rw [val_main_v0_apply]
    refine congrArg x0 (funext fun a => Fin.ext ?_)
    have hr := r.isLt
    have hj := j.isLt
    match a with
    | ⟨0, _⟩ => rfl
    | ⟨1, _⟩ => show (r.val * 2048 + j.val) / 2048 % 16384 = r.val; omega
    | ⟨2, _⟩ => show (r.val * 2048 + j.val) % 2048 = j.val; omega
  have e9 : val_main_v182 (F := Ideal) x10 (ix2 r j) = x10 (ix2 0 j) := by
    rw [val_main_v182_apply, val_main_v181_apply, val_main_v170_apply]
    refine congrArg x10 (funext fun a => ?_)
    match a with
    | ⟨0, _⟩ => rfl
    | ⟨1, _⟩ => exact Fin.ext (Nat.mod_eq_of_lt j.isLt)
  have ey : ∀ k, val_main_v169 (F := Ideal) x0 x1 x2 x3 x4 x5 x6 x7 x8 x9 (ix2 r k) = _ := fun k =>
    (projected_apply x0 x1 x2 x3 x4 x5 x6 x7 x8 x9 r k).trans
      (congrArg (fun y => Cert.Mix.projected y (fun k j => x9 (ix3 0 k j)) k) (funext fun k => mixed_apply x0 x1 x2 x3 x4 x5 x6 x7 x8 r k))
  rw [val_main_v184_apply, val_main_v183_apply, val_main_v180_apply, e0, e9, last_scale, ey, funext ey]
  rfl

end Cert.LayerRefIdeal.Mix

end
-- ==== Proof.RefIndex.lean ====
module

public import proofs.«01_k».proof.Proof.Gen.LayerRefIdeal.Read

public import proofs.«01_k».proof.Proof.Spec
public import proofs.«01_k».proof.Proof.Consts
public import Idealize.ShloMosaic.Lib.Pointwise
public import Idealize.ShloMosaic.PureOps.Ideal.Laws

@[expose] public section

noncomputable section

namespace Cert.LayerRefIdeal.Attn

open Cert.LayerRefIdeal Cert.LayerRefIdeal.Read Idealize.ShloMosaic Idealize.ShloMosaic.Pointwise

/-- The rows of a query row's band, as the keys are gathered. -/
theorem bandK_apply (r : Fin 256) (j : Fin 8) :
    (val_main_v69 (F := Ideal) (ix3 r j 0)).toInt.toNat = Na.rowStart r.val + j.val := by
  pointwise [val_main_v69, val_main_v68, val_main_v65, val_main_v67, val_main_v63, val_main_v61, val_main_v62,
    val_main_v60, val_main_v59, val_main_v58, val_main_v57, val_main_call2_v4, val_main_call2_v2,
    val_main_call2_v1, val_main_v56, val_main_v54, val_main_v55, val_main_c_9, val_main_call2_v0, val_main_c_10,
    val_main_call2_v3, val_main_c_11, val_main_v66, val_main_c_13, val_main_v64, val_main_c_12]
  revert r j
  decide +kernel

/-- The rows of a query row's band, as the values are gathered. -/
theorem bandV_apply (r : Fin 256) (j : Fin 8) :
    (val_main_v76 (F := Ideal) (ix3 r j 0)).toInt.toNat = Na.rowStart r.val + j.val := by
  pointwise [val_main_v76, val_main_v75, val_main_v72, val_main_v74, val_main_v63, val_main_v61, val_main_v62,
    val_main_v60, val_main_v59, val_main_v58, val_main_v57, val_main_call2_v4, val_main_call2_v2,
    val_main_call2_v1, val_main_v56, val_main_v54, val_main_v55, val_main_c_9, val_main_call2_v0, val_main_c_10,
    val_main_call2_v3, val_main_c_11, val_main_v73, val_main_c_15, val_main_v71, val_main_c_14]
  revert r j
  decide +kernel

/-- The rows of the bias a query row takes for the rows of its band. -/
theorem biasRow_apply (r : Fin 256) (j : Fin 8) :
    (val_main_v94 (F := Ideal) (ix3 r j 0)).toInt.toNat = j.val + 7 - (r.val - Na.rowStart r.val) := by
  pointwise [val_main_v94, val_main_v93, val_main_v90, val_main_v92, val_main_v87, val_main_v85, val_main_v86,
    val_main_c_18, val_main_v83, val_main_v84, val_main_c_17, val_main_v63, val_main_v82, val_main_v81,
    val_main_v54, val_main_v61, val_main_v62, val_main_v60, val_main_v59, val_main_v58, val_main_v57,
    val_main_call2_v4, val_main_call2_v2, val_main_call2_v1, val_main_v56, val_main_v55, val_main_c_9,
    val_main_call2_v0, val_main_c_10, val_main_call2_v3, val_main_c_11, val_main_v91, val_main_c_20, val_main_v89,
    val_main_c_19]
  revert r j
  decide +kernel

/-- The column of the bias a query column takes for a key column. -/
theorem biasCol_apply (q k : Fin 64) :
    (val_main_v101 (F := Ideal) (ix3 q k 0)).toInt.toNat = Na.colBias q.val k.val := by
  pointwise [val_main_v101, val_main_v100, val_main_v97, val_main_v99, val_main_v53, val_main_call1_v4, val_main_call1_v2,
    val_main_call1_v1, val_main_v52, val_main_v50, val_main_v51, val_main_c_6, val_main_v48, val_main_v49,
    val_main_c_5, val_main_v46, val_main_v47, val_main_v45, val_main_v26, val_main_v44, val_main_v27,
    val_main_call1_v0, val_main_c_7, val_main_call1_v3, val_main_c_8, val_main_v98, val_main_c_22, val_main_v96,
    val_main_c_21]
  revert q k
  decide +kernel

/-- The mask at a query and a key column says whether the key column is in the query column's window. -/
theorem mask_apply (q k : Fin 64) :
    val_main_v43 (F := Ideal) (ix2 q k) = if Na.inWindow q.val k.val then 1#1 else 0#1 := by
  pointwise [val_main_v43, val_main_v35, val_main_v42, val_main_v40, val_main_v41, val_main_v39, val_main_v37,
    val_main_v38, val_main_c_4, val_main_v30, val_main_call0_v4, val_main_call0_v2, val_main_call0_v1,
    val_main_v29, val_main_v26, val_main_v28, val_main_c, val_main_call0_v0, val_main_c_2, val_main_call0_v3,
    val_main_c_3, val_main_v36, val_main_v27, val_main_v33, val_main_v34, val_main_v32, val_main_v31]
  revert q k
  decide +kernel

end Cert.LayerRefIdeal.Attn
-- ==== Proof.RefScore.lean ====
module

public import proofs.«01_k».proof.Proof.Gen.LayerRefIdeal.Read
public import proofs.«01_k».proof.Proof.RefIndex
public import proofs.«01_k».proof.Proof.Gathers
public import proofs.«01_k».proof.Proof.Spec
public import proofs.«01_k».proof.Proof.Consts
public import Idealize.ShloMosaic.Lib.Pointwise
public import Idealize.ShloMosaic.PureOps.Ideal.Laws

@[expose] public section

noncomputable section

namespace Cert.LayerRefIdeal.Attn

open Cert.LayerRefIdeal Cert.LayerRefIdeal.Read Idealize.ShloMosaic Idealize.ShloMosaic.Pointwise

/-- A gather of rows of the keys or the values at an index. -/
theorem gather_band (x : FVec Ideal S256x64x16x64 .f32) (idx : IVec S256x8x1 32) (r : Fin 256) (j : Fin 8) (k : Fin 64)
    (h : Fin 16) (e : Fin 64) :
    Host.gather gather_S256x64x16x64_S256x8x1_S256x8x64x16x64_234_0_n_n_0_2_1641664 x idx (ix5 r j k h e)
      = x (ix4 ⟨min (idx (ix3 r j 0)).toInt.toNat (256 - 1), by omega⟩ k h e) :=
  Gathers.first_apply (N := 256) (by decide) gather_S256x64x16x64_S256x8x1_S256x8x64x16x64_234_0_n_n_0_2_1641664.wf x idx r j k h e

/-- The gather of rows of the bias at an index. -/
theorem gather_row (x : FVec Ideal S16x15x31 .f32) (idx : IVec S256x8x1 32) (h : Fin 16) (r : Fin 256) (j : Fin 8) (c : Fin 31) :
    Host.gather gather_S16x15x31_S256x8x1_S16x256x8x31_03_1_n_n_1_2_16131 x idx (ix4 h r j c)
      = x (ix3 h ⟨min (idx (ix3 r j 0)).toInt.toNat (15 - 1), by omega⟩ c) :=
  Gathers.mid_apply (N := 15) (by decide) gather_S16x15x31_S256x8x1_S16x256x8x31_03_1_n_n_1_2_16131.wf x idx h r j c

/-- The gather of columns of the bias at an index. -/
theorem gather_col (x : FVec Ideal S16x256x8x31 .f32) (idx : IVec S64x64x1 32) (h : Fin 16) (r : Fin 256) (j : Fin 8) (q k : Fin 64) :
    Host.gather gather_S16x256x8x31_S64x64x1_S16x256x8x64x64_012_3_n_n_3_2_1625681 x idx (ix5 h r j q k)
      = x (ix4 h r j ⟨min (idx (ix3 q k 0)).toInt.toNat (31 - 1), by omega⟩) :=
  Gathers.last_apply (N := 31) (by decide) gather_S16x256x8x31_S64x64x1_S16x256x8x64x64_012_3_n_n_3_2_1625681.wf x idx h r j q k

variable (x0 : FVec Ideal S1x16384x2048 .f32) (x1 : FVec Ideal S1x2048 .f32) (x2 : FVec Ideal S1x2048x13312 .f32)
  (x4 : FVec Ideal S1x16x15x31 .f32)

/-- The queries at an index. -/
theorem query_apply (r : Fin 256) (q : Fin 64) (h : Fin 16) (e : Fin 64) :
    val_main_v20 (F := Ideal) x0 x1 x2 (ix4 r q h e) = val_main_v17 (F := Ideal) x0 x1 x2 (ix2 ⟨64 * r.val + q.val, by omega⟩ ⟨64 * h.val + e.val, by omega⟩) := by
  unfold val_main_v20 val_main_v19
  generalize val_main_v17 (F := Ideal) x0 x1 x2 = x
  pointwise []
  exact congrArg x (congrArg₂ ix2 (Fin.ext (by show r.val * 64 + q.val = 64 * r.val + q.val; omega))
    (Fin.ext (by show h.val * 64 + e.val = 64 * h.val + e.val; omega)))

/-- The keys of a query row's band at an index. -/
theorem key_apply (r : Fin 256) (j : Fin 8) (k : Fin 64) (h : Fin 16) (e : Fin 64) :
    val_main_v70 (F := Ideal) x0 x1 x2 (ix5 r j k h e)
      = val_main_v17 (F := Ideal) x0 x1 x2 (ix2 ⟨64 * Na.rowStart r.val + (64 * j.val + k.val), by have := Na.rowStart_le r.val; omega⟩
          ⟨1024 + (64 * h.val + e.val), by omega⟩) := by
  unfold val_main_v70
  rw [gather_band]
  unfold val_main_v22 val_main_v21
  generalize val_main_v17 (F := Ideal) x0 x1 x2 = x
  pointwise []
  refine congrArg x (congrArg₂ ix2 (Fin.ext ?_) (Fin.ext ?_))
  · have := Na.rowStart_le r.val
    simp only [bandK_apply]; omega
  · show 1024 + (h.val * 64 + e.val) = 1024 + (64 * h.val + e.val); omega

/-- The values of a query row's band at an index. -/
theorem value_apply (r : Fin 256) (j : Fin 8) (k : Fin 64) (h : Fin 16) (e : Fin 64) :
    val_main_v77 (F := Ideal) x0 x1 x2 (ix5 r j k h e)
      = val_main_v17 (F := Ideal) x0 x1 x2 (ix2 ⟨64 * Na.rowStart r.val + (64 * j.val + k.val), by have := Na.rowStart_le r.val; omega⟩
          ⟨2048 + (64 * h.val + e.val), by omega⟩) := by
  unfold val_main_v77
  rw [gather_band]
  unfold val_main_v24 val_main_v23
  generalize val_main_v17 (F := Ideal) x0 x1 x2 = x
  pointwise []
  refine congrArg x (congrArg₂ ix2 (Fin.ext ?_) (Fin.ext ?_))
  · have := Na.rowStart_le r.val
    simp only [bandV_apply]; omega
  · show 2048 + (h.val * 64 + e.val) = 2048 + (64 * h.val + e.val); omega

/-- The bias at an index. -/
theorem bias_apply (h : Fin 16) (r : Fin 256) (j : Fin 8) (q k : Fin 64) :
    val_main_v102 (F := Ideal) x4 (ix5 h r j q k)
      = val_main_v88 (F := Ideal) x4 (ix3 h ⟨j.val + 7 - (r.val - Na.rowStart r.val), by omega⟩ ⟨Na.colBias q.val k.val, Na.colBias_lt _ _⟩) := by
  unfold val_main_v102
  rw [gather_col]
  unfold val_main_v95
  rw [gather_row]
  refine congrArg (val_main_v88 (F := Ideal) x4) (congr (congrArg (ix3 h) (Fin.ext ?_)) (Fin.ext ?_))
  · simp only [biasRow_apply]; omega
  · have := Na.colBias_lt q.val k.val
    simp only [biasCol_apply]; omega

/-- The masked scores at an index. -/
theorem score_apply (r : Fin 256) (h : Fin 16) (q : Fin 64) (n : Fin 512) :
    val_main_v107 (F := Ideal) x0 x1 x2 x4 (ix4 r h q n) = if Na.inWindow q.val (n.val % 64) then
      (∑ e : Fin 64, val_main_v17 (F := Ideal) x0 x1 x2 (ix2 ⟨64 * r.val + q.val, by omega⟩ ⟨64 * h.val + e.val, by omega⟩)
        * val_main_v17 (F := Ideal) x0 x1 x2 (ix2 ⟨64 * Na.rowStart r.val + n.val, by have := Na.rowStart_le r.val; omega⟩ ⟨1024 + (64 * h.val + e.val), by omega⟩))
          * ((1 / 8 : ℝ) : EReal)
        + val_main_v88 (F := Ideal) x4 (ix3 h ⟨n.val / 64 + 7 - (r.val - Na.rowStart r.val), by omega⟩ ⟨Na.colBias q.val (n.val % 64), Na.colBias_lt _ _⟩)
      else ⊥ := by
  pointwise [val_main_v107, val_main_v106, val_main_call3_v1, val_main_v104, val_main_call3_v2, val_main_call3_v0, val_main_cst_23,
    val_main_v80, val_main_v103, val_main_v78, val_main_v79, val_main_cst_16, val_main_v105, query_apply, key_apply, bias_apply,
    mask_apply]
  by_cases hw : Na.inWindow q.val (n.val % 64) = true
  · rw [if_pos hw, if_pos hw, ValueIdx.select_one, Consts.eighth_f32]
    simp only [Nat.div_add_mod]
  · rw [if_neg hw, if_neg hw, ValueIdx.select_zero]
    exact Consts.neg_inf

end Cert.LayerRefIdeal.Attn
-- ==== Proof.RowMax.lean ====
module

public import Idealize.ShloMosaic.Lib.Pointwise
public import Idealize.ShloMosaic.PureOps.Ideal.Laws

@[expose] public section

noncomputable section

namespace Cert.RowMax

open Idealize.ShloMosaic Idealize.ShloMosaic.Pointwise

/-- A host's greatest element along the last of four axes, at an index. -/
theorem host_apply {n0 n1 n2 n3 : Nat} (y : FVec Ideal ⟨4, ![n0, n1, n2, n3]⟩ .f32) (w : FVec Ideal ⟨0, ![]⟩ .f32)
    (h : (⟨4, ![n0, n1, n2, n3]⟩ : Shape).ReducesTo [3] ⟨3, ![n0, n1, n2]⟩) (hu : 0 < (⟨0, ![]⟩ : Shape).numel)
    (a : Fin n0) (b : Fin n1) (c : Fin n2) :
    Host.reduce FloatOps.maximumf y w h hu (ix3 a b c)
      = Finset.univ.fold max (w ix0) (fun d : Fin n3 => y (ix4 a b c d)) := by
  have e : Shape.Idx.first hu = ix0 := funext fun k => k.elim0
  pointwise []
  rw [e]

end Cert.RowMax
-- ==== Proof.RefOut.lean ====
module

public import proofs.«01_k».proof.Proof.Gen.LayerRefIdeal.Read
public import proofs.«01_k».proof.Proof.RefScore
public import proofs.«01_k».proof.Proof.RowMax
public import proofs.«01_k».proof.Proof.Spec
public import proofs.«01_k».proof.Proof.Consts
public import Idealize.ShloMosaic.Lib.Pointwise
public import Idealize.ShloMosaic.PureOps.Ideal.Laws

@[expose] public section

noncomputable section

namespace Cert.LayerRefIdeal.Attn

open Cert.LayerRefIdeal Cert.LayerRefIdeal.Read Idealize.ShloMosaic Idealize.ShloMosaic.Pointwise

variable (x0 : FVec Ideal S1x16384x2048 .f32) (x1 : FVec Ideal S1x2048 .f32) (x2 : FVec Ideal S1x2048x13312 .f32)
  (x4 : FVec Ideal S1x16x15x31 .f32)

/-- The greatest score of a query at an index. -/
theorem max_apply (r : Fin 256) (h : Fin 16) (q : Fin 64) :
    val_main_v110 (F := Ideal) x0 x1 x2 x4 (ix3 r h q)
      = Finset.univ.fold max (⊥ : EReal) (fun n : Fin 512 => val_main_v107 (F := Ideal) x0 x1 x2 x4 (ix4 r h q n)) := by
  have e0 : val_main_v109 (F := Ideal) (ix3 r h q) = ⊥ := by
    pointwise [val_main_v109, val_main_cst_25]
    exact Consts.neg_inf
  have e1 : val_main_cst_24 (F := Ideal) ix0 = ⊥ := Consts.neg_inf
  unfold val_main_v110 val_main_v108
  generalize val_main_v107 (F := Ideal) x0 x1 x2 x4 = y
  revert e0 e1
  generalize val_main_v109 (F := Ideal) = w0
  generalize val_main_cst_24 (F := Ideal) = w1
  intro e0 e1
  refine (ValueIdx.maximumf_apply _ _ _).trans ?_
  rw [RowMax.host_apply, e0, e1]
  exact max_eq_right bot_le

/-- The exponential of a score less the greatest, at an index. -/
theorem exp_apply (r : Fin 256) (h : Fin 16) (q : Fin 64) (n : Fin 512) :
    val_main_v114 (F := Ideal) x0 x1 x2 x4 (ix4 r h q n)
      = Ideal.exp (val_main_v107 (F := Ideal) x0 x1 x2 x4 (ix4 r h q n) - val_main_v110 (F := Ideal) x0 x1 x2 x4 (ix3 r h q)) := by
  unfold val_main_v114 val_main_v113 val_main_v112 val_main_v111
  generalize val_main_v110 (F := Ideal) x0 x1 x2 x4 = w
  generalize val_main_v107 (F := Ideal) x0 x1 x2 x4 = y
  pointwise []

/-- The sum of a query's exponentials at an index. -/
theorem denom_apply (r : Fin 256) (h : Fin 16) (q : Fin 64) (n : Fin 512) :
    val_main_v117 (F := Ideal) x0 x1 x2 x4 (ix4 r h q n) = ∑ k : Fin 512, val_main_v114 (F := Ideal) x0 x1 x2 x4 (ix4 r h q k) := by
  rw [val_main_v117_apply, val_main_v116_apply, val_main_v115_apply]
  have e : ∀ i, val_main_cst_26 (F := Ideal) i = 0 := fun i => Consts.zero_f32
  rw [e, zero_add]
  generalize val_main_v114 (F := Ideal) x0 x1 x2 x4 = y
  refine Finset.sum_congr rfl fun k _ => congrArg y (funext fun a => ?_)
  match a with
  | ⟨0, _⟩ => rfl
  | ⟨1, _⟩ => rfl
  | ⟨2, _⟩ => rfl
  | ⟨3, _⟩ => rfl

/-- The weight of a key at an index. -/
theorem prob_apply (r : Fin 256) (h : Fin 16) (q : Fin 64) (n : Fin 512) :
    val_main_v118 (F := Ideal) x0 x1 x2 x4 (ix4 r h q n)
      = Ideal.div (Ideal.exp (val_main_v107 (F := Ideal) x0 x1 x2 x4 (ix4 r h q n) - val_main_v110 (F := Ideal) x0 x1 x2 x4 (ix3 r h q)))
          (∑ k : Fin 512, Ideal.exp (val_main_v107 (F := Ideal) x0 x1 x2 x4 (ix4 r h q k) - val_main_v110 (F := Ideal) x0 x1 x2 x4 (ix3 r h q))) := by
  have e : val_main_v118 (F := Ideal) x0 x1 x2 x4 (ix4 r h q n)
      = Ideal.div (val_main_v114 (F := Ideal) x0 x1 x2 x4 (ix4 r h q n)) (val_main_v117 (F := Ideal) x0 x1 x2 x4 (ix4 r h q n)) := by
    unfold val_main_v118
    generalize val_main_v114 (F := Ideal) x0 x1 x2 x4 = y
    generalize val_main_v117 (F := Ideal) x0 x1 x2 x4 = w
    pointwise []
  rw [e, denom_apply]
  simp only [exp_apply]

/-- The reference's result at an index: the weighted values under the gate. -/
theorem out_apply (i : Fin 16384) (f : Fin 1024) :
    val_main_v124 (F := Ideal) x0 x1 x2 x4 (ix2 i f)
      = (∑ n : Fin 512, val_main_v17 (F := Ideal) x0 x1 x2 (ix2 ⟨64 * Na.rowStart (i.val / 64) + n.val, by have := Na.rowStart_le (i.val / 64); omega⟩
            ⟨2048 + f.val, by omega⟩)
          * val_main_v118 (F := Ideal) x0 x1 x2 x4 (ix4 ⟨i.val / 64, by omega⟩ ⟨f.val / 64, by omega⟩ ⟨i.val % 64, by omega⟩ n))
        * Na.silu (val_main_v18 (F := Ideal) x0 x1 x2 (ix2 i ⟨f.val, by omega⟩)) := by
  unfold val_main_v124 val_main_v122 val_main_v121 val_main_v120 val_main_v119
  have hv := value_apply x0 x1 x2
  revert hv
  generalize val_main_v118 (F := Ideal) x0 x1 x2 x4 = p
  generalize val_main_v77 (F := Ideal) x0 x1 x2 = v
  intro hv
  pointwise [val_main_v123, val_main_v25, val_main_call4_v5, val_main_call4_v4,
    val_main_call4_v3, val_main_call4_v2, val_main_call4_v1, val_main_call4_v0, val_main_call4_cst, val_main_call4_cst_0,
    hv]
  simp only [Nat.div_add_mod]
  rfl

end Cert.LayerRefIdeal.Attn
-- ==== Proof.Softmax.lean ====
module

public import Idealize.ShloMosaic.PureOps.Ideal
public import Idealize.ShloMosaic.PureOps.Ideal.Laws

@[expose] public section

noncomputable section

namespace Cert.Softmax

open Idealize.ShloMosaic

/-- A quotient by a positive real is the product with a nonnegative real. -/
theorem div_coe_pos (x : EReal) (l : ℝ) (hl : 0 < l) : Ideal.div x (l : EReal) = x * ((l⁻¹ : ℝ) : EReal) := by
  have h : (l : EReal) ≠ 0 := by exact_mod_cast hl.ne'
  unfold Ideal.div
  rw [if_neg h, EReal.coe_inv]

/-- A sum over a finite index set, multiplied on the right by a nonnegative real, term by term. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The maximum of finitely many extended reals, none of them `⊤` and one of them not `⊥`, is a real. -/
theorem fold_max_real {ι : Type} [Fintype ι] (s : ι → EReal) (ht : ∀ i, s i ≠ ⊤) (i₀ : ι) (h₀ : s i₀ ≠ ⊥) :
    ∃ m : ℝ, Finset.univ.fold max (⊥ : EReal) s = (m : EReal) ∧ ∃ i, s i = (m : EReal) := by
  classical
  have e : Finset.univ.fold max (⊥ : EReal) s = Finset.univ.sup s := rfl
  rw [e]
  obtain ⟨i, -, hi⟩ := Finset.exists_mem_eq_sup Finset.univ ⟨i₀, Finset.mem_univ _⟩ s
  have hb : s i ≠ ⊥ := fun h => h₀ (le_bot_iff.mp (by rw [← h, ← hi]; exact Finset.le_sup (Finset.mem_univ i₀)))
  refine ⟨(s i).toReal, ?_, i, ?_⟩
  · rw [hi, EReal.coe_toReal (ht i) hb]
  · rw [EReal.coe_toReal (ht i) hb]

/-- The exponential of an extended real below `⊤`, shifted by a real, is a nonnegative real. -/
theorem exp_sub_real (x : EReal) (hx : x ≠ ⊤) (m : ℝ) : ∃ p : ℝ, Ideal.exp (x - (m : EReal)) = (p : EReal) ∧ 0 ≤ p := by
  induction x with
  | bot => exact ⟨0, by rw [EReal.bot_sub]; rfl, le_rfl⟩
  | coe x => exact ⟨Real.exp (x - m), by rw [← EReal.coe_sub]; rfl, (Real.exp_pos _).le⟩
  | top => exact absurd rfl hx

/-- The sum of the exponentials of the scores, shifted by their maximum, is a positive real. -/
theorem denom_real {ι : Type} [Fintype ι] (s : ι → EReal) (ht : ∀ i, s i ≠ ⊤) (i₀ : ι) (h₀ : s i₀ ≠ ⊥) :
    ∃ l : ℝ, 0 < l ∧ ∑ i, Ideal.exp (s i - Finset.univ.fold max (⊥ : EReal) s) = (l : EReal) := by
  classical
  obtain ⟨m, hm, i, hi⟩ := fold_max_real s ht i₀ h₀
  rw [hm]
  choose p hp hp0 using fun i => exp_sub_real (s i) (ht i) m
  refine ⟨∑ i, p i, ?_, ?_⟩
  · refine Finset.sum_pos' (fun i _ => hp0 i) ⟨i, Finset.mem_univ _, ?_⟩
    have h1 := hp i
    rw [hi, ← EReal.coe_sub, sub_self] at h1
    have h2 : ((Real.exp 0 : ℝ) : EReal) = (p i : EReal) := h1
    rw [Real.exp_zero] at h2
    have h3 : (1 : ℝ) = p i := by exact_mod_cast h2
    rw [← h3]; exact one_pos
  · rw [Finset.sum_congr rfl fun i _ => hp i]
    induction (Finset.univ : Finset ι) using Finset.induction_on with
    | empty => simp
    | insert a s ha ih => rw [Finset.sum_insert ha, Finset.sum_insert ha, ih, EReal.coe_add]

/-- **The softmax divided last is the softmax divided first.** For scores none of which is `⊤` and one of which is
    not `⊥`: the weighted sum of the values by the unnormalised exponentials, divided by their sum, is the sum of the
    values weighted by the normalised exponentials. The values may be anything. -/
theorem weighted {ι : Type} [Fintype ι] (s v : ι → EReal) (ht : ∀ i, s i ≠ ⊤) (i₀ : ι) (h₀ : s i₀ ≠ ⊥) :
    Ideal.div (∑ i, Ideal.exp (s i - Finset.univ.fold max (⊥ : EReal) s) * v i)
        (∑ i, Ideal.exp (s i - Finset.univ.fold max (⊥ : EReal) s))
      = ∑ i, v i * Ideal.div (Ideal.exp (s i - Finset.univ.fold max (⊥ : EReal) s))
          (∑ i, Ideal.exp (s i - Finset.univ.fold max (⊥ : EReal) s)) := by
  obtain ⟨l, hl, e⟩ := denom_real s ht i₀ h₀
  rw [e, div_coe_pos _ l hl, sum_mul_real _ _ _ (inv_nonneg.mpr hl.le)]
  refine Finset.sum_congr rfl fun i _ => ?_
  rw [div_coe_pos _ l hl, mul_comm _ (v i), mul_assoc]

end Cert.Softmax
-- ==== Proof.Sums.lean ====
module

public import Idealize.ShloMosaic.PureOps.Ideal.Laws

@[expose] public section

noncomputable section

namespace Cert.Sums

/-- The sum of reals, as an extended real, is the sum of the extended reals. -/
theorem coe_sum {n : Nat} (a : Fin n → ℝ) : ((∑ e, a e : ℝ) : EReal) = ∑ e, (a e : EReal) := by
  classical
  refine Finset.induction_on (Finset.univ : Finset (Fin n)) (by simp) fun e s he ih => ?_
  rw [Finset.sum_insert he, Finset.sum_insert he, EReal.coe_add, ih]

/-- A sum of products of reals is a real. -/
theorem sum_real {n : Nat} (f g : Fin n → EReal) (hf : ∀ e, ∃ r : ℝ, f e = (r : EReal)) (hg : ∀ e, ∃ r : ℝ, g e = (r : EReal)) :
    ∃ r : ℝ, ∑ e, f e * g e = (r : EReal) := by
  choose a ha using hf
  choose c hc using hg
  refine ⟨∑ e, a e * c e, ?_⟩
  simp only [ha, hc, ← EReal.coe_mul]
  exact (coe_sum _).symm

/-- Scaling the left factors of a sum of products of reals scales the sum. -/
theorem scale_left {n : Nat} (f g : Fin n → EReal) (s : ℝ) (hf : ∀ e, ∃ r : ℝ, f e = (r : EReal))
    (hg : ∀ e, ∃ r : ℝ, g e = (r : EReal)) : ∑ e, f e * (s : EReal) * g e = (∑ e, f e * g e) * (s : EReal) := by
  choose a ha using hf
  choose c hc using hg
  simp only [ha, hc]
  have e1 : ∀ e, (a e : EReal) * (s : EReal) * (c e : EReal) = ((a e * s * c e : ℝ) : EReal) := fun e => by
    rw [EReal.coe_mul, EReal.coe_mul]
  have e2 : ∀ e, (a e : EReal) * (c e : EReal) = ((a e * c e : ℝ) : EReal) := fun e => (EReal.coe_mul _ _).symm
  simp only [e1, e2]
  rw [← coe_sum, ← coe_sum, ← EReal.coe_mul, Finset.sum_mul]
  congr 1
  exact Finset.sum_congr rfl fun e _ => by ring

end Cert.Sums

end
-- ==== Proof.Equation.lean ====
module

public import proofs.«01_k».proof.Proof.RefOut
public import proofs.«01_k».proof.Proof.Softmax
public import proofs.«01_k».proof.Proof.Sums

@[expose] public section

noncomputable section

namespace Cert.Equation

open Cert.LayerRefIdeal Cert.LayerRefIdeal.Read Cert.LayerRefIdeal.Attn Idealize.ShloMosaic Idealize.ShloMosaic.Pointwise

variable (x0 : FVec Ideal S1x16384x2048 .f32) (x1 : FVec Ideal S1x2048 .f32) (x2 : FVec Ideal S1x2048x13312 .f32)
  (x4 : FVec Ideal S1x16x15x31 .f32)
  (hx : ∀ (i : Fin 16384) (j : Fin 3072), j.val < 2048 → ∃ r : ℝ, val_main_v17 (F := Ideal) x0 x1 x2 (ix2 i j) = (r : EReal))
  (hb : ∀ i, ∃ r : ℝ, val_main_v88 (F := Ideal) x4 i = (r : EReal))

include hx in
/-- The kernel's score, its queries scaled first and its mask added, is the reference's, scaled last and masked by a choice. -/
theorem score_eq (r : Fin 256) (h : Fin 16) (q : Fin 64) (n : Fin 512) (i : Fin 16384) (hi : i.val = 64 * r.val + q.val) :
    Na.score (val_main_v17 (F := Ideal) x0 x1 x2) (val_main_v88 (F := Ideal) x4) i h n = val_main_v107 (F := Ideal) x0 x1 x2 x4 (ix4 r h q n) := by
  rw [score_apply]
  have d : i.val / 64 = r.val := by omega
  have d' : i.val % 64 = q.val := by omega
  have e : i = ⟨64 * r.val + q.val, by omega⟩ := Fin.ext hi
  unfold Na.score
  simp only [d, d']
  rw [← e]
  clear e hi
  by_cases hw : Na.inWindow q.val (n.val % 64) = true
  · rw [if_pos hw, if_pos hw]
    congr 1
    exact Sums.scale_left _ _ _ (fun e => hx _ ⟨64 * h.val + e.val, by omega⟩ (by show 64 * h.val + e.val < 2048; omega)) (fun e => hx _ ⟨1024 + (64 * h.val + e.val), by omega⟩ (by show 1024 + (64 * h.val + e.val) < 2048; omega))
  · rw [if_neg hw, if_neg hw, EReal.add_bot]

include hx hb in
/-- A score inside the window is a real. -/
theorem score_real (r : Fin 256) (h : Fin 16) (q : Fin 64) (n : Fin 512) (hw : Na.inWindow q.val (n.val % 64) = true) :
    ∃ s : ℝ, val_main_v107 (F := Ideal) x0 x1 x2 x4 (ix4 r h q n) = (s : EReal) := by
  rw [score_apply, if_pos hw]
  obtain ⟨s, hs⟩ := Sums.sum_real _ _ (fun e : Fin 64 => hx ⟨64 * r.val + q.val, by omega⟩ ⟨64 * h.val + e.val, by omega⟩
        (by show 64 * h.val + e.val < 2048; omega))
    (fun e => hx ⟨64 * Na.rowStart r.val + n.val, by have := Na.rowStart_le r.val; omega⟩ ⟨1024 + (64 * h.val + e.val), by omega⟩
        (by show 1024 + (64 * h.val + e.val) < 2048; omega))
  rw [hs]
  obtain ⟨t, ht⟩ := hb (ix3 h ⟨n.val / 64 + 7 - (r.val - Na.rowStart r.val), by omega⟩ ⟨Na.colBias q.val (n.val % 64), Na.colBias_lt _ _⟩)
  rw [ht]
  exact ⟨s * (1 / 8) + t, by rw [EReal.coe_add, EReal.coe_mul]⟩

include hx hb in
/-- No score is plus infinity. -/
theorem score_ne_top (r : Fin 256) (h : Fin 16) (q : Fin 64) (n : Fin 512) :
    val_main_v107 (F := Ideal) x0 x1 x2 x4 (ix4 r h q n) ≠ ⊤ := by
  by_cases hw : Na.inWindow q.val (n.val % 64) = true
  · obtain ⟨s, hs⟩ := score_real x0 x1 x2 x4 hx hb r h q n hw
    rw [hs]; exact EReal.coe_ne_top s
  · rw [score_apply, if_neg hw]; exact bot_ne_top

include hx hb in
/-- Every query has a key in its window, whose score is not minus infinity. -/
theorem score_ne_bot (r : Fin 256) (h : Fin 16) (q : Fin 64) :
    val_main_v107 (F := Ideal) x0 x1 x2 x4 (ix4 r h q ⟨Na.colStart q.val, by unfold Na.colStart; omega⟩) ≠ ⊥ := by
  have d : Na.colStart q.val % 64 = Na.colStart q.val := Nat.mod_eq_of_lt (by unfold Na.colStart; omega)
  obtain ⟨s, hs⟩ := score_real x0 x1 x2 x4 hx hb r h q ⟨Na.colStart q.val, by unfold Na.colStart; omega⟩ (by
    show Na.inWindow q.val (Na.colStart q.val % 64) = true
    rw [d]; exact Na.inWindow_start _)
  rw [hs]; exact EReal.coe_ne_bot s

include hx hb in
/-- The reference, which divides its weights before it sums, has the kernel's value, which divides after. -/
theorem attention_eq (i : Fin 16384) (f : Fin 1024) : Na.attention (val_main_v17 (F := Ideal) x0 x1 x2) (val_main_v18 (F := Ideal) x0 x1 x2) (val_main_v88 (F := Ideal) x4) i f = val_main_v124 (F := Ideal) x0 x1 x2 x4 (ix2 i f) := by
  rw [out_apply]
  unfold Na.attention
  congr 1
  have hr : i.val / 64 < 256 := by omega
  have hq : i.val % 64 < 64 := by omega
  have hi : i.val = 64 * (i.val / 64) + i.val % 64 := by omega
  have key := fun (r : Fin 256) (h : Fin 16) (q : Fin 64) (v : Fin 512 → EReal) =>
    Softmax.weighted (fun n => val_main_v107 (F := Ideal) x0 x1 x2 x4 (ix4 r h q n)) v (fun n => score_ne_top x0 x1 x2 x4 hx hb r h q n) _
      (score_ne_bot x0 x1 x2 x4 hx hb r h q)
  have es : Na.score (val_main_v17 (F := Ideal) x0 x1 x2) (val_main_v88 (F := Ideal) x4) i ⟨f.val / 64, by omega⟩
      = fun n => val_main_v107 (F := Ideal) x0 x1 x2 x4 (ix4 ⟨i.val / 64, hr⟩ ⟨f.val / 64, by omega⟩ ⟨i.val % 64, hq⟩ n) :=
    funext fun n => score_eq x0 x1 x2 x4 hx ⟨i.val / 64, hr⟩ ⟨f.val / 64, by omega⟩ ⟨i.val % 64, hq⟩ n i hi
  rw [es]
  unfold Na.average
  refine (key ⟨i.val / 64, hr⟩ ⟨f.val / 64, by omega⟩ ⟨i.val % 64, hq⟩ _).trans ?_
  refine Finset.sum_congr rfl fun n _ => ?_
  rw [prob_apply, max_apply]

end Cert.Equation

end
-- ==== Proof.RmsReal.lean ====
module

public import proofs.«01_k».proof.Proof.Rms
public import proofs.«01_k».proof.Proof.Consts
public import proofs.«01_k».proof.Proof.Sums

@[expose] public section

noncomputable section

namespace Cert.Rms

open Idealize.ShloMosaic

/-- The square of an extended real is not negative. -/
theorem square_nonneg (x : EReal) : 0 ≤ x * x := by
  induction x with
  | bot => rw [EReal.bot_mul_bot]; exact le_top
  | coe r => rw [← EReal.coe_mul]; exact EReal.coe_nonneg.mpr (mul_self_nonneg r)
  | top => rw [EReal.top_mul_top]; exact le_top

/-- The reciprocal square root of a positive extended real is a real. -/
theorem rsqrt_real (t : EReal) (h : 0 < t) : ∃ r : ℝ, Ideal.rsqrt t = (r : EReal) := by
  induction t with
  | bot => exact absurd h (by simp)
  | coe r =>
    have hr : 0 < r := EReal.coe_pos.mp h
    refine ⟨(Real.sqrt r)⁻¹, ?_⟩
    show (if r < 0 then ⊥ else if r = 0 then ⊤ else (((Real.sqrt r)⁻¹ : ℝ) : EReal)) = _
    rw [if_neg (not_lt.mpr hr.le), if_neg hr.ne']
  | top => exact ⟨0, rfl⟩

/-- The mean of the squares of a row of 2048 entries plus the norm's constant is positive. -/
theorem mean_pos (row : Fin 2048 → EReal) :
    0 < Ideal.div (∑ k, row k * row k) (Ideal.ofBits .f32 0x45000000#32) + Ideal.ofBits .f32 0x358637BD#32 := by
  obtain ⟨e, he, hpos⟩ := Consts.small_pos
  have hs : 0 ≤ ∑ k, row k * row k := Finset.sum_nonneg fun k _ => square_nonneg (row k)
  rw [Consts.width, he]
  unfold Ideal.div
  rw [if_neg (by norm_num), ← EReal.coe_inv]
  have hd : 0 ≤ (∑ k, row k * row k) * (((2048 : ℝ)⁻¹ : ℝ) : EReal) := mul_nonneg hs (EReal.coe_nonneg.mpr (by norm_num))
  calc (0 : EReal) < (e : EReal) := EReal.coe_pos.mpr hpos
    _ = 0 + (e : EReal) := (zero_add _).symm
    _ ≤ _ := add_le_add hd le_rfl

/-- A row with an infinite entry has scale zero. -/
theorem scale_of_infinite (row : Fin 2048 → EReal) (k : Fin 2048) (h : row k * row k = ⊤) : scale 0x45000000#32 row = 0 := by
  obtain ⟨e, he, _⟩ := Consts.small_pos
  have hs : ∑ k, row k * row k = ⊤ := top_le_iff.mp (h ▸
    Finset.single_le_sum (f := fun k => row k * row k) (fun k _ => square_nonneg (row k)) (Finset.mem_univ k))
  unfold scale
  rw [hs, Consts.width, he]
  unfold Ideal.div
  rw [if_neg (by norm_num), ← EReal.coe_inv, EReal.top_mul_coe_of_pos (by norm_num), EReal.top_add_coe]
  rfl

/-- An entry times its row's scale is a real, whatever the row holds. -/
theorem scaled_real (row : Fin 2048 → EReal) (k : Fin 2048) : ∃ r : ℝ, row k * scale 0x45000000#32 row = (r : EReal) := by
  obtain ⟨s, hs⟩ := rsqrt_real _ (mean_pos row)
  have hs' : scale 0x45000000#32 row = (s : EReal) := hs
  have inf : row k * row k = ⊤ → ∃ r : ℝ, row k * scale 0x45000000#32 row = (r : EReal) := fun h =>
    ⟨0, by rw [scale_of_infinite row k h, mul_zero, EReal.coe_zero]⟩
  by_cases ht : row k = ⊤
  · exact inf (by rw [ht, EReal.top_mul_top])
  by_cases hb : row k = ⊥
  · exact inf (by rw [hb, EReal.bot_mul_bot])
  exact ⟨(row k).toReal * s, by rw [hs', EReal.coe_mul, EReal.coe_toReal ht hb]⟩

/-- A row after the norm is real where its weights are. -/
theorem normed_real (x : Fin 16384 → Fin 2048 → EReal) (w : Fin 2048 → EReal) (hw : ∀ k, ∃ r : ℝ, w k = (r : EReal))
    (r : Fin 16384) (k : Fin 2048) : ∃ y : ℝ, normed x w r k = (y : EReal) := by
  obtain ⟨a, ha⟩ := scaled_real (x r) k
  obtain ⟨b, hb⟩ := hw k
  exact ⟨a * b, by unfold normed; rw [ha, hb, EReal.coe_mul]⟩

/-- A projection is real where the norm's weights and its column of the matrix are. -/
theorem proj_real (x : Fin 16384 → Fin 2048 → EReal) (w : Fin 2048 → EReal) (u : Fin 2048 → Fin 13312 → EReal)
    (hw : ∀ k, ∃ r : ℝ, w k = (r : EReal)) (f : Fin 13312) (hu : ∀ k, ∃ r : ℝ, u k f = (r : EReal)) (r : Fin 16384) :
    ∃ y : ℝ, proj x w u r f = (y : EReal) :=
  Sums.sum_real _ _ (fun k => normed_real x w hw r k) hu

end Cert.Rms

end
-- ==== Proof.Finite.lean ====
module

public import proofs.«01_k».proof.Proof.Gen.Pre_finite_scores
public import proofs.«01_k».proof.Proof.Consts
public import Idealize.ShloMosaic.Lib.Pointwise
public import Idealize.ShloMosaic.Lib.ReduceAll
public import Idealize.ShloMosaic.Lib.StableHlo.Predicate

@[expose] public section

noncomputable section

namespace Cert.Pre_finite_scores.Whole

open Cert.Pre_finite_scores Idealize.ShloMosaic Idealize.ShloMosaic.Pointwise

/-- An extended real whose absolute value is below `⊤` is a real. -/
theorem real_of_abs_lt (x : EReal) (h : Ideal.cmp .olt (max x (-x)) ⊤ = 1#1) :
    ∃ r : ℝ, x = (r : EReal) := by
  induction x with
  | bot => exact absurd h (by simp [Ideal.cmp])
  | coe r => exact ⟨r, rfl⟩
  | top => exact absurd h (by simp [Ideal.cmp])

variable (x0 : FVec Ideal S1x16384x2048 .f32) (x1 : FVec Ideal S1x2048 .f32) (x2 : FVec Ideal S1x2048x13312 .f32)
  (x3 : FVec Ideal S1x4096 .f32) (x4 : FVec Ideal S1x16x15x31 .f32) (x5 x6 : FVec Ideal S16384x1024 .f32)
  (x7 : FVec Ideal S1x1024 .f32) (x8 x9 : FVec Ideal S1x2048x2048 .f32) (x10 : FVec Ideal S1x2048 .f32)

/-- Under the precondition every entry of the columns of the queries and keys is a real. -/
theorem matrix_real (h : fn (F := Ideal) x0 x1 x2 x3 x4 x5 x6 x7 x8 x9 x10 = fun _ => 1#1) (k : Fin 2048) (f : Fin 13312)
    (hf : f.val < 2048) : ∃ r : ℝ, x2 (ix3 0 k f) = (r : EReal) := by
  have h0 := congrFun h ix0
  have h1 := (IntOp.andi_eq_one.mp (IntOp.andi_eq_one.mp h0).1).1
  haveI : Subsingleton S_.Idx := ⟨fun a b => funext fun k => k.elim0⟩
  have h2 := Host.reduce_andi_all _ _ _ _ _ h1 (ix3 0 k ⟨f.val, hf⟩)
  refine real_of_abs_lt _ ?_
  rw [← Consts.pos_inf, ← h2]
  refine congrArg (fun t : EReal => Ideal.cmp .olt (max t (-t)) (Ideal.ofBits .f32 0x7F800000#32)) ?_
  pointwise

/-- Under the precondition every weight of the input's norm is a real. -/
theorem weight_real (h : fn (F := Ideal) x0 x1 x2 x3 x4 x5 x6 x7 x8 x9 x10 = fun _ => 1#1) (k : Fin 2048) :
    ∃ r : ℝ, x1 (ix2 0 k) = (r : EReal) := by
  have h0 := congrFun h ix0
  have h1 := (IntOp.andi_eq_one.mp (IntOp.andi_eq_one.mp h0).1).2
  haveI : Subsingleton S_.Idx := ⟨fun a b => funext fun k => k.elim0⟩
  have h2 := Host.reduce_andi_all _ _ _ _ _ h1 (ix2 0 k)
  refine real_of_abs_lt _ ?_
  rw [← Consts.pos_inf, ← h2]
  rfl

/-- Under the precondition every entry of the bias is a real. -/
theorem bias_real (h : fn (F := Ideal) x0 x1 x2 x3 x4 x5 x6 x7 x8 x9 x10 = fun _ => 1#1) (i : S1x16x15x31.Idx) :
    ∃ r : ℝ, x4 i = (r : EReal) := by
  have h0 := congrFun h ix0
  have h1 := (IntOp.andi_eq_one.mp h0).2
  haveI : Subsingleton S_.Idx := ⟨fun a b => funext fun k => k.elim0⟩
  have h2 := Host.reduce_andi_all _ _ _ _ _ h1 i
  refine real_of_abs_lt _ ?_
  rw [← Consts.pos_inf, ← h2]
  rfl

end Cert.Pre_finite_scores.Whole

end
-- ==== Proof.LayerValue.lean ====
module

public import proofs.«01_k».proof.Proof.LayerRun
public import proofs.«01_k».proof.Proof.RefProj
public import proofs.«01_k».proof.Proof.RefMerge
public import proofs.«01_k».proof.Proof.Equation
public import proofs.«01_k».proof.Proof.RmsReal
public import proofs.«01_k».proof.Proof.Finite

@[expose] public section

noncomputable section

namespace Cert.LayerIdeal.Whole

open Cert.LayerIdeal Idealize.ShloMosaic Idealize.ShloMosaic.TcCoe Idealize.SL.Sem Idealize.ShloMosaic.Pointwise
open Cert.LayerRefIdeal.Read (val_main_v17 val_main_v18 val_main_v88 val_main_v124 val_main_v184 val_main_v88_apply)

variable (m : (ℓ : Loc nD τ sig) → Buf (Elt Ideal) ℓ) (c : Dev nD)

/-- The calls' queries, keys and values are the reference's. -/
theorem qkv_eq : qkv m c = val_main_v17 (F := Ideal) (m ((c : Thread nD τ).loc main_arg0)) (m ((c : Thread nD τ).loc main_arg1))
    (m ((c : Thread nD τ).loc main_arg2)) := by
  funext i
  obtain ⟨r, f, rfl⟩ : ∃ (r : Fin 16384) (f : Fin 3072), i = ix2 r f := ⟨i 0, i 1, by funext a; match a with | ⟨0, _⟩ => rfl | ⟨1, _⟩ => rfl⟩
  exact (Cert.LayerRefIdeal.Proj.qkv_apply _ _ _ r f).symm

/-- The projection's other columns are the reference's. -/
theorem rest_eq : rest m c = val_main_v18 (F := Ideal) (m ((c : Thread nD τ).loc main_arg0)) (m ((c : Thread nD τ).loc main_arg1))
    (m ((c : Thread nD τ).loc main_arg2)) := by
  funext i
  obtain ⟨r, f, rfl⟩ : ∃ (r : Fin 16384) (f : Fin 10240), i = ix2 r f := ⟨i 0, i 1, by funext a; match a with | ⟨0, _⟩ => rfl | ⟨1, _⟩ => rfl⟩
  exact (Cert.LayerRefIdeal.Proj.rest_apply _ _ _ r f).symm

/-- The bias is laid out as the reference lays it out. -/
theorem bias_eq : bias m c = val_main_v88 (F := Ideal) (m ((c : Thread nD τ).loc main_arg4)) := rfl

variable (h : Cert.Pre_finite_scores.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) = fun _ => 1#1)

include h in
/-- Under the precondition the queries and keys are reals. -/
theorem qk_real (i : Fin 16384) (j : Fin 3072) (hj : j.val < 2048) : ∃ y : ℝ,
    val_main_v17 (F := Ideal) (m ((c : Thread nD τ).loc main_arg0)) (m ((c : Thread nD τ).loc main_arg1))
      (m ((c : Thread nD τ).loc main_arg2)) (ix2 i j) = (y : EReal) := by
  rw [Cert.LayerRefIdeal.Proj.qkv_apply]
  exact Rms.proj_real _ _ _ (fun k => Cert.Pre_finite_scores.Whole.weight_real _ _ _ _ _ _ _ _ _ _ _ h k) _
    (fun k => Cert.Pre_finite_scores.Whole.matrix_real _ _ _ _ _ _ _ _ _ _ _ h k _ hj) i

include h in
/-- Under the precondition the calls' attention is the reference's. -/
theorem att_eq : att m c = val_main_v124 (F := Ideal) (m ((c : Thread nD τ).loc main_arg0)) (m ((c : Thread nD τ).loc main_arg1))
    (m ((c : Thread nD τ).loc main_arg2)) (m ((c : Thread nD τ).loc main_arg4)) := by
  funext i
  obtain ⟨r, f, rfl⟩ : ∃ (r : Fin 16384) (f : Fin 1024), i = ix2 r f := ⟨i 0, i 1, by funext a; match a with | ⟨0, _⟩ => rfl | ⟨1, _⟩ => rfl⟩
  show Na.attention (qkv m c) (rest m c) (bias m c) r f = _
  rw [qkv_eq, rest_eq, bias_eq]
  refine Cert.Equation.attention_eq _ _ _ _ (qk_real m c h) (fun i => ?_) r f
  have e := Cert.Pre_finite_scores.Whole.bias_real _ _ _ _ _ _ _ _ _ _ _ h
  first
    | exact e i
    | (rw [val_main_v88_apply]; exact e _)

include h in
/-- Under the precondition the layer of the arguments is the reference's result. -/
theorem out_eq : out m c = val_main_v184 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) := by
  funext i
  obtain ⟨r, j, rfl⟩ : ∃ (r : Fin 16384) (j : Fin 2048), i = ix2 r j := ⟨i 0, i 1, by funext a; match a with | ⟨0, _⟩ => rfl | ⟨1, _⟩ => rfl⟩
  rw [Cert.LayerRefIdeal.Mix.out_apply, ← att_eq m c h, ← rest_eq m c]
  rfl

end Cert.LayerIdeal.Whole

end
-- ==== Proof.LayerClaims.lean ====
module

public import proofs.«01_k».proof.Defs
public import proofs.«01_k».proof.Proof.Gen.Layer.Frame
public import proofs.«01_k».proof.Proof.Gen.LayerIdeal.Frame
public import proofs.«01_k».proof.Proof.Gen.LayerRefIdeal.Run
public import proofs.«01_k».proof.Proof.LayerValue
public import Idealize.ShloMosaic.Adequacy

@[expose] public section

noncomputable section

namespace Cert.LayerClaims

open Idealize.ShloMosaic Idealize.SL.Sem Idealize.ShloMosaic.Pointwise

/-- The joined calls run, keep their arguments and leave every counter at zero. -/
theorem frame : Cert.quiescent_Layer := fun m ρ _ => Cert.Layer.Gen.frame m ρ

/-- The same of the calls over the extended reals. -/
theorem frame_ideal : Cert.quiescent_LayerIdeal := fun m ρ _ => Cert.LayerIdeal.Gen.frame m ρ

/-- The same, from memories that meet the precondition. -/
theorem frame_ideal_pre : Cert.quiescent_LayerIdeal_pre_finite_scores := fun m ρ _ => Cert.LayerIdeal.Gen.frame m ρ

/-- The reference runs, keeps its arguments and leaves every counter at zero. -/
theorem frame_ref (m : (ℓ : Loc Cert.LayerRefIdeal.nD Cert.LayerRefIdeal.τ Cert.LayerRefIdeal.sig) → Buf (Elt Ideal) ℓ) (ρ : Dev Cert.LayerRefIdeal.nD → PrngReg) :
    θ_run (Cert.LayerRefIdeal.defs (F := Ideal)) (onTc (τ := Cert.LayerRefIdeal.τ) (Cert.LayerRefIdeal.main (F := Ideal)))
      ⟨m, fun _ => 0, ρ⟩ (fun r => (∀ c : Dev Cert.LayerRefIdeal.nD,
        r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
        ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
        ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
        ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3)
        ∧ r.2.mem ((c.tc : Thread Cert.LayerRefIdeal.nD Cert.LayerRefIdeal.τ).loc Cert.LayerRefIdeal.main_arg4) = m ((c.tc : Thread Cert.LayerRefIdeal.nD Cert.LayerRefIdeal.τ).loc Cert.LayerRefIdeal.main_arg4)
        ∧ r.2.mem ((c.tc : Thread Cert.LayerRefIdeal.nD Cert.LayerRefIdeal.τ).loc Cert.LayerRefIdeal.main_arg5) = m ((c.tc : Thread Cert.LayerRefIdeal.nD Cert.LayerRefIdeal.τ).loc Cert.LayerRefIdeal.main_arg5)
        ∧ r.2.mem ((c.tc : Thread Cert.LayerRefIdeal.nD Cert.LayerRefIdeal.τ).loc Cert.LayerRefIdeal.main_arg6) = m ((c.tc : Thread Cert.LayerRefIdeal.nD Cert.LayerRefIdeal.τ).loc Cert.LayerRefIdeal.main_arg6)
        ∧ r.2.mem ((c.tc : Thread Cert.LayerRefIdeal.nD Cert.LayerRefIdeal.τ).loc Cert.LayerRefIdeal.main_arg7) = m ((c.tc : Thread Cert.LayerRefIdeal.nD Cert.LayerRefIdeal.τ).loc Cert.LayerRefIdeal.main_arg7)
        ∧ r.2.mem ((c.tc : Thread Cert.LayerRefIdeal.nD Cert.LayerRefIdeal.τ).loc Cert.LayerRefIdeal.main_arg8) = m ((c.tc : Thread Cert.LayerRefIdeal.nD Cert.LayerRefIdeal.τ).loc Cert.LayerRefIdeal.main_arg8)
        ∧ r.2.mem ((c.tc : Thread Cert.LayerRefIdeal.nD Cert.LayerRefIdeal.τ).loc Cert.LayerRefIdeal.main_arg9) = m ((c.tc : Thread Cert.LayerRefIdeal.nD Cert.LayerRefIdeal.τ).loc Cert.LayerRefIdeal.main_arg9)
        ∧ r.2.mem ((c.tc : Thread Cert.LayerRefIdeal.nD Cert.LayerRefIdeal.τ).loc Cert.LayerRefIdeal.main_arg10) = m ((c.tc : Thread Cert.LayerRefIdeal.nD Cert.LayerRefIdeal.τ).loc Cert.LayerRefIdeal.main_arg10))
        ∧ r.2.sem = fun _ => 0) :=
  (θ_run Cert.LayerRefIdeal.defs _ _).mono
    (fun r h => ⟨fun c => (h c).2, sem_eq_zero_of_no_sems (by decide) r.2⟩)
    (Cert.LayerRefIdeal.Value.run (F := Ideal) m ρ)

/-- The joined calls' result array is the reference's over the extended reals, under the precondition. -/
theorem algebraic : Cert.algebraic_LayerIdeal_LayerRefIdeal_pre_finite_scores := by
  intro m g m' g' hpre hagree
  refine ⟨Cert.LayerIdeal.Whole.out m, Cert.LayerIdeal.Whole.run m g, ?_⟩
  refine (θ_run Cert.LayerRefIdeal.defs _ _).mono (fun r h c => ⟨(h c).1.trans ?_, (h c).2⟩)
    (Cert.LayerRefIdeal.Value.run (F := Ideal) m' g')
  obtain ⟨e0, e1, e2, e3, e4, e5, e6, e7, e8, e9, e10⟩ := hagree c
  refine (Cert.LayerRefIdeal.Read.val_main_v184_eq _).trans ?_
  show Cert.LayerRefIdeal.Read.val_main_v184 (F := Ideal)
    (m' ((c.tc : Thread Cert.LayerRefIdeal.nD Cert.LayerRefIdeal.τ).loc Cert.LayerRefIdeal.main_arg0))
    (m' ((c.tc : Thread Cert.LayerRefIdeal.nD Cert.LayerRefIdeal.τ).loc Cert.LayerRefIdeal.main_arg1))
    (m' ((c.tc : Thread Cert.LayerRefIdeal.nD Cert.LayerRefIdeal.τ).loc Cert.LayerRefIdeal.main_arg2))
    (m' ((c.tc : Thread Cert.LayerRefIdeal.nD Cert.LayerRefIdeal.τ).loc Cert.LayerRefIdeal.main_arg3))
    (m' ((c.tc : Thread Cert.LayerRefIdeal.nD Cert.LayerRefIdeal.τ).loc Cert.LayerRefIdeal.main_arg4))
    (m' ((c.tc : Thread Cert.LayerRefIdeal.nD Cert.LayerRefIdeal.τ).loc Cert.LayerRefIdeal.main_arg5))
    (m' ((c.tc : Thread Cert.LayerRefIdeal.nD Cert.LayerRefIdeal.τ).loc Cert.LayerRefIdeal.main_arg6))
    (m' ((c.tc : Thread Cert.LayerRefIdeal.nD Cert.LayerRefIdeal.τ).loc Cert.LayerRefIdeal.main_arg7))
    (m' ((c.tc : Thread Cert.LayerRefIdeal.nD Cert.LayerRefIdeal.τ).loc Cert.LayerRefIdeal.main_arg8))
    (m' ((c.tc : Thread Cert.LayerRefIdeal.nD Cert.LayerRefIdeal.τ).loc Cert.LayerRefIdeal.main_arg9))
    (m' ((c.tc : Thread Cert.LayerRefIdeal.nD Cert.LayerRefIdeal.τ).loc Cert.LayerRefIdeal.main_arg10)) = _
  rw [e0, e1, e2, e3, e4, e5, e6, e7, e8, e9, e10]
  exact (Cert.LayerIdeal.Whole.out_eq m c (hpre c)).symm

end Cert.LayerClaims

end
-- ==== Proof.CallHead.lean ====
module

public import proofs.«01_k».proof.Proof.Gen.AttentionIdeal.Frame
public import proofs.«01_k».proof.Proof.Spec
public import proofs.«01_k».proof.Proof.Consts
public import Idealize.ShloMosaic.Lib.Pointwise
public import Idealize.ShloMosaic.Lib.Pipeline.Value
public import Idealize.ShloMosaic.PureOps.Ideal.Laws

@[expose] public section

noncomputable section

namespace Cert.AttentionIdeal.Attn

open Cert.AttentionIdeal Cert.AttentionIdeal.Gen Idealize.ShloMosaic Idealize.ShloMosaic.Pointwise

/-- What one head computes at an index: the average of the values' column under the scores of the query's row, each
    score the scaled query's product with the key plus the bias. -/
theorem head_apply (q : Vec Ideal S64x64 .bf16) (k : Vec Ideal S512x64 .bf16) (b : Vec Ideal S1x1x64x512 .f32)
    (v : Vec Ideal S512x64 .bf16) (r d : Fin 64) :
    k0_pay5 q k b v (ix2 r d) = Na.average
      (fun n => ∑ e, q (ix2 r e) * ((1 / 8 : ℝ) : EReal) * k (ix2 n e) + b (ix4 0 0 r n)) (fun n => v (ix2 n d)) := by
  pointwise [k0_pay5]
  rw [Consts.eighth_bf16, Consts.neg_inf]
  rfl

/-- The gate at an index. -/
theorem gate_apply (o z : Vec Ideal S64x1024 .f32) (r : Fin 64) (d : Fin 1024) :
    k0_pay4 (F := Ideal) o z (ix2 r d) = o (ix2 r d) * Na.silu (z (ix2 r d)) := by
  pointwise [k0_pay4]
  rfl

/-- A head's sixty-four columns lie inside the block of queries. -/
theorem inb_q (h : Fin 16) (a : Fin S64x1024.rank) :
    (![0, 64 * h.val] : Fin 2 → Nat) a + S64x64.size a ≤ S64x1024.size a := by
  match a with
  | ⟨0, _⟩ => show 0 + 64 ≤ 64; omega
  | ⟨1, _⟩ => show 64 * h.val + 64 ≤ 1024; omega

/-- A head's sixty-four columns lie inside the band of keys or values. -/
theorem inb_k (h : Fin 16) (a : Fin S512x1024.rank) :
    (![0, 64 * h.val] : Fin 2 → Nat) a + S512x64.size a ≤ S512x1024.size a := by
  match a with
  | ⟨0, _⟩ => show 0 + 512 ≤ 512; omega
  | ⟨1, _⟩ => show 64 * h.val + 64 ≤ 1024; omega

/-- A head's slice lies inside the bias block. -/
theorem inb_b (h : Fin 16) (a : Fin S1x16x64x512.rank) :
    (![0, h.val, 0, 0] : Fin 4 → Nat) a + S1x1x64x512.size a ≤ S1x16x64x512.size a := by
  match a with
  | ⟨0, _⟩ => show 0 + 1 ≤ 1; omega
  | ⟨1, _⟩ => show h.val + 1 ≤ 16; omega
  | ⟨2, _⟩ => show 0 + 64 ≤ 64; omega
  | ⟨3, _⟩ => show 0 + 512 ≤ 512; omega

/-- Head `h` of the queries' block. -/
abbrev rectQ (h : Fin 16) : Rect S64x1024 := Rect.unit (s := S64x1024) ![0, 64 * h.val] S64x64.size (inb_q h)
/-- Head `h` of the keys' or the values' block. -/
abbrev rectK (h : Fin 16) : Rect S512x1024 := Rect.unit (s := S512x1024) ![0, 64 * h.val] S512x64.size (inb_k h)
/-- Head `h` of the bias table's block. -/
abbrev rectB (h : Fin 16) : Rect S1x16x64x512 := Rect.unit (s := S1x16x64x512) ![0, h.val, 0, 0] S1x1x64x512.size (inb_b h)

/-- What head `h` computes from the blocks. -/
def headOf (x0 : Vec Ideal S64x1024 .bf16) (x1 x2 : Vec Ideal S512x1024 .bf16) (x4 : Vec Ideal S1x16x64x512 .f32)
    (h : Fin 16) : FVec Ideal S64x64 .f32 :=
  k0_pay5 (View.ld x0 (rectQ h)) (View.ld x1 (rectK h)) (View.ld x4 (rectB h)) (View.ld x2 (rectK h))

/-- The sixteen heads laid side by side. -/
def heads (x0 : Vec Ideal S64x1024 .bf16) (x1 x2 : Vec Ideal S512x1024 .bf16) (x4 : Vec Ideal S1x16x64x512 .f32) :
    FVec Ideal S64x1024 .f32 :=
  concatenate S64x1024 1 (List.ofFn fun h : Fin 16 => (⟨S64x64, headOf x0 x1 x2 x4 h⟩ : (s : Shape) × (s.Idx → Ideal .f32)))
    concatenates_S64x64_S64x64_S64x64_S64x64_S64x64_S64x64_S64x64_S64x64_S64x64_S64x64_S64x64_S64x64_S64x64_S64x64_S64x64_S64x64_S64x1024_d1

/-- What one block of the output holds: the heads under the gate. -/
theorem out_eq (x0 : Vec Ideal S64x1024 .bf16) (x1 x2 : Vec Ideal S512x1024 .bf16) (x3 : Vec Ideal S64x1024 .f32)
    (x4 : Vec Ideal S1x16x64x512 .f32) : out0_5 x0 x1 x2 x3 x4 = k0_pay4 (heads x0 x1 x2 x4) x3 := by
  have hz : (![0, 0] : Fin 2 → Nat) = fun _ => 0 := by decide
  unfold out0_5
  rw [View.canon_unit_zero hz, View.ld_unit_zero hz]
  rfl

/-- What one block of the output holds at an index. -/
theorem out_apply (x0 : Vec Ideal S64x1024 .bf16) (x1 x2 : Vec Ideal S512x1024 .bf16) (x3 : Vec Ideal S64x1024 .f32)
    (x4 : Vec Ideal S1x16x64x512 .f32) (r : Fin 64) (f : Fin 1024) :
    out0_5 x0 x1 x2 x3 x4 (ix2 r f) = Na.average
      (fun n => ∑ e : Fin 64, x0 (ix2 r ⟨64 * (f.val / 64) + e.val, by omega⟩) * ((1 / 8 : ℝ) : EReal)
          * x1 (ix2 n ⟨64 * (f.val / 64) + e.val, by omega⟩) + x4 (ix4 0 ⟨f.val / 64, by omega⟩ r n))
      (fun n => x2 (ix2 n f)) * Na.silu (x3 (ix2 r f)) := by
  rw [out_eq, gate_apply]
  congr 1
  have hd : f.val / 64 < 16 := by omega
  have hm : f.val % 64 < 64 := by omega
  refine (Idealize.ShloMosaic.concatenate_ofFn_apply (t := S64x1024) (s₁ := S64x64) (1 : Fin 2) (headOf x0 x1 x2 x4) _ rfl 64 rfl (ix2 r f) ⟨f.val / 64, hd⟩ rfl
    (ix2 r ⟨f.val % 64, hm⟩) rfl ?_).trans ?_
  · intro b hb
    match b with
    | ⟨0, _⟩ => rfl
    | ⟨1, _⟩ => exact absurd rfl hb
  · unfold headOf
    rw [head_apply]
    pointwise []
    simp only [Nat.div_add_mod, Fin.eta]

end Cert.AttentionIdeal.Attn
-- ==== Proof.CallTable.lean ====
module

public import proofs.«01_k».proof.Proof.Gen.AttentionIdeal.Frame
public import proofs.«01_k».proof.Proof.Gathers
public import proofs.«01_k».proof.Proof.Spec
public import proofs.«01_k».proof.Proof.Consts
public import Idealize.ShloMosaic.Lib.Pointwise
public import Idealize.ShloMosaic.Lib.StableHlo.Run
public import Idealize.ShloMosaic.PureOps.Ideal.Laws

@[expose] public section

noncomputable section

namespace Cert.AttentionIdeal.Attn

open Cert.AttentionIdeal Cert.AttentionIdeal.Gen Idealize.ShloMosaic Idealize.ShloMosaic.TcCoe Idealize.SL.Sem Idealize.ShloMosaic.StableHlo

/-- The first key column of each query column's window, as the host computes it. -/
def colFirst : IVec S64 32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- The host's mask over query and key columns. -/
def colOk : IVec S64x64 1 :=
  andi
    (cmpi .sge
      (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colFirst)))
    (cmpi .slt
      (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 colFirst) (broadcastInDim S64x1 ![] bcast_S_S64x1 (constantI S_ 32 16#32)))))

/-- The column of the bias a query column takes for a key column, before the wrap of negative indices. -/
def colRel : IVec S64x64 32 :=
  minsi (broadcastInDim S64x64 ![] bcast_S_S64x64 (constantI S_ 32 30#32))
    (maxsi (broadcastInDim S64x64 ![] bcast_S_S64x64 (constantI S_ 32 0#32))
      (subi
        (addi
          (subi
            (broadcastInDim S64x64 ![0, 1] bcast_S1x64_S64x64_0_1 (broadcastInDim S1x64 ![1] bcast_S64_S1x64_1 (iotaInDim S64 32 0)))
            (broadcastInDim S64x64 ![0, 1] bcast_S64x1_S64x64_0_1 (broadcastInDim S64x1 ![0] bcast_S64_S64x1_0 (iotaInDim S64 32 0))))
          (broadcastInDim S64x64 ![] bcast_S_S64x64 (constantI S_ 32 16#32)))
        (broadcastInDim S64x64 ![] bcast_S_S64x64 (constantI S_ 32 1#32))))

/-- The start indices of the second gather. -/
def colIdx : IVec S64x64x1 32 :=
  broadcastInDim S64x64x1 ![0, 1] bcast_S64x64_S64x64x1_0_1
    (select (cmpi .slt colRel (broadcastInDim S64x64 ![] bcast_S_S64x64 (constantI S_ 32 0#32)))
      (addi colRel (broadcastInDim S64x64 ![] bcast_S_S64x64 (constantI S_ 32 31#32))) colRel)

/-- The row of the bias the row offset takes for a key row, before the wrap of negative indices. -/
def rowRel : IVec S8x8 32 :=
  subi
    (addi
      (subi
        (broadcastInDim S8x8 ![0, 1] bcast_S1x8_S8x8_0_1 (broadcastInDim S1x8 ![1] bcast_S8_S1x8_1 (iotaInDim S8 32 0)))
        (broadcastInDim S8x8 ![0, 1] bcast_S8x1_S8x8_0_1 (broadcastInDim S8x1 ![0] bcast_S8_S8x1_0 (iotaInDim S8 32 0))))
      (broadcastInDim S8x8 ![] bcast_S_S8x8 (constantI S_ 32 8#32)))
    (broadcastInDim S8x8 ![] bcast_S_S8x8 (constantI S_ 32 1#32))

/-- The start indices of the first gather. -/
def rowIdx : IVec S8x8x1 32 :=
  broadcastInDim S8x8x1 ![0, 1] bcast_S8x8_S8x8x1_0_1
    (select (cmpi .slt rowRel (broadcastInDim S8x8 ![] bcast_S_S8x8 (constantI S_ 32 0#32)))
      (addi rowRel (broadcastInDim S8x8 ![] bcast_S_S8x8 (constantI S_ 32 15#32))) rowRel)

/-- The host's bias table: the two gathers, the mask, and the layout the kernel reads. -/
def table (b : FVec Ideal S16x15x31 .f32) : FVec Ideal S8x16x64x512 .f32 :=
  shapeCast S8x16x64x512
    (transpose S8x16x64x8x64 [1, 0, 3, 2, 4]
      (select
        (broadcastInDim S16x8x8x64x64 ![0, 1, 2, 3, 4] bcast_S1x1x1x64x64_S16x8x8x64x64_0_1_2_3_4
          (broadcastInDim S1x1x1x64x64 ![3, 4] bcast_S64x64_S1x1x1x64x64_3_4 colOk))
        (Host.gather gather_S16x8x8x31_S64x64x1_S16x8x8x64x64_012_3_n_n_3_2_16881
          (Host.gather gather_S16x15x31_S8x8x1_S16x8x8x31_03_1_n_n_1_2_16131 b rowIdx) colIdx)
        (broadcastInDim S16x8x8x64x64 ![] bcast_S_S16x8x8x64x64 (constant (F := Ideal) S_ .f32 0xFF800000#32)))
      transposes_S16x8x8x64x64_S8x16x64x8x64_1_0_3_2_4)
    shapeCasts_S8x16x64x8x64_S8x16x64x512

variable (m : (ℓ : Loc nD τ sig) → Buf (Elt Ideal) ℓ)

/-- What the region finds in the table's buffer is the host's bias table of the third argument. -/
theorem V_table (c : Dev nD) : V m c main_v56 = table (m ((c : Thread nD τ).loc main_arg2)) := by
  unfold V
  simp only [hostOps0, hostOps0_1, hostOps0_2, hostOps0_3, hostOps0_4, hostOps0_5, hostOps0_6, List.flatten_cons,
    List.flatten_nil, List.append_nil, List.cons_append, List.nil_append, TRef.binary, TRef.nullary, TRef.ternary,
    TRef.unary, TRef.toBuf, TRef.ofBuf, cast_eq]
  after_results_simp
  rfl

open Idealize.ShloMosaic.Pointwise

/-- The mask at a query and a key column says whether the key column is in the query column's window. -/
theorem colOk_apply (q k : Fin 64) : colOk (ix2 q k) = if Na.inWindow q.val k.val then 1#1 else 0#1 := by
  pointwise [colOk, colFirst]
  revert q k
  decide +kernel

/-- The column the second gather takes. -/
theorem colIdx_apply (q k : Fin 64) : (colIdx (ix3 q k 0)).toInt.toNat = Na.colBias q.val k.val := by
  pointwise [colIdx, colRel]
  revert q k
  decide +kernel

/-- The row the first gather takes. -/
theorem rowIdx_apply (v j : Fin 8) : (rowIdx (ix3 v j 0)).toInt.toNat = j.val + 7 - v.val := by
  pointwise [rowIdx, rowRel]
  revert v j
  decide +kernel

/-- The second gather at an index. -/
theorem gather_col (x : FVec Ideal S16x8x8x31 .f32) (idx : IVec S64x64x1 32) (h : Fin 16) (v j : Fin 8) (q k : Fin 64) :
    Host.gather gather_S16x8x8x31_S64x64x1_S16x8x8x64x64_012_3_n_n_3_2_16881 x idx (ix5 h v j q k)
      = x (ix4 h v j ⟨min (idx (ix3 q k 0)).toInt.toNat (31 - 1), by omega⟩) :=
  Gathers.last_apply (N := 31) (by decide) gather_S16x8x8x31_S64x64x1_S16x8x8x64x64_012_3_n_n_3_2_16881.wf x idx h v j q k

/-- The first gather at an index. -/
theorem gather_row (x : FVec Ideal S16x15x31 .f32) (idx : IVec S8x8x1 32) (h : Fin 16) (v j : Fin 8) (c : Fin 31) :
    Host.gather gather_S16x15x31_S8x8x1_S16x8x8x31_03_1_n_n_1_2_16131 x idx (ix4 h v j c)
      = x (ix3 h ⟨min (idx (ix3 v j 0)).toInt.toNat (15 - 1), by omega⟩ c) :=
  Gathers.mid_apply (N := 15) (by decide) gather_S16x15x31_S8x8x1_S16x8x8x31_03_1_n_n_1_2_16131.wf x idx h v j c

attribute [local irreducible] rowIdx colIdx colOk

/-- The host's bias table at an index: the bias of the head at the row and column offsets of the key from the query,
    and minus infinity for a key column outside the query's window. -/
theorem table_apply (b : FVec Ideal S16x15x31 .f32) (v : Fin 8) (h : Fin 16) (q : Fin 64) (n : Fin 512) :
    table b (ix4 v h q n) = if Na.inWindow q.val (n.val % 64) then
      b (ix3 h ⟨n.val / 64 + 7 - v.val, by omega⟩ ⟨Na.colBias q.val (n.val % 64), Na.colBias_lt _ _⟩) else ⊥ := by
  pointwise [table]
  rw [colOk_apply, Consts.neg_inf]
  by_cases hw : Na.inWindow q.val (n.val % 64) = true
  · rw [if_pos hw, if_pos hw]
    rw [gather_col, gather_row, ValueIdx.select_one]
    have e1 : (⟨min (rowIdx (ix3 v (⟨n.val / 64, by omega⟩ : Fin 8) 0)).toInt.toNat (15 - 1), by omega⟩ : Fin 15)
        = ⟨n.val / 64 + 7 - v.val, by omega⟩ := Fin.ext (by simp only [rowIdx_apply]; omega)
    have e2 : (⟨min (colIdx (ix3 q (⟨n.val % 64, by omega⟩ : Fin 64) 0)).toInt.toNat (31 - 1), by omega⟩ : Fin 31)
        = ⟨Na.colBias q.val (n.val % 64), Na.colBias_lt _ _⟩ := Fin.ext (by
      have := Na.colBias_lt q.val (n.val % 64)
      simp only [colIdx_apply]; omega)
    exact congrArg b (congr (congrArg (ix3 h) e1) e2)
  · rw [if_neg hw, if_neg hw, ValueIdx.select_zero]

end Cert.AttentionIdeal.Attn
-- ==== Proof.CallBlocks.lean ====
module

public import proofs.«01_k».proof.Proof.Gen.AttentionIdeal.Value
public import proofs.«01_k».proof.Proof.CallHead
public import proofs.«01_k».proof.Proof.CallTable
public import Idealize.ShloMosaic.Lib.Pipeline.Value

@[expose] public section

noncomputable section

namespace Cert.AttentionIdeal.Attn

open Cert.AttentionIdeal Cert.AttentionIdeal.Gen Idealize.ShloMosaic Idealize.ShloMosaic.TcCoe Idealize.SL.Sem
open Idealize.ShloMosaic.Pointwise
open Idealize.ShloMosaic.Pipeline (Dat Window)

variable (m : (ℓ : Loc nD τ sig) → Buf (Elt Ideal) ℓ)

/-- Where the windows stand at a grid point: one fact per axis, decided over the grid. -/
theorem idx0_0 : ∀ t : Fin cfg0.N, win0_0.index t ⟨0, by decide⟩ = t.val ∧ win0_0.index t ⟨1, by decide⟩ = 0 :=
  (by decide +kernel : ∀ t : Fin grid0.N, win0_0.index t ⟨0, by decide⟩ = t.val ∧ win0_0.index t ⟨1, by decide⟩ = 0)
/-- The keys' window starts at the first row of the band. -/
theorem idx0_1 : ∀ t : Fin cfg0.N, win0_1.index t ⟨0, by decide⟩ = 64 * Na.rowStart t.val ∧ win0_1.index t ⟨1, by decide⟩ = 1024 :=
  (by decide +kernel : ∀ t : Fin grid0.N, win0_1.index t ⟨0, by decide⟩ = 64 * Na.rowStart t.val ∧ win0_1.index t ⟨1, by decide⟩ = 1024)
/-- The values' window starts at the first row of the band. -/
theorem idx0_2 : ∀ t : Fin cfg0.N, win0_2.index t ⟨0, by decide⟩ = 64 * Na.rowStart t.val ∧ win0_2.index t ⟨1, by decide⟩ = 2048 :=
  (by decide +kernel : ∀ t : Fin grid0.N, win0_2.index t ⟨0, by decide⟩ = 64 * Na.rowStart t.val ∧ win0_2.index t ⟨1, by decide⟩ = 2048)
/-- The gate's window moves with the point. -/
theorem idx0_3 : ∀ t : Fin cfg0.N, win0_3.index t ⟨0, by decide⟩ = t.val ∧ win0_3.index t ⟨1, by decide⟩ = 0 :=
  (by decide +kernel : ∀ t : Fin grid0.N, win0_3.index t ⟨0, by decide⟩ = t.val ∧ win0_3.index t ⟨1, by decide⟩ = 0)
/-- The table's window stands at the offset of the query row in its band. -/
theorem idx0_4 : ∀ t : Fin cfg0.N, win0_4.index t ⟨0, by decide⟩ = t.val - Na.rowStart t.val ∧ win0_4.index t ⟨1, by decide⟩ = 0
    ∧ win0_4.index t ⟨2, by decide⟩ = 0 ∧ win0_4.index t ⟨3, by decide⟩ = 0 :=
  (by decide +kernel : ∀ t : Fin grid0.N, win0_4.index t ⟨0, by decide⟩ = t.val - Na.rowStart t.val ∧ win0_4.index t ⟨1, by decide⟩ = 0
    ∧ win0_4.index t ⟨2, by decide⟩ = 0 ∧ win0_4.index t ⟨3, by decide⟩ = 0)
/-- The output's window moves with the point. -/
theorem idx0_5 : ∀ t : Fin cfg0.N, win0_5.index t ⟨0, by decide⟩ = t.val ∧ win0_5.index t ⟨1, by decide⟩ = 0 :=
  (by decide +kernel : ∀ t : Fin grid0.N, win0_5.index t ⟨0, by decide⟩ = t.val ∧ win0_5.index t ⟨1, by decide⟩ = 0)

/-- A grid point's number is below 256, the number of grid rows. -/
theorem pt_lt (t : Fin cfg0.N) : t.val < 256 := t.isLt.trans_eq N_0

/-- A grid row lies fewer than eight rows below the start of its window. -/
theorem rowOff_le (r : Nat) (h : r < 256) : r - Na.rowStart r < 8 := by unfold Na.rowStart; omega

/-- The queries' block at an index. -/
theorem blk_q (c : Dev nD) (t : Fin cfg0.N) (q : Fin 64) (f : Fin 1024) :
    iblk m c 0 t (ix2 q f) = m ((c : Thread nD τ).loc main_arg0)
      (ix2 ⟨64 * t.val + q.val, by have := pt_lt t; omega⟩ ⟨f.val, by omega⟩) := by
  show V m c main_arg0 ((win0_0.rect t).emb (ix2 q f)) = _
  rw [V_main_arg0]
  refine congrArg _ (funext fun a => Fin.ext ?_)
  rw [win0_0.rect_emb_val_off]
  match a with
  | ⟨0, _⟩ => exact (congrArg (· * 64 + q.val) (idx0_0 t).1).trans (by show t.val * 64 + q.val = 64 * t.val + q.val; omega)
  | ⟨1, _⟩ => exact (congrArg (· * 1024 + f.val) (idx0_0 t).2).trans (by show 0 * 1024 + f.val = f.val; omega)

/-- The keys' block at an index. -/
theorem blk_k (c : Dev nD) (t : Fin cfg0.N) (n : Fin 512) (f : Fin 1024) :
    iblk m c 1 t (ix2 n f) = m ((c : Thread nD τ).loc main_arg0)
      (ix2 ⟨64 * Na.rowStart t.val + n.val, by have := Na.rowStart_le t.val; omega⟩ ⟨1024 + f.val, by omega⟩) := by
  show V m c main_arg0 ((win0_1.rect t).emb (ix2 n f)) = _
  rw [V_main_arg0]
  refine congrArg _ (funext fun a => Fin.ext ?_)
  rw [win0_1.rect_emb_val_off]
  match a with
  | ⟨0, _⟩ => exact congrArg (· + n.val) (idx0_1 t).1
  | ⟨1, _⟩ => exact congrArg (· + f.val) (idx0_1 t).2

/-- The values' block at an index. -/
theorem blk_v (c : Dev nD) (t : Fin cfg0.N) (n : Fin 512) (f : Fin 1024) :
    iblk m c 2 t (ix2 n f) = m ((c : Thread nD τ).loc main_arg0)
      (ix2 ⟨64 * Na.rowStart t.val + n.val, by have := Na.rowStart_le t.val; omega⟩ ⟨2048 + f.val, by omega⟩) := by
  show V m c main_arg0 ((win0_2.rect t).emb (ix2 n f)) = _
  rw [V_main_arg0]
  refine congrArg _ (funext fun a => Fin.ext ?_)
  rw [win0_2.rect_emb_val_off]
  match a with
  | ⟨0, _⟩ => exact congrArg (· + n.val) (idx0_2 t).1
  | ⟨1, _⟩ => exact congrArg (· + f.val) (idx0_2 t).2

/-- The gate's block at an index. -/
theorem blk_z (c : Dev nD) (t : Fin cfg0.N) (q : Fin 64) (f : Fin 1024) :
    iblk m c 3 t (ix2 q f) = m ((c : Thread nD τ).loc main_arg1)
      (ix2 ⟨64 * t.val + q.val, by have := pt_lt t; omega⟩ ⟨f.val, by omega⟩) := by
  show V m c main_arg1 ((win0_3.rect t).emb (ix2 q f)) = _
  rw [V_main_arg1]
  refine congrArg _ (funext fun a => Fin.ext ?_)
  rw [win0_3.rect_emb_val_off]
  match a with
  | ⟨0, _⟩ => exact (congrArg (· * 64 + q.val) (idx0_3 t).1).trans (by show t.val * 64 + q.val = 64 * t.val + q.val; omega)
  | ⟨1, _⟩ => exact (congrArg (· * 1024 + f.val) (idx0_3 t).2).trans (by show 0 * 1024 + f.val = f.val; omega)

/-- The table's block at an index. -/
theorem blk_b (c : Dev nD) (t : Fin cfg0.N) (h : Fin 16) (q : Fin 64) (n : Fin 512) :
    iblk m c 4 t (ix4 0 h q n) = table (m ((c : Thread nD τ).loc main_arg2))
      (ix4 ⟨t.val - Na.rowStart t.val, rowOff_le _ (pt_lt t)⟩ h q n) := by
  show V m c main_v56 ((win0_4.rect t).emb (ix4 0 h q n)) = _
  rw [V_table]
  refine congrArg _ (funext fun a => Fin.ext ?_)
  rw [win0_4.rect_emb_val_off]
  match a with
  | ⟨0, _⟩ => exact (congrArg (· * 1 + 0) (idx0_4 t).1).trans (by show (t.val - Na.rowStart t.val) * 1 + 0 = t.val - Na.rowStart t.val; omega)
  | ⟨1, _⟩ => exact (congrArg (· * 16 + h.val) (idx0_4 t).2.1).trans (by show 0 * 16 + h.val = h.val; omega)
  | ⟨2, _⟩ => exact (congrArg (· * 64 + q.val) (idx0_4 t).2.2.1).trans (by show 0 * 64 + q.val = q.val; omega)
  | ⟨3, _⟩ => exact (congrArg (· * 512 + n.val) (idx0_4 t).2.2.2).trans (by show 0 * 512 + n.val = n.val; omega)

/-- What the result array is shown to hold. -/
def result (c : Dev nD) : Buf (Elt Ideal) ((c : Thread nD τ).loc main_v57) := fun i =>
  Na.attention (m ((c : Thread nD τ).loc main_arg0)) (m ((c : Thread nD τ).loc main_arg1)) (m ((c : Thread nD τ).loc main_arg2))
    (i 0) (i 1)

/-- What a grid point's block of the result holds at an index: the attention of the index's array row. -/
theorem block_apply (c : Dev nD) (t : Fin cfg0.N) (q : Fin 64) (f : Fin 1024) :
    out0_5 (iblk m c 0 t) (iblk m c 1 t) (iblk m c 2 t) (iblk m c 3 t) (iblk m c 4 t) (ix2 q f)
      = Na.attention (m ((c : Thread nD τ).loc main_arg0)) (m ((c : Thread nD τ).loc main_arg1))
          (m ((c : Thread nD τ).loc main_arg2)) ⟨64 * t.val + q.val, by have := pt_lt t; omega⟩ f := by
  have hd : (64 * t.val + q.val) / 64 = t.val := by omega
  have hm : (64 * t.val + q.val) % 64 = q.val := by omega
  rw [out_apply]
  unfold Na.attention
  simp only [blk_q, blk_k, blk_v, blk_z, blk_b, table_apply, hd]
  congr 2
  funext n
  simp only [Na.score, hd, hm]

/-- What point `t` writes back is its block of the result. -/
theorem flushed_eq (c : Dev nD) (t : Fin cfg0.N) :
    (dats m 0 c).flushed 5 t = (win0_5.blk t).view.read (Elt Ideal) (result m c) := by
  rw [Value.flushed5]
  funext y
  obtain ⟨q, f, rfl⟩ : ∃ (q : Fin 64) (f : Fin 1024), y = ix2 q f := ⟨y 0, y 1, by funext a; match a with | ⟨0, _⟩ => rfl | ⟨1, _⟩ => rfl⟩
  show out0_5 (iblk m c 0 t) (iblk m c 1 t) (iblk m c 2 t) (iblk m c 3 t) (iblk m c 4 t) (ix2 q f) = result m c ((win0_5.rect t).emb (ix2 q f))
  rw [block_apply]
  unfold result
  congr 1
  · refine Fin.ext ?_
    refine Eq.symm ((win0_5.rect_emb_val_off t (ix2 q f) ⟨0, by decide⟩).trans ?_)
    exact (congrArg (· * 64 + q.val) (idx0_5 t).1).trans (by show t.val * 64 + q.val = 64 * t.val + q.val; omega)
  · refine Fin.ext ?_
    refine Eq.symm ((win0_5.rect_emb_val_off t (ix2 q f) ⟨1, by decide⟩).trans ?_)
    exact (congrArg (· * 1024 + f.val) (idx0_5 t).2).trans (by show 0 * 1024 + f.val = f.val; omega)

/-- An index of the result array is in the block of the point its row names. -/
theorem mem_blk (t : Fin cfg0.N) (i : S16384x1024.Idx) (h : (i 0).val / 64 = t.val) : i ∈ ((cfg0.win 5).blk t).view.set := by
  show i ∈ ((View.whole main_v57).slice (win0_5.rect t)).set
  rw [View.set_slice_whole, Rect.mem_set_unit]
  have h1 : (i 1).val < 1024 := (i 1).isLt
  intro a
  match a with
  | ⟨0, _⟩ =>
    show win0_5.index t ⟨0, by decide⟩ * 64 ≤ (i 0).val ∧ (i 0).val < win0_5.index t ⟨0, by decide⟩ * 64 + 64
    rw [(idx0_5 t).1]; omega
  | ⟨1, _⟩ =>
    show win0_5.index t ⟨1, by decide⟩ * 1024 ≤ (i 1).val ∧ (i 1).val < win0_5.index t ⟨1, by decide⟩ * 1024 + 1024
    rw [(idx0_5 t).2]; omega

/-- The blocks cover the result array. -/
theorem cover (i : S16384x1024.Idx) : ∃ t : Fin cfg0.N, (cfg0.win 5).flush t = true ∧ i ∈ ((cfg0.win 5).blk t).view.set := by
  have h0 : (i 0).val < 16384 := (i 0).isLt
  have hN : cfg0.N = 256 := N_0
  exact ⟨⟨(i 0).val / 64, by omega⟩, flush0_5 _, mem_blk _ _ rfl⟩

/-- So the result array ends holding the attention. -/
theorem final (c : Dev nD) : (dats m 0 c).arrAt 5 cfg0.N = result m c :=
  (dats m 0 c).arrAt_eq_of_cover 5 (result m c) (fun t _ => flushed_eq m c t) cover

/-- The run of the kernel: the result array holds the attention and the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v57) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.AttentionIdeal.Attn
-- ==== Proof.CallRefIndex.lean ====
module

public import proofs.«01_k».proof.Proof.Gen.AttentionRefIdeal.Read

public import proofs.«01_k».proof.Proof.Spec
public import proofs.«01_k».proof.Proof.Consts
public import Idealize.ShloMosaic.Lib.Pointwise
public import Idealize.ShloMosaic.PureOps.Ideal.Laws

@[expose] public section

noncomputable section

namespace Cert.AttentionRefIdeal.Attn

open Cert.AttentionRefIdeal Cert.AttentionRefIdeal.Read Idealize.ShloMosaic Idealize.ShloMosaic.Pointwise

/-- The rows of a query row's band, as the keys are gathered. -/
theorem bandK_apply (r : Fin 256) (j : Fin 8) :
    (val_main_v51 (F := Ideal) (ix3 r j 0)).toInt.toNat = Na.rowStart r.val + j.val := by
  pointwise [val_main_v51, val_main_v50, val_main_v47, val_main_v49, val_main_v45, val_main_v43, val_main_v44,
    val_main_v42, val_main_v41, val_main_v40, val_main_v39, val_main_call2_v4, val_main_call2_v2,
    val_main_call2_v1, val_main_v38, val_main_v36, val_main_v37, val_main_c_7, val_main_call2_v0, val_main_c_8,
    val_main_call2_v3, val_main_c_9, val_main_v48, val_main_c_11, val_main_v46, val_main_c_10]
  revert r j
  decide +kernel

/-- The rows of a query row's band, as the values are gathered. -/
theorem bandV_apply (r : Fin 256) (j : Fin 8) :
    (val_main_v58 (F := Ideal) (ix3 r j 0)).toInt.toNat = Na.rowStart r.val + j.val := by
  pointwise [val_main_v58, val_main_v57, val_main_v54, val_main_v56, val_main_v45, val_main_v43, val_main_v44,
    val_main_v42, val_main_v41, val_main_v40, val_main_v39, val_main_call2_v4, val_main_call2_v2,
    val_main_call2_v1, val_main_v38, val_main_v36, val_main_v37, val_main_c_7, val_main_call2_v0, val_main_c_8,
    val_main_call2_v3, val_main_c_9, val_main_v55, val_main_c_13, val_main_v53, val_main_c_12]
  revert r j
  decide +kernel

/-- The rows of the bias a query row takes for the rows of its band. -/
theorem biasRow_apply (r : Fin 256) (j : Fin 8) :
    (val_main_v75 (F := Ideal) (ix3 r j 0)).toInt.toNat = j.val + 7 - (r.val - Na.rowStart r.val) := by
  pointwise [val_main_v75, val_main_v74, val_main_v71, val_main_v73, val_main_v69, val_main_v67, val_main_v68,
    val_main_c_15, val_main_v65, val_main_v66, val_main_c_14, val_main_v45, val_main_v64, val_main_v63,
    val_main_v36, val_main_v43, val_main_v44, val_main_v42, val_main_v41, val_main_v40, val_main_v39,
    val_main_call2_v4, val_main_call2_v2, val_main_call2_v1, val_main_v38, val_main_v37, val_main_c_7,
    val_main_call2_v0, val_main_c_8, val_main_call2_v3, val_main_c_9, val_main_v72, val_main_c_17, val_main_v70,
    val_main_c_16]
  revert r j
  decide +kernel

/-- The column of the bias a query column takes for a key column. -/
theorem biasCol_apply (q k : Fin 64) :
    (val_main_v82 (F := Ideal) (ix3 q k 0)).toInt.toNat = Na.colBias q.val k.val := by
  pointwise [val_main_v82, val_main_v81, val_main_v78, val_main_v80, val_main_v35, val_main_call1_v4, val_main_call1_v2,
    val_main_call1_v1, val_main_v34, val_main_v32, val_main_v33, val_main_c_4, val_main_v30, val_main_v31,
    val_main_c_3, val_main_v28, val_main_v29, val_main_v27, val_main_v8, val_main_v26, val_main_v9,
    val_main_call1_v0, val_main_c_5, val_main_call1_v3, val_main_c_6, val_main_v79, val_main_c_19, val_main_v77,
    val_main_c_18]
  revert q k
  decide +kernel

/-- The mask at a query and a key column says whether the key column is in the query column's window. -/
theorem mask_apply (q k : Fin 64) :
    val_main_v25 (F := Ideal) (ix2 q k) = if Na.inWindow q.val k.val then 1#1 else 0#1 := by
  pointwise [val_main_v25, val_main_v17, val_main_v24, val_main_v22, val_main_v23, val_main_v21, val_main_v19,
    val_main_v20, val_main_c_2, val_main_v12, val_main_call0_v4, val_main_call0_v2, val_main_call0_v1,
    val_main_v11, val_main_v8, val_main_v10, val_main_c, val_main_call0_v0, val_main_c_0, val_main_call0_v3,
    val_main_c_1, val_main_v18, val_main_v9, val_main_v15, val_main_v16, val_main_v14, val_main_v13]
  revert q k
  decide +kernel

end Cert.AttentionRefIdeal.Attn
-- ==== Proof.CallRefScore.lean ====
module

public import proofs.«01_k».proof.Proof.Gen.AttentionRefIdeal.Read
public import proofs.«01_k».proof.Proof.CallRefIndex
public import proofs.«01_k».proof.Proof.Gathers
public import proofs.«01_k».proof.Proof.Spec
public import proofs.«01_k».proof.Proof.Consts
public import Idealize.ShloMosaic.Lib.Pointwise
public import Idealize.ShloMosaic.PureOps.Ideal.Laws

@[expose] public section

noncomputable section

namespace Cert.AttentionRefIdeal.Attn

open Cert.AttentionRefIdeal Cert.AttentionRefIdeal.Read Idealize.ShloMosaic Idealize.ShloMosaic.Pointwise

/-- A gather of rows of the keys or the values at an index. -/
theorem gather_band (x : FVec Ideal S256x64x16x64 .f32) (idx : IVec S256x8x1 32) (r : Fin 256) (j : Fin 8) (k : Fin 64)
    (h : Fin 16) (e : Fin 64) :
    Host.gather gather_S256x64x16x64_S256x8x1_S256x8x64x16x64_234_0_n_n_0_2_1641664 x idx (ix5 r j k h e)
      = x (ix4 ⟨min (idx (ix3 r j 0)).toInt.toNat (256 - 1), by omega⟩ k h e) :=
  Gathers.first_apply (N := 256) (by decide) gather_S256x64x16x64_S256x8x1_S256x8x64x16x64_234_0_n_n_0_2_1641664.wf x idx r j k h e

/-- The gather of rows of the bias at an index. -/
theorem gather_row (x : FVec Ideal S16x15x31 .f32) (idx : IVec S256x8x1 32) (h : Fin 16) (r : Fin 256) (j : Fin 8) (c : Fin 31) :
    Host.gather gather_S16x15x31_S256x8x1_S16x256x8x31_03_1_n_n_1_2_16131 x idx (ix4 h r j c)
      = x (ix3 h ⟨min (idx (ix3 r j 0)).toInt.toNat (15 - 1), by omega⟩ c) :=
  Gathers.mid_apply (N := 15) (by decide) gather_S16x15x31_S256x8x1_S16x256x8x31_03_1_n_n_1_2_16131.wf x idx h r j c

/-- The gather of columns of the bias at an index. -/
theorem gather_col (x : FVec Ideal S16x256x8x31 .f32) (idx : IVec S64x64x1 32) (h : Fin 16) (r : Fin 256) (j : Fin 8) (q k : Fin 64) :
    Host.gather gather_S16x256x8x31_S64x64x1_S16x256x8x64x64_012_3_n_n_3_2_1625681 x idx (ix5 h r j q k)
      = x (ix4 h r j ⟨min (idx (ix3 q k 0)).toInt.toNat (31 - 1), by omega⟩) :=
  Gathers.last_apply (N := 31) (by decide) gather_S16x256x8x31_S64x64x1_S16x256x8x64x64_012_3_n_n_3_2_1625681.wf x idx h r j q k

variable (x : FVec Ideal S16384x3072 .bf16) (b : FVec Ideal S16x15x31 .f32)

/-- The queries at an index. -/
theorem query_apply (r : Fin 256) (q : Fin 64) (h : Fin 16) (e : Fin 64) :
    val_main_v2 (F := Ideal) x (ix4 r q h e) = x (ix2 ⟨64 * r.val + q.val, by omega⟩ ⟨64 * h.val + e.val, by omega⟩) := by
  pointwise [val_main_v2, val_main_v1, val_main_v0]
  exact congrArg x (congrArg₂ ix2 (Fin.ext (by show r.val * 64 + q.val = 64 * r.val + q.val; omega))
    (Fin.ext (by show h.val * 64 + e.val = 64 * h.val + e.val; omega)))

/-- The keys of a query row's band at an index. -/
theorem key_apply (r : Fin 256) (j : Fin 8) (k : Fin 64) (h : Fin 16) (e : Fin 64) :
    val_main_v52 (F := Ideal) x (ix5 r j k h e)
      = x (ix2 ⟨64 * Na.rowStart r.val + (64 * j.val + k.val), by have := Na.rowStart_le r.val; omega⟩
          ⟨1024 + (64 * h.val + e.val), by omega⟩) := by
  unfold val_main_v52
  rw [gather_band]
  pointwise [val_main_v4, val_main_v3, val_main_v0]
  refine congrArg x (congrArg₂ ix2 (Fin.ext ?_) (Fin.ext ?_))
  · have := Na.rowStart_le r.val
    simp only [bandK_apply]; omega
  · show 1024 + (h.val * 64 + e.val) = 1024 + (64 * h.val + e.val); omega

/-- The values of a query row's band at an index. -/
theorem value_apply (r : Fin 256) (j : Fin 8) (k : Fin 64) (h : Fin 16) (e : Fin 64) :
    val_main_v59 (F := Ideal) x (ix5 r j k h e)
      = x (ix2 ⟨64 * Na.rowStart r.val + (64 * j.val + k.val), by have := Na.rowStart_le r.val; omega⟩
          ⟨2048 + (64 * h.val + e.val), by omega⟩) := by
  unfold val_main_v59
  rw [gather_band]
  pointwise [val_main_v6, val_main_v5, val_main_v0]
  refine congrArg x (congrArg₂ ix2 (Fin.ext ?_) (Fin.ext ?_))
  · have := Na.rowStart_le r.val
    simp only [bandV_apply]; omega
  · show 2048 + (h.val * 64 + e.val) = 2048 + (64 * h.val + e.val); omega

/-- The bias at an index. -/
theorem bias_apply (h : Fin 16) (r : Fin 256) (j : Fin 8) (q k : Fin 64) :
    val_main_v83 (F := Ideal) b (ix5 h r j q k)
      = b (ix3 h ⟨j.val + 7 - (r.val - Na.rowStart r.val), by omega⟩ ⟨Na.colBias q.val k.val, Na.colBias_lt _ _⟩) := by
  unfold val_main_v83
  rw [gather_col]
  unfold val_main_v76
  rw [gather_row]
  refine congrArg b (congr (congrArg (ix3 h) (Fin.ext ?_)) (Fin.ext ?_))
  · simp only [biasRow_apply]; omega
  · have := Na.colBias_lt q.val k.val
    simp only [biasCol_apply]; omega

/-- The masked scores at an index. -/
theorem score_apply (r : Fin 256) (h : Fin 16) (q : Fin 64) (n : Fin 512) :
    val_main_v88 (F := Ideal) x b (ix4 r h q n) = if Na.inWindow q.val (n.val % 64) then
      (∑ e : Fin 64, x (ix2 ⟨64 * r.val + q.val, by omega⟩ ⟨64 * h.val + e.val, by omega⟩)
        * x (ix2 ⟨64 * Na.rowStart r.val + n.val, by have := Na.rowStart_le r.val; omega⟩ ⟨1024 + (64 * h.val + e.val), by omega⟩))
          * ((1 / 8 : ℝ) : EReal)
        + b (ix3 h ⟨n.val / 64 + 7 - (r.val - Na.rowStart r.val), by omega⟩ ⟨Na.colBias q.val (n.val % 64), Na.colBias_lt _ _⟩)
      else ⊥ := by
  pointwise [val_main_v88, val_main_v87, val_main_call3_v1, val_main_v85, val_main_call3_v2, val_main_call3_v0, val_main_cst_20,
    val_main_v62, val_main_v84, val_main_v60, val_main_v61, val_main_cst, val_main_v86, query_apply, key_apply, bias_apply,
    mask_apply]
  by_cases hw : Na.inWindow q.val (n.val % 64) = true
  · rw [if_pos hw, if_pos hw, ValueIdx.select_one, Consts.eighth_f32]
    simp only [Nat.div_add_mod]
  · rw [if_neg hw, if_neg hw, ValueIdx.select_zero]
    exact Consts.neg_inf

end Cert.AttentionRefIdeal.Attn
-- ==== Proof.CallRefOut.lean ====
module

public import proofs.«01_k».proof.Proof.Gen.AttentionRefIdeal.Read
public import proofs.«01_k».proof.Proof.CallRefScore
public import proofs.«01_k».proof.Proof.RowMax
public import proofs.«01_k».proof.Proof.Spec
public import proofs.«01_k».proof.Proof.Consts
public import Idealize.ShloMosaic.Lib.Pointwise
public import Idealize.ShloMosaic.PureOps.Ideal.Laws

@[expose] public section

noncomputable section

namespace Cert.AttentionRefIdeal.Attn

open Cert.AttentionRefIdeal Cert.AttentionRefIdeal.Read Idealize.ShloMosaic Idealize.ShloMosaic.Pointwise

variable (x : FVec Ideal S16384x3072 .bf16) (z : FVec Ideal S16384x10240 .f32) (b : FVec Ideal S16x15x31 .f32)

/-- The greatest score of a query at an index. -/
theorem max_apply (r : Fin 256) (h : Fin 16) (q : Fin 64) :
    val_main_v91 (F := Ideal) x b (ix3 r h q)
      = Finset.univ.fold max (⊥ : EReal) (fun n : Fin 512 => val_main_v88 (F := Ideal) x b (ix4 r h q n)) := by
  have e0 : val_main_v90 (F := Ideal) (ix3 r h q) = ⊥ := by
    pointwise [val_main_v90, val_main_cst_22]
    exact Consts.neg_inf
  have e1 : val_main_cst_21 (F := Ideal) ix0 = ⊥ := Consts.neg_inf
  unfold val_main_v91 val_main_v89
  generalize val_main_v88 (F := Ideal) x b = y
  revert e0 e1
  generalize val_main_v90 (F := Ideal) = w0
  generalize val_main_cst_21 (F := Ideal) = w1
  intro e0 e1
  refine (ValueIdx.maximumf_apply _ _ _).trans ?_
  rw [RowMax.host_apply, e0, e1]
  exact max_eq_right bot_le

/-- The exponential of a score less the greatest, at an index. -/
theorem exp_apply (r : Fin 256) (h : Fin 16) (q : Fin 64) (n : Fin 512) :
    val_main_v95 (F := Ideal) x b (ix4 r h q n)
      = Ideal.exp (val_main_v88 (F := Ideal) x b (ix4 r h q n) - val_main_v91 (F := Ideal) x b (ix3 r h q)) := by
  unfold val_main_v95 val_main_v94 val_main_v93 val_main_v92
  generalize val_main_v91 (F := Ideal) x b = w
  generalize val_main_v88 (F := Ideal) x b = y
  pointwise []

/-- The sum of a query's exponentials at an index. -/
theorem denom_apply (r : Fin 256) (h : Fin 16) (q : Fin 64) (n : Fin 512) :
    val_main_v98 (F := Ideal) x b (ix4 r h q n) = ∑ k : Fin 512, val_main_v95 (F := Ideal) x b (ix4 r h q k) := by
  rw [val_main_v98_apply, val_main_v97_apply, val_main_v96_apply]
  have e : ∀ i, val_main_cst_23 (F := Ideal) i = 0 := fun i => Consts.zero_f32
  rw [e, zero_add]
  generalize val_main_v95 (F := Ideal) x b = y
  refine Finset.sum_congr rfl fun k _ => congrArg y (funext fun a => ?_)
  match a with
  | ⟨0, _⟩ => rfl
  | ⟨1, _⟩ => rfl
  | ⟨2, _⟩ => rfl
  | ⟨3, _⟩ => rfl

/-- The weight of a key at an index. -/
theorem prob_apply (r : Fin 256) (h : Fin 16) (q : Fin 64) (n : Fin 512) :
    val_main_v99 (F := Ideal) x b (ix4 r h q n)
      = Ideal.div (Ideal.exp (val_main_v88 (F := Ideal) x b (ix4 r h q n) - val_main_v91 (F := Ideal) x b (ix3 r h q)))
          (∑ k : Fin 512, Ideal.exp (val_main_v88 (F := Ideal) x b (ix4 r h q k) - val_main_v91 (F := Ideal) x b (ix3 r h q))) := by
  have e : val_main_v99 (F := Ideal) x b (ix4 r h q n)
      = Ideal.div (val_main_v95 (F := Ideal) x b (ix4 r h q n)) (val_main_v98 (F := Ideal) x b (ix4 r h q n)) := by
    unfold val_main_v99
    generalize val_main_v95 (F := Ideal) x b = y
    generalize val_main_v98 (F := Ideal) x b = w
    pointwise []
  rw [e, denom_apply]
  simp only [exp_apply]

/-- The reference's result at an index: the weighted values under the gate. -/
theorem out_apply (i : Fin 16384) (f : Fin 1024) :
    val_main_v106 (F := Ideal) x z b (ix2 i f)
      = (∑ n : Fin 512, x (ix2 ⟨64 * Na.rowStart (i.val / 64) + n.val, by have := Na.rowStart_le (i.val / 64); omega⟩
            ⟨2048 + f.val, by omega⟩)
          * val_main_v99 (F := Ideal) x b (ix4 ⟨i.val / 64, by omega⟩ ⟨f.val / 64, by omega⟩ ⟨i.val % 64, by omega⟩ n))
        * Na.silu (z (ix2 i ⟨f.val, by omega⟩)) := by
  unfold val_main_v106 val_main_v105 val_main_v103 val_main_v102 val_main_v101 val_main_v100
  have hv := value_apply x
  revert hv
  generalize val_main_v99 (F := Ideal) x b = p
  generalize val_main_v59 (F := Ideal) x = v
  intro hv
  pointwise [val_main_v104, val_main_v7, val_main_call4_v5, val_main_call4_v4,
    val_main_call4_v3, val_main_call4_v2, val_main_call4_v1, val_main_call4_v0, val_main_call4_cst, val_main_call4_cst_0,
    hv]
  simp only [Nat.div_add_mod]
  rfl

end Cert.AttentionRefIdeal.Attn
-- ==== Proof.CallEquation.lean ====
module

public import proofs.«01_k».proof.Proof.CallRefOut
public import proofs.«01_k».proof.Proof.Softmax

@[expose] public section

noncomputable section

namespace Cert.CallEquation

open Cert.AttentionRefIdeal Cert.AttentionRefIdeal.Read Cert.AttentionRefIdeal.Attn Idealize.ShloMosaic Idealize.ShloMosaic.Pointwise

/-- The sum of reals, as an extended real, is the sum of the extended reals. -/
theorem coe_sum {n : Nat} (a : Fin n → ℝ) : ((∑ e, a e : ℝ) : EReal) = ∑ e, (a e : EReal) := by
  classical
  refine Finset.induction_on (Finset.univ : Finset (Fin n)) (by simp) fun e s he ih => ?_
  rw [Finset.sum_insert he, Finset.sum_insert he, EReal.coe_add, ih]

/-- A sum of products of reals is a real. -/
theorem sum_real {n : Nat} (f g : Fin n → EReal) (hf : ∀ e, ∃ r : ℝ, f e = (r : EReal)) (hg : ∀ e, ∃ r : ℝ, g e = (r : EReal)) :
    ∃ r : ℝ, ∑ e, f e * g e = (r : EReal) := by
  choose a ha using hf
  choose c hc using hg
  refine ⟨∑ e, a e * c e, ?_⟩
  simp only [ha, hc, ← EReal.coe_mul]
  exact (coe_sum _).symm

/-- Scaling the left factors of a sum of products of reals scales the sum. -/
theorem scale_left {n : Nat} (f g : Fin n → EReal) (s : ℝ) (hf : ∀ e, ∃ r : ℝ, f e = (r : EReal))
    (hg : ∀ e, ∃ r : ℝ, g e = (r : EReal)) : ∑ e, f e * (s : EReal) * g e = (∑ e, f e * g e) * (s : EReal) := by
  choose a ha using hf
  choose c hc using hg
  simp only [ha, hc]
  have e1 : ∀ e, (a e : EReal) * (s : EReal) * (c e : EReal) = ((a e * s * c e : ℝ) : EReal) := fun e => by
    rw [EReal.coe_mul, EReal.coe_mul]
  have e2 : ∀ e, (a e : EReal) * (c e : EReal) = ((a e * c e : ℝ) : EReal) := fun e => (EReal.coe_mul _ _).symm
  simp only [e1, e2]
  rw [← coe_sum, ← coe_sum, ← EReal.coe_mul, Finset.sum_mul]
  congr 1
  exact Finset.sum_congr rfl fun e _ => by ring

variable (x : FVec Ideal S16384x3072 .bf16) (z : FVec Ideal S16384x10240 .f32) (b : FVec Ideal S16x15x31 .f32)
  (hx : ∀ (i : Fin 16384) (j : Fin 3072), j.val < 2048 → ∃ r : ℝ, x (ix2 i j) = (r : EReal))
  (hb : ∀ i, ∃ r : ℝ, b i = (r : EReal))

include hx in
/-- The kernel's score, its queries scaled first and its mask added, is the reference's, scaled last and masked by a choice. -/
theorem score_eq (r : Fin 256) (h : Fin 16) (q : Fin 64) (n : Fin 512) (i : Fin 16384) (hi : i.val = 64 * r.val + q.val) :
    Na.score x b i h n = val_main_v88 (F := Ideal) x b (ix4 r h q n) := by
  rw [score_apply]
  have d : i.val / 64 = r.val := by omega
  have d' : i.val % 64 = q.val := by omega
  have e : i = ⟨64 * r.val + q.val, by omega⟩ := Fin.ext hi
  unfold Na.score
  simp only [d, d']
  rw [← e]
  clear e hi
  by_cases hw : Na.inWindow q.val (n.val % 64) = true
  · rw [if_pos hw, if_pos hw]
    congr 1
    exact scale_left _ _ _ (fun e => hx _ ⟨64 * h.val + e.val, by omega⟩ (by show 64 * h.val + e.val < 2048; omega)) (fun e => hx _ ⟨1024 + (64 * h.val + e.val), by omega⟩ (by show 1024 + (64 * h.val + e.val) < 2048; omega))
  · rw [if_neg hw, if_neg hw, EReal.add_bot]

include hx hb in
/-- A score inside the window is a real. -/
theorem score_real (r : Fin 256) (h : Fin 16) (q : Fin 64) (n : Fin 512) (hw : Na.inWindow q.val (n.val % 64) = true) :
    ∃ s : ℝ, val_main_v88 (F := Ideal) x b (ix4 r h q n) = (s : EReal) := by
  rw [score_apply, if_pos hw]
  obtain ⟨s, hs⟩ := sum_real _ _ (fun e : Fin 64 => hx ⟨64 * r.val + q.val, by omega⟩ ⟨64 * h.val + e.val, by omega⟩
        (by show 64 * h.val + e.val < 2048; omega))
    (fun e => hx ⟨64 * Na.rowStart r.val + n.val, by have := Na.rowStart_le r.val; omega⟩ ⟨1024 + (64 * h.val + e.val), by omega⟩
        (by show 1024 + (64 * h.val + e.val) < 2048; omega))
  rw [hs]
  obtain ⟨t, ht⟩ := hb (ix3 h ⟨n.val / 64 + 7 - (r.val - Na.rowStart r.val), by omega⟩ ⟨Na.colBias q.val (n.val % 64), Na.colBias_lt _ _⟩)
  rw [ht]
  exact ⟨s * (1 / 8) + t, by rw [EReal.coe_add, EReal.coe_mul]⟩

include hx hb in
/-- No score is plus infinity. -/
theorem score_ne_top (r : Fin 256) (h : Fin 16) (q : Fin 64) (n : Fin 512) :
    val_main_v88 (F := Ideal) x b (ix4 r h q n) ≠ ⊤ := by
  by_cases hw : Na.inWindow q.val (n.val % 64) = true
  · obtain ⟨s, hs⟩ := score_real x b hx hb r h q n hw
    rw [hs]; exact EReal.coe_ne_top s
  · rw [score_apply, if_neg hw]; exact bot_ne_top

include hx hb in
/-- Every query has a key in its window, whose score is not minus infinity. -/
theorem score_ne_bot (r : Fin 256) (h : Fin 16) (q : Fin 64) :
    val_main_v88 (F := Ideal) x b (ix4 r h q ⟨Na.colStart q.val, by unfold Na.colStart; omega⟩) ≠ ⊥ := by
  have d : Na.colStart q.val % 64 = Na.colStart q.val := Nat.mod_eq_of_lt (by unfold Na.colStart; omega)
  obtain ⟨s, hs⟩ := score_real x b hx hb r h q ⟨Na.colStart q.val, by unfold Na.colStart; omega⟩ (by
    show Na.inWindow q.val (Na.colStart q.val % 64) = true
    rw [d]; exact Na.inWindow_start _)
  rw [hs]; exact EReal.coe_ne_bot s

include hx hb in
/-- The reference, which divides its weights before it sums, has the kernel's value, which divides after. -/
theorem attention_eq (i : Fin 16384) (f : Fin 1024) : Na.attention x z b i f = val_main_v106 (F := Ideal) x z b (ix2 i f) := by
  rw [out_apply]
  unfold Na.attention
  congr 1
  have hr : i.val / 64 < 256 := by omega
  have hq : i.val % 64 < 64 := by omega
  have hi : i.val = 64 * (i.val / 64) + i.val % 64 := by omega
  have key := fun (r : Fin 256) (h : Fin 16) (q : Fin 64) (v : Fin 512 → EReal) =>
    Softmax.weighted (fun n => val_main_v88 (F := Ideal) x b (ix4 r h q n)) v (fun n => score_ne_top x b hx hb r h q n) _
      (score_ne_bot x b hx hb r h q)
  have es : Na.score x b i ⟨f.val / 64, by omega⟩
      = fun n => val_main_v88 (F := Ideal) x b (ix4 ⟨i.val / 64, hr⟩ ⟨f.val / 64, by omega⟩ ⟨i.val % 64, hq⟩ n) :=
    funext fun n => score_eq x b hx ⟨i.val / 64, hr⟩ ⟨f.val / 64, by omega⟩ ⟨i.val % 64, hq⟩ n i hi
  rw [es]
  unfold Na.average
  refine (key ⟨i.val / 64, hr⟩ ⟨f.val / 64, by omega⟩ ⟨i.val % 64, hq⟩ _).trans ?_
  refine Finset.sum_congr rfl fun n _ => ?_
  rw [prob_apply, max_apply]

end Cert.CallEquation

end
-- ==== Proof.CallFinite.lean ====
module

public import proofs.«01_k».proof.Defs
public import proofs.«01_k».proof.Proof.Consts
public import Idealize.ShloMosaic.Lib.Pointwise
public import Idealize.ShloMosaic.Lib.ReduceAll
public import Idealize.ShloMosaic.Lib.StableHlo.Predicate

@[expose] public section

noncomputable section

namespace Cert.Pre_finite_queries.Attn

open Cert.Pre_finite_queries Idealize.ShloMosaic Idealize.ShloMosaic.Pointwise

/-- The shapes of the precondition's operations fit. -/
theorem facts : Facts where
  slices_S16384x3072_S16384x2048_0_0 := by decide
  bitsLt_bf16_f32 := by decide
  bcast_S_S16384x2048 := by decide
  reducesTo_S16384x2048_S_d0_1 := by decide
  h_S_ := by decide
  bcast_S_S16x15x31 := by decide
  reducesTo_S16x15x31_S_d0_1_2 := by decide

/-- An extended real whose absolute value is below `⊤` is a real. -/
theorem real_of_abs_lt (x : EReal) (h : Ideal.cmp .olt (max x (-x)) ⊤ = 1#1) :
    ∃ r : ℝ, x = (r : EReal) := by
  induction x with
  | bot => exact absurd h (by simp [Ideal.cmp])
  | coe r => exact ⟨r, rfl⟩
  | top => exact absurd h (by simp [Ideal.cmp])

variable [Facts] (x : FVec Ideal S16384x3072 .bf16) (z : FVec Ideal S16384x10240 .f32) (b : FVec Ideal S16x15x31 .f32)

/-- Under the precondition every entry of the queries and keys is a real. -/
theorem qk_real (h : fn (F := Ideal) x z b = fun _ => 1#1) (i : Fin 16384) (j : Fin 3072) (hj : j.val < 2048) :
    ∃ r : ℝ, x (ix2 i j) = (r : EReal) := by
  have h0 := congrFun h ix0
  have h1 := (IntOp.andi_eq_one.mp h0).1
  haveI : Subsingleton S_.Idx := ⟨fun a b => funext fun k => k.elim0⟩
  have h2 := Host.reduce_andi_all _ _ _ _ _ h1 (ix2 i ⟨j.val, hj⟩)
  refine real_of_abs_lt _ ?_
  rw [← Consts.pos_inf, ← h2]
  refine congrArg (fun t : EReal => Ideal.cmp .olt (max t (-t)) (Ideal.ofBits .f32 0x7F800000#32)) ?_
  pointwise

/-- Under the precondition every entry of the bias is a real. -/
theorem bias_real (h : fn (F := Ideal) x z b = fun _ => 1#1) (i : S16x15x31.Idx) : ∃ r : ℝ, b i = (r : EReal) := by
  have h0 := congrFun h ix0
  have h1 := (IntOp.andi_eq_one.mp h0).2
  haveI : Subsingleton S_.Idx := ⟨fun a b => funext fun k => k.elim0⟩
  have h2 := Host.reduce_andi_all _ _ _ _ _ h1 i
  refine real_of_abs_lt _ ?_
  rw [← Consts.pos_inf, ← h2]
  rfl

end Cert.Pre_finite_queries.Attn

end
-- ==== Proof.AttentionClaims.lean ====
module

public import proofs.«01_k».proof.Defs
public import proofs.«01_k».proof.Proof.Gen.Attention.Frame
public import proofs.«01_k».proof.Proof.Gen.AttentionIdeal.Frame
public import proofs.«01_k».proof.Proof.Gen.AttentionRefIdeal.Run
public import proofs.«01_k».proof.Proof.CallBlocks
public import proofs.«01_k».proof.Proof.CallEquation
public import proofs.«01_k».proof.Proof.CallFinite
public import Idealize.ShloMosaic.Adequacy

@[expose] public section

noncomputable section

namespace Cert.AttentionClaims

open Idealize.ShloMosaic Idealize.SL.Sem Idealize.ShloMosaic.Pointwise

/-- The attention call runs, keeps its arguments and leaves every counter at zero. -/
theorem frame : Cert.quiescent_Attention := fun m ρ _ => Cert.Attention.Gen.frame m ρ

/-- The same of the call over the extended reals. -/
theorem frame_ideal : Cert.quiescent_AttentionIdeal := fun m ρ _ => Cert.AttentionIdeal.Gen.frame m ρ

/-- The same, from memories that meet the precondition. -/
theorem frame_ideal_pre [Cert.Pre_finite_queries.Facts] : Cert.quiescent_AttentionIdeal_pre_finite_queries :=
  fun m ρ _ => Cert.AttentionIdeal.Gen.frame m ρ

/-- The reference runs, keeps its arguments and leaves every counter at zero. -/
theorem frame_ref (m : (ℓ : Loc Cert.AttentionRefIdeal.nD Cert.AttentionRefIdeal.τ Cert.AttentionRefIdeal.sig) → Buf (Elt Ideal) ℓ)
    (ρ : Dev Cert.AttentionRefIdeal.nD → PrngReg) :
    θ_run (Cert.AttentionRefIdeal.defs (F := Ideal)) (onTc (τ := Cert.AttentionRefIdeal.τ) (Cert.AttentionRefIdeal.main (F := Ideal)))
      ⟨m, fun _ => 0, ρ⟩ (fun r => (∀ c : Dev Cert.AttentionRefIdeal.nD,
        r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
        ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
        ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
        ∧ r.2.sem = fun _ => 0) :=
  (θ_run Cert.AttentionRefIdeal.defs _ _).mono
    (fun r h => ⟨fun c => (h c).2, sem_eq_zero_of_no_sems (by decide) r.2⟩)
    (Cert.AttentionRefIdeal.Value.run (F := Ideal) m ρ)

/-- The equation of the two programs' result arrays, at every index. -/
theorem value_eq [Cert.Pre_finite_queries.Facts] (x : FVec Ideal Cert.AttentionRefIdeal.S16384x3072 .bf16)
    (z : FVec Ideal Cert.AttentionRefIdeal.S16384x10240 .f32) (b : FVec Ideal Cert.AttentionRefIdeal.S16x15x31 .f32)
    (h : Cert.Pre_finite_queries.fn (F := Ideal) x z b = fun _ => 1#1) :
    (fun i => Na.attention x z b (i 0) (i 1)) = Cert.AttentionRefIdeal.Read.val_main_v106 (F := Ideal) x z b := by
  funext i
  have e := Cert.CallEquation.attention_eq x z b (Cert.Pre_finite_queries.Attn.qk_real x z b h)
    (Cert.Pre_finite_queries.Attn.bias_real x z b h) (i 0) (i 1)
  refine e.trans (congrArg (Cert.AttentionRefIdeal.Read.val_main_v106 (F := Ideal) x z b) ?_)
  funext a
  match a with
  | ⟨0, _⟩ => rfl
  | ⟨1, _⟩ => rfl

/-- The kernel's result array is the reference's over the extended reals, from finite queries, keys and biases. -/
theorem algebraic [Cert.Pre_finite_queries.Facts] : Cert.algebraic_AttentionIdeal_AttentionRefIdeal_pre_finite_queries := by
  intro m g m' g' hpre hagree
  refine ⟨Cert.AttentionIdeal.Attn.result m, Cert.AttentionIdeal.Attn.run m g, ?_⟩
  refine (θ_run Cert.AttentionRefIdeal.defs _ _).mono (fun r h c => ⟨(h c).1.trans ?_, (h c).2⟩)
    (Cert.AttentionRefIdeal.Value.run (F := Ideal) m' g')
  rw [Cert.AttentionRefIdeal.Read.val_main_v106_eq, (hagree c).1, (hagree c).2.1, (hagree c).2.2]
  exact (value_eq _ _ _ (hpre c)).symm

end Cert.AttentionClaims

end
-- ==== Proof.CallProjBlock.lean ====
module

public import proofs.«01_k».proof.Proof.Gen.InProjIdeal.Frame
public import proofs.«01_k».proof.Proof.Rms
public import Idealize.ShloMosaic.Lib.Pointwise
public import Idealize.ShloMosaic.Lib.Pipeline.Value
public import Idealize.ShloMosaic.PureOps.Ideal.Laws

@[expose] public section

noncomputable section

namespace Cert.InProjIdeal.Proj

open Cert.InProjIdeal Cert.InProjIdeal.Gen Idealize.ShloMosaic Idealize.ShloMosaic.Pointwise

/-- What the norm's call computes from a block of rows, at an index. -/
theorem norm_apply (x : Vec Ideal S512x2048 .f32) (w : Vec Ideal S1x2048 .f32) (i : Fin 512) (j : Fin 2048) :
    out0_2 x w (ix2 i j) = x (ix2 i j) * Rms.scale 0x45000000#32 (fun k : Fin 2048 => x (ix2 i k)) * w (ix2 0 j) := by
  have hz : (![0, 0] : Fin 2 → Nat) = fun _ => 0 := by decide
  unfold out0_2
  rw [View.canon_unit_zero hz, View.ld_unit_zero hz, View.ld_unit_zero hz]
  pointwise [k0_pay1]
  rfl

/-- What the first projection's call computes from a block of rows and a block of columns, at an index. -/
theorem qkv_apply (a : Vec Ideal S1024x2048 .bf16) (b : Vec Ideal S2048x1024 .bf16) (i j : Fin 1024) :
    out1_2 a b (ix2 i j) = ∑ k : Fin 2048, a (ix2 i k) * b (ix2 k j) := by
  have hz : (![0, 0] : Fin 2 → Nat) = fun _ => 0 := by decide
  unfold out1_2
  rw [View.canon_unit_zero hz, View.ld_unit_zero hz, View.ld_unit_zero hz]
  pointwise [k1_pay1]

/-- The same of the second projection's call. -/
theorem rest_apply (a : Vec Ideal S1024x2048 .bf16) (b : Vec Ideal S2048x1024 .bf16) (i j : Fin 1024) :
    out2_2 a b (ix2 i j) = ∑ k : Fin 2048, a (ix2 i k) * b (ix2 k j) := by
  have hz : (![0, 0] : Fin 2 → Nat) = fun _ => 0 := by decide
  unfold out2_2
  rw [View.canon_unit_zero hz, View.ld_unit_zero hz, View.ld_unit_zero hz]
  pointwise [k2_pay1]

end Cert.InProjIdeal.Proj

end
-- ==== Proof.CallProjNorm.lean ====
module

public import proofs.«01_k».proof.Proof.CallProjBlock

@[expose] public section

noncomputable section

namespace Cert.InProjIdeal.Proj

open Cert.InProjIdeal Cert.InProjIdeal.Gen Idealize.ShloMosaic Idealize.ShloMosaic.TcCoe Idealize.SL.Sem
open Idealize.ShloMosaic.Pointwise
open Idealize.ShloMosaic.Pipeline (Dat Window)

variable (V : (c : Dev nD) → (b : Ref sig .tc) → Buf (Elt Ideal) ((c : Thread nD τ).loc b))

/-- The rows' window moves with the point. -/
theorem idx0_0 : ∀ t : Fin cfg0.N, win0_0.index t ⟨0, by decide⟩ = t.val ∧ win0_0.index t ⟨1, by decide⟩ = 0 :=
  (by decide +kernel : ∀ t : Fin grid0.N, win0_0.index t ⟨0, by decide⟩ = t.val ∧ win0_0.index t ⟨1, by decide⟩ = 0)
/-- The weights' window stands still. -/
theorem idx0_1 : ∀ t : Fin cfg0.N, win0_1.index t ⟨0, by decide⟩ = 0 ∧ win0_1.index t ⟨1, by decide⟩ = 0 :=
  (by decide +kernel : ∀ t : Fin grid0.N, win0_1.index t ⟨0, by decide⟩ = 0 ∧ win0_1.index t ⟨1, by decide⟩ = 0)
/-- The output's window moves with the point. -/
theorem idx0_2 : ∀ t : Fin cfg0.N, win0_2.index t ⟨0, by decide⟩ = t.val ∧ win0_2.index t ⟨1, by decide⟩ = 0 :=
  (by decide +kernel : ∀ t : Fin grid0.N, win0_2.index t ⟨0, by decide⟩ = t.val ∧ win0_2.index t ⟨1, by decide⟩ = 0)

/-- The norm's call has 32 points. -/
theorem pt0_lt (t : Fin cfg0.N) : t.val < 32 := t.isLt.trans_eq N_0

/-- The rows' block at an index. -/
theorem blk0_x (c : Dev nD) (t : Fin cfg0.N) (q : Fin 512) (f : Fin 2048) :
    iblk0 V c 0 t (ix2 q f) = V c main_v2 (ix2 ⟨t.val * 512 + q.val, by have := pt0_lt t; omega⟩ f) := by
  show V c main_v2 ((win0_0.rect t).emb (ix2 q f)) = _
  refine congrArg _ (funext fun a => Fin.ext ?_)
  rw [win0_0.rect_emb_val_off]
  match a with
  | ⟨0, _⟩ => exact congrArg (· * 512 + q.val) (idx0_0 t).1
  | ⟨1, _⟩ => exact (congrArg (· * 2048 + f.val) (idx0_0 t).2).trans (by show 0 * 2048 + f.val = f.val; omega)

/-- The weights' block at an index. -/
theorem blk0_w (c : Dev nD) (t : Fin cfg0.N) (f : Fin 2048) :
    iblk0 V c 1 t (ix2 0 f) = V c main_v4 (ix2 0 f) := by
  show V c main_v4 ((win0_1.rect t).emb (ix2 0 f)) = _
  refine congrArg _ (funext fun a => Fin.ext ?_)
  rw [win0_1.rect_emb_val_off]
  match a with
  | ⟨0, _⟩ => exact congrArg (· * 1 + 0) (idx0_1 t).1
  | ⟨1, _⟩ => exact (congrArg (· * 2048 + f.val) (idx0_1 t).2).trans (by show 0 * 2048 + f.val = f.val; omega)

/-- What the norm's call leaves in its array. -/
def rows (c : Dev nD) : Buf (Elt Ideal) ((c : Thread nD τ).loc main_v5) := fun i =>
  Rms.normed (fun r k => V c main_v2 (ix2 r k)) (fun k => V c main_v4 (ix2 0 k)) (i 0) (i 1)

/-- What a point of the norm's call writes back is its block of that array. -/
theorem flushed0 (c : Dev nD) (t : Fin cfg0.N) :
    (dat0 V c).flushed 2 t = (win0_2.blk t).view.read (Elt Ideal) (rows V c) := by
  show (cfg0.win 2).cut (grid0.coords t) ((dat0 V c).after 2 t) = _
  rw [after0_2]
  funext y
  obtain ⟨q, f, rfl⟩ : ∃ (q : Fin 512) (f : Fin 2048), y = ix2 q f := ⟨y 0, y 1, by funext a; match a with | ⟨0, _⟩ => rfl | ⟨1, _⟩ => rfl⟩
  show out0_2 (iblk0 V c 0 t) (iblk0 V c 1 t) (ix2 q f) = rows V c ((win0_2.rect t).emb (ix2 q f))
  rw [norm_apply]
  simp only [blk0_x, blk0_w]
  have e0 : (win0_2.rect t).emb (ix2 q f) 0 = (⟨t.val * 512 + q.val, by have := pt0_lt t; omega⟩ : Fin 16384) :=
    by
    refine Fin.ext ((win0_2.rect_emb_val_off t (ix2 q f) ⟨0, by decide⟩).trans ?_)
    exact (congrArg (· * 512 + q.val) (idx0_2 t).1)
  have e1 : (win0_2.rect t).emb (ix2 q f) 1 = f :=
    by
    refine Fin.ext ((win0_2.rect_emb_val_off t (ix2 q f) ⟨1, by decide⟩).trans ?_)
    exact ((congrArg (· * 2048 + f.val) (idx0_2 t).2).trans (by show 0 * 2048 + f.val = f.val; omega))
  unfold rows
  rw [e0, e1]
  rfl

/-- An index of the array is in the block of a point when its row and column are. -/
theorem mem_blk0 (t : Fin cfg0.N) (i : S16384x2048.Idx) (hr : (i 0).val / 512 = t.val) (hc : (i 1).val / 2048 = 0) :
    i ∈ ((cfg0.win 2).blk t).view.set := by
  show i ∈ ((View.whole main_v5).slice (win0_2.rect t)).set
  rw [View.set_slice_whole, Rect.mem_set_unit]
  intro a
  match a with
  | ⟨0, _⟩ =>
    show win0_2.index t ⟨0, by decide⟩ * 512 ≤ (i 0).val ∧ (i 0).val < win0_2.index t ⟨0, by decide⟩ * 512 + 512
    rw [(idx0_2 t).1]; omega
  | ⟨1, _⟩ =>
    show win0_2.index t ⟨1, by decide⟩ * 2048 ≤ (i 1).val ∧ (i 1).val < win0_2.index t ⟨1, by decide⟩ * 2048 + 2048
    rw [(idx0_2 t).2]; omega

/-- The blocks of the norm's call cover its array. -/
theorem cover0 (i : S16384x2048.Idx) : ∃ t : Fin cfg0.N, (cfg0.win 2).flush t = true ∧ i ∈ ((cfg0.win 2).blk t).view.set := by
  have h0 : (i 0).val < 16384 := (i 0).isLt
  have h1 : (i 1).val < 2048 := (i 1).isLt
  have hN : cfg0.N = 32 := N_0
  exact ⟨⟨(i 0).val / 512, by omega⟩, flush0_2 _, mem_blk0 _ i rfl (by omega)⟩

/-- So the norm's call leaves the rows after the norm. -/
theorem final0 (c : Dev nD) : (dat0 V c).arrAt 2 cfg0.N = rows V c :=
  (dat0 V c).arrAt_eq_of_cover 2 (rows V c) (fun t _ => flushed0 V c t) cover0

end Cert.InProjIdeal.Proj

end
-- ==== Proof.CallProjQkv.lean ====
module

public import proofs.«01_k».proof.Proof.CallProjBlock

@[expose] public section

noncomputable section

namespace Cert.InProjIdeal.Proj

open Cert.InProjIdeal Cert.InProjIdeal.Gen Idealize.ShloMosaic Idealize.ShloMosaic.TcCoe Idealize.SL.Sem
open Idealize.ShloMosaic.Pointwise
open Idealize.ShloMosaic.Pipeline (Dat Window)

variable (V : (c : Dev nD) → (b : Ref sig .tc) → Buf (Elt Ideal) ((c : Thread nD τ).loc b))

/-- The rows' window of the first projection's call moves with the outer coordinate of the point. -/
theorem idx1_0 : ∀ t : Fin cfg1.N, win1_0.index t ⟨0, by decide⟩ = t.val / 3 ∧ win1_0.index t ⟨1, by decide⟩ = 0 :=
  (by decide +kernel : ∀ t : Fin grid1.N, win1_0.index t ⟨0, by decide⟩ = t.val / 3 ∧ win1_0.index t ⟨1, by decide⟩ = 0)
/-- The columns' window moves with the inner one. -/
theorem idx1_1 : ∀ t : Fin cfg1.N, win1_1.index t ⟨0, by decide⟩ = 0 ∧ win1_1.index t ⟨1, by decide⟩ = t.val % 3 :=
  (by decide +kernel : ∀ t : Fin grid1.N, win1_1.index t ⟨0, by decide⟩ = 0 ∧ win1_1.index t ⟨1, by decide⟩ = t.val % 3)
/-- The output's window moves with both. -/
theorem idx1_2 : ∀ t : Fin cfg1.N, win1_2.index t ⟨0, by decide⟩ = t.val / 3 ∧ win1_2.index t ⟨1, by decide⟩ = t.val % 3 :=
  (by decide +kernel : ∀ t : Fin grid1.N, win1_2.index t ⟨0, by decide⟩ = t.val / 3 ∧ win1_2.index t ⟨1, by decide⟩ = t.val % 3)

/-- The number of points of the first projection's call. -/
theorem pt1_lt (t : Fin cfg1.N) : t.val < 48 := t.isLt.trans_eq N_1

/-- The rows' block at an index. -/
theorem blk1_a (c : Dev nD) (t : Fin cfg1.N) (q : Fin 1024) (k : Fin 2048) :
    iblk1 V c 0 t (ix2 q k) = V c main_v5 (ix2 ⟨t.val / 3 * 1024 + q.val, by have := pt1_lt t; omega⟩ k) := by
  show V c main_v5 ((win1_0.rect t).emb (ix2 q k)) = _
  refine congrArg _ (funext fun a => Fin.ext ?_)
  rw [win1_0.rect_emb_val_off]
  match a with
  | ⟨0, _⟩ => exact congrArg (· * 1024 + q.val) (idx1_0 t).1
  | ⟨1, _⟩ => exact (congrArg (· * 2048 + k.val) (idx1_0 t).2).trans (by show 0 * 2048 + k.val = k.val; omega)

/-- The columns' block at an index. -/
theorem blk1_b (c : Dev nD) (t : Fin cfg1.N) (k : Fin 2048) (f : Fin 1024) :
    iblk1 V c 1 t (ix2 k f) = V c main_v6 (ix2 k ⟨t.val % 3 * 1024 + f.val, by omega⟩) := by
  show V c main_v6 ((win1_1.rect t).emb (ix2 k f)) = _
  refine congrArg _ (funext fun a => Fin.ext ?_)
  rw [win1_1.rect_emb_val_off]
  match a with
  | ⟨0, _⟩ => exact (congrArg (· * 2048 + k.val) (idx1_1 t).1).trans (by show 0 * 2048 + k.val = k.val; omega)
  | ⟨1, _⟩ => exact congrArg (· * 1024 + f.val) (idx1_1 t).2

/-- An entry of a product of matrices of the call's sizes. -/
def entry1 (a : FVec Ideal S16384x2048 .bf16) (b : FVec Ideal S2048x3072 .bf16) (r : Fin 16384) (f : Fin 3072) : EReal :=
  ∑ k : Fin 2048, a (ix2 r k) * b (ix2 k f)

/-- What the first projection's call leaves in its array: the product of its two matrices. -/
def product1 (c : Dev nD) : Buf (Elt Ideal) ((c : Thread nD τ).loc main_v7) := fun i =>
  entry1 (V c main_v5) (V c main_v6) (i 0) (i 1)

/-- What a point writes back is its block of that product. -/
theorem flushed1 (c : Dev nD) (t : Fin cfg1.N) :
    (dat1 V c).flushed 2 t = (win1_2.blk t).view.read (Elt Ideal) (product1 V c) := by
  show (cfg1.win 2).cut (grid1.coords t) ((dat1 V c).after 2 t) = _
  rw [after1_2]
  funext y
  obtain ⟨q, f, rfl⟩ : ∃ (q : Fin 1024) (f : Fin 1024), y = ix2 q f := ⟨y 0, y 1, by funext a; match a with | ⟨0, _⟩ => rfl | ⟨1, _⟩ => rfl⟩
  show out1_2 (iblk1 V c 0 t) (iblk1 V c 1 t) (ix2 q f) = product1 V c ((win1_2.rect t).emb (ix2 q f))
  rw [qkv_apply]
  simp only [blk1_a, blk1_b]
  have e0 : (win1_2.rect t).emb (ix2 q f) 0 = (⟨t.val / 3 * 1024 + q.val, by have := pt1_lt t; omega⟩ : Fin 16384) :=
    by
    refine Fin.ext ((win1_2.rect_emb_val_off t (ix2 q f) ⟨0, by decide⟩).trans ?_)
    exact (congrArg (· * 1024 + q.val) (idx1_2 t).1)
  have e1 : (win1_2.rect t).emb (ix2 q f) 1 = (⟨t.val % 3 * 1024 + f.val, by omega⟩ : Fin 3072) :=
    by
    refine Fin.ext ((win1_2.rect_emb_val_off t (ix2 q f) ⟨1, by decide⟩).trans ?_)
    exact (congrArg (· * 1024 + f.val) (idx1_2 t).2)
  unfold product1
  rw [e0, e1]
  rfl

/-- An index of the array is in the block of a point when its row and column are. -/
theorem mem_blk1 (t : Fin cfg1.N) (i : S16384x3072.Idx) (hr : (i 0).val / 1024 = t.val / 3) (hc : (i 1).val / 1024 = t.val % 3) :
    i ∈ ((cfg1.win 2).blk t).view.set := by
  show i ∈ ((View.whole main_v7).slice (win1_2.rect t)).set
  rw [View.set_slice_whole, Rect.mem_set_unit]
  intro a
  match a with
  | ⟨0, _⟩ =>
    show win1_2.index t ⟨0, by decide⟩ * 1024 ≤ (i 0).val ∧ (i 0).val < win1_2.index t ⟨0, by decide⟩ * 1024 + 1024
    rw [(idx1_2 t).1]; omega
  | ⟨1, _⟩ =>
    show win1_2.index t ⟨1, by decide⟩ * 1024 ≤ (i 1).val ∧ (i 1).val < win1_2.index t ⟨1, by decide⟩ * 1024 + 1024
    rw [(idx1_2 t).2]; omega

/-- The blocks cover the array. -/
theorem cover1 (i : S16384x3072.Idx) : ∃ t : Fin cfg1.N, (cfg1.win 2).flush t = true ∧ i ∈ ((cfg1.win 2).blk t).view.set := by
  have h0 : (i 0).val < 16384 := (i 0).isLt
  have h1 : (i 1).val < 3072 := (i 1).isLt
  have hN : cfg1.N = 48 := N_1
  have hd : ((i 0).val / 1024 * 3 + (i 1).val / 1024) / 3 = (i 0).val / 1024 := by omega
  have hm : ((i 0).val / 1024 * 3 + (i 1).val / 1024) % 3 = (i 1).val / 1024 := by omega
  exact ⟨⟨(i 0).val / 1024 * 3 + (i 1).val / 1024, by omega⟩, flush1_2 _, mem_blk1 _ i hd.symm hm.symm⟩

/-- So the call leaves the product. -/
theorem final1 (c : Dev nD) : (dat1 V c).arrAt 2 cfg1.N = product1 V c :=
  (dat1 V c).arrAt_eq_of_cover 2 (product1 V c) (fun t _ => flushed1 V c t) cover1

end Cert.InProjIdeal.Proj

end
-- ==== Proof.CallProjRest.lean ====
module

public import proofs.«01_k».proof.Proof.CallProjBlock

@[expose] public section

noncomputable section

namespace Cert.InProjIdeal.Proj

open Cert.InProjIdeal Cert.InProjIdeal.Gen Idealize.ShloMosaic Idealize.ShloMosaic.TcCoe Idealize.SL.Sem
open Idealize.ShloMosaic.Pointwise
open Idealize.ShloMosaic.Pipeline (Dat Window)

variable (V : (c : Dev nD) → (b : Ref sig .tc) → Buf (Elt Ideal) ((c : Thread nD τ).loc b))

/-- The rows' window of the second projection's call moves with the outer coordinate of the point. -/
theorem idx2_0 : ∀ t : Fin cfg2.N, win2_0.index t ⟨0, by decide⟩ = t.val / 10 ∧ win2_0.index t ⟨1, by decide⟩ = 0 :=
  (by decide +kernel : ∀ t : Fin grid2.N, win2_0.index t ⟨0, by decide⟩ = t.val / 10 ∧ win2_0.index t ⟨1, by decide⟩ = 0)
/-- The columns' window moves with the inner one. -/
theorem idx2_1 : ∀ t : Fin cfg2.N, win2_1.index t ⟨0, by decide⟩ = 0 ∧ win2_1.index t ⟨1, by decide⟩ = t.val % 10 :=
  (by decide +kernel : ∀ t : Fin grid2.N, win2_1.index t ⟨0, by decide⟩ = 0 ∧ win2_1.index t ⟨1, by decide⟩ = t.val % 10)
/-- The output's window moves with both. -/
theorem idx2_2 : ∀ t : Fin cfg2.N, win2_2.index t ⟨0, by decide⟩ = t.val / 10 ∧ win2_2.index t ⟨1, by decide⟩ = t.val % 10 :=
  (by decide +kernel : ∀ t : Fin grid2.N, win2_2.index t ⟨0, by decide⟩ = t.val / 10 ∧ win2_2.index t ⟨1, by decide⟩ = t.val % 10)

/-- The number of points of the second projection's call. -/
theorem pt2_lt (t : Fin cfg2.N) : t.val < 160 := t.isLt.trans_eq N_2

/-- The rows' block at an index. -/
theorem blk2_a (c : Dev nD) (t : Fin cfg2.N) (q : Fin 1024) (k : Fin 2048) :
    iblk2 V c 0 t (ix2 q k) = V c main_v5 (ix2 ⟨t.val / 10 * 1024 + q.val, by have := pt2_lt t; omega⟩ k) := by
  show V c main_v5 ((win2_0.rect t).emb (ix2 q k)) = _
  refine congrArg _ (funext fun a => Fin.ext ?_)
  rw [win2_0.rect_emb_val_off]
  match a with
  | ⟨0, _⟩ => exact congrArg (· * 1024 + q.val) (idx2_0 t).1
  | ⟨1, _⟩ => exact (congrArg (· * 2048 + k.val) (idx2_0 t).2).trans (by show 0 * 2048 + k.val = k.val; omega)

/-- The columns' block at an index. -/
theorem blk2_b (c : Dev nD) (t : Fin cfg2.N) (k : Fin 2048) (f : Fin 1024) :
    iblk2 V c 1 t (ix2 k f) = V c main_v8 (ix2 k ⟨t.val % 10 * 1024 + f.val, by omega⟩) := by
  show V c main_v8 ((win2_1.rect t).emb (ix2 k f)) = _
  refine congrArg _ (funext fun a => Fin.ext ?_)
  rw [win2_1.rect_emb_val_off]
  match a with
  | ⟨0, _⟩ => exact (congrArg (· * 2048 + k.val) (idx2_1 t).1).trans (by show 0 * 2048 + k.val = k.val; omega)
  | ⟨1, _⟩ => exact congrArg (· * 1024 + f.val) (idx2_1 t).2

/-- An entry of a product of matrices of the call's sizes. -/
def entry2 (a : FVec Ideal S16384x2048 .bf16) (b : FVec Ideal S2048x10240 .bf16) (r : Fin 16384) (f : Fin 10240) : EReal :=
  ∑ k : Fin 2048, a (ix2 r k) * b (ix2 k f)

/-- What the second projection's call leaves in its array: the product of its two matrices. -/
def product2 (c : Dev nD) : Buf (Elt Ideal) ((c : Thread nD τ).loc main_v9) := fun i =>
  entry2 (V c main_v5) (V c main_v8) (i 0) (i 1)

/-- What a point writes back is its block of that product. -/
theorem flushed2 (c : Dev nD) (t : Fin cfg2.N) :
    (dat2 V c).flushed 2 t = (win2_2.blk t).view.read (Elt Ideal) (product2 V c) := by
  show (cfg2.win 2).cut (grid2.coords t) ((dat2 V c).after 2 t) = _
  rw [after2_2]
  funext y
  obtain ⟨q, f, rfl⟩ : ∃ (q : Fin 1024) (f : Fin 1024), y = ix2 q f := ⟨y 0, y 1, by funext a; match a with | ⟨0, _⟩ => rfl | ⟨1, _⟩ => rfl⟩
  show out2_2 (iblk2 V c 0 t) (iblk2 V c 1 t) (ix2 q f) = product2 V c ((win2_2.rect t).emb (ix2 q f))
  rw [rest_apply]
  simp only [blk2_a, blk2_b]
  have e0 : (win2_2.rect t).emb (ix2 q f) 0 = (⟨t.val / 10 * 1024 + q.val, by have := pt2_lt t; omega⟩ : Fin 16384) :=
    by
    refine Fin.ext ((win2_2.rect_emb_val_off t (ix2 q f) ⟨0, by decide⟩).trans ?_)
    exact (congrArg (· * 1024 + q.val) (idx2_2 t).1)
  have e1 : (win2_2.rect t).emb (ix2 q f) 1 = (⟨t.val % 10 * 1024 + f.val, by omega⟩ : Fin 10240) :=
    by
    refine Fin.ext ((win2_2.rect_emb_val_off t (ix2 q f) ⟨1, by decide⟩).trans ?_)
    exact (congrArg (· * 1024 + f.val) (idx2_2 t).2)
  unfold product2
  rw [e0, e1]
  rfl

/-- An index of the array is in the block of a point when its row and column are. -/
theorem mem_blk2 (t : Fin cfg2.N) (i : S16384x10240.Idx) (hr : (i 0).val / 1024 = t.val / 10) (hc : (i 1).val / 1024 = t.val % 10) :
    i ∈ ((cfg2.win 2).blk t).view.set := by
  show i ∈ ((View.whole main_v9).slice (win2_2.rect t)).set
  rw [View.set_slice_whole, Rect.mem_set_unit]
  intro a
  match a with
  | ⟨0, _⟩ =>
    show win2_2.index t ⟨0, by decide⟩ * 1024 ≤ (i 0).val ∧ (i 0).val < win2_2.index t ⟨0, by decide⟩ * 1024 + 1024
    rw [(idx2_2 t).1]; omega
  | ⟨1, _⟩ =>
    show win2_2.index t ⟨1, by decide⟩ * 1024 ≤ (i 1).val ∧ (i 1).val < win2_2.index t ⟨1, by decide⟩ * 1024 + 1024
    rw [(idx2_2 t).2]; omega

/-- The blocks cover the array. -/
theorem cover2 (i : S16384x10240.Idx) : ∃ t : Fin cfg2.N, (cfg2.win 2).flush t = true ∧ i ∈ ((cfg2.win 2).blk t).view.set := by
  have h0 : (i 0).val < 16384 := (i 0).isLt
  have h1 : (i 1).val < 10240 := (i 1).isLt
  have hN : cfg2.N = 160 := N_2
  have hd : ((i 0).val / 1024 * 10 + (i 1).val / 1024) / 10 = (i 0).val / 1024 := by omega
  have hm : ((i 0).val / 1024 * 10 + (i 1).val / 1024) % 10 = (i 1).val / 1024 := by omega
  exact ⟨⟨(i 0).val / 1024 * 10 + (i 1).val / 1024, by omega⟩, flush2_2 _, mem_blk2 _ i hd.symm hm.symm⟩

/-- So the call leaves the product. -/
theorem final2 (c : Dev nD) : (dat2 V c).arrAt 2 cfg2.N = product2 V c :=
  (dat2 V c).arrAt_eq_of_cover 2 (product2 V c) (fun t _ => flushed2 V c t) cover2

end Cert.InProjIdeal.Proj

end
-- ==== Proof.CallProjHost.lean ====
module

public import proofs.«01_k».proof.Proof.CallProjNorm
public import proofs.«01_k».proof.Proof.CallProjQkv
public import proofs.«01_k».proof.Proof.CallProjRest

@[expose] public section

noncomputable section

namespace Cert.InProjIdeal.Proj

open Cert.InProjIdeal Cert.InProjIdeal.Gen Idealize.ShloMosaic Idealize.ShloMosaic.TcCoe Idealize.SL.Sem
open Idealize.ShloMosaic.Pointwise

variable (m : (ℓ : Loc nD τ sig) → Buf (Elt Ideal) ℓ) (ρ : Dev nD → PrngReg)

/-- The rows the norm's call finds, at an index: the argument's. -/
theorem entry_x (c : Dev nD) (r : Fin 16384) (k : Fin 2048) :
    V1 m ρ c main_v2 (ix2 r k) = m ((c : Thread nD τ).loc main_arg0) (ix3 0 r k) := by
  have e : V1 m ρ c main_v2 = shapeCast S16384x2048 (m ((c : Thread nD τ).loc main_arg0)) shapeCasts_S1x16384x2048_S16384x2048 := by
    show StableHlo.after hostOps0 (W0 m ρ c) main_v2 = _
    after_results_simp
    rfl
  rw [e]
  generalize m ((c : Thread nD τ).loc main_arg0) = y
  exact shapeCast_apply (s := S1x16384x2048) y _ (ix2 r k) (ix3 0 r k)
    (by rewrite [Shape.rowMajor_val_three, Shape.rowMajor_val_two]; show (0 * 16384 + r.val) * 2048 + k.val = r.val * 2048 + k.val; omega)

/-- The weights it finds, at an index. -/
theorem entry_w (c : Dev nD) (k : Fin 2048) :
    V1 m ρ c main_v4 (ix2 0 k) = m ((c : Thread nD τ).loc main_arg1) (ix2 0 k) := by
  have e : V1 m ρ c main_v4 = shapeCast S1x2048 (shapeCast S2048 (m ((c : Thread nD τ).loc main_arg1)) shapeCasts_S1x2048_S2048) shapeCasts_S2048_S1x2048 := by
    show StableHlo.after hostOps0 (W0 m ρ c) main_v4 = _
    after_results_simp
    rfl
  rw [e]
  generalize m ((c : Thread nD τ).loc main_arg1) = y
  pointwise []

/-- The projection matrix the host makes, at an index. -/
theorem entry_u (c : Dev nD) (k : Fin 2048) (f : Fin 13312) :
    V1 m ρ c main_v1 (ix2 k f) = m ((c : Thread nD τ).loc main_arg2) (ix3 0 k f) := by
  have e : V1 m ρ c main_v1 = (truncf (F := Ideal) .bf16 (shapeCast S2048x13312 (m ((c : Thread nD τ).loc main_arg2)) shapeCasts_S1x2048x13312_S2048x13312 : FVec Ideal S2048x13312 .f32) bitsLt_bf16_f32 : FVec Ideal S2048x13312 .bf16) := by
    show StableHlo.after hostOps0 (W0 m ρ c) main_v1 = _
    after_results_simp
    rfl
  rw [e, ValueIdx.truncf_apply]
  generalize m ((c : Thread nD τ).loc main_arg2) = y
  exact shapeCast_apply (s := S1x2048x13312) (α := Ideal .f32) y _ (ix2 k f) (ix3 0 k f)
    (by rewrite [Shape.rowMajor_val_three, Shape.rowMajor_val_two]; show (0 * 2048 + k.val) * 13312 + f.val = k.val * 13312 + f.val; omega)

/-- The rows after the norm stand unchanged when the first projection's call starts. -/
theorem rows1 (c : Dev nD) : V3 m ρ c main_v5 = rows (V1 m ρ) c :=
  (W3_of m ρ c main_v5 (by decide)).trans ((W2_arr m ρ c 2).trans (final0 (V1 m ρ) c))

/-- And when the second's starts. -/
theorem rows2 (c : Dev nD) : V5 m ρ c main_v5 = rows (V1 m ρ) c :=
  (W5_of m ρ c main_v5 (by decide)).trans ((W4_of m ρ c main_v5 (by decide)).trans (rows1 m ρ c))

/-- The matrix of the first projection, at an index: the first columns. -/
theorem entry_qkv (c : Dev nD) (k : Fin 2048) (f : Fin 3072) :
    V3 m ρ c main_v6 (ix2 k f) = m ((c : Thread nD τ).loc main_arg2) (ix3 0 k ⟨f.val, by omega⟩) := by
  have e : V3 m ρ c main_v6 = extractStridedSlice S2048x3072 ![0, 0] (W2 m ρ c main_v1) slices_S2048x13312_S2048x3072_0_0 := by
    show StableHlo.after hostOps1 (W2 m ρ c) main_v6 = _
    after_results_simp
  rw [e, W2_of_ne m ρ c main_v1 (by decide), ← entry_u m ρ c k ⟨f.val, by omega⟩]
  show extractStridedSlice S2048x3072 ![0, 0] (V1 m ρ c main_v1) slices_S2048x13312_S2048x3072_0_0 (ix2 k f) = _
  generalize V1 m ρ c main_v1 = y
  pointwise []

/-- The matrix of the second, at an index: the other columns. -/
theorem entry_rest (c : Dev nD) (k : Fin 2048) (f : Fin 10240) :
    V5 m ρ c main_v8 (ix2 k f) = m ((c : Thread nD τ).loc main_arg2) (ix3 0 k ⟨3072 + f.val, by omega⟩) := by
  have e : V5 m ρ c main_v8 = extractStridedSlice S2048x10240 ![0, 3072] (W4 m ρ c main_v1) slices_S2048x13312_S2048x10240_0_3072 := by
    show StableHlo.after hostOps2 (W4 m ρ c) main_v8 = _
    after_results_simp
  rw [e, W4_of_ne m ρ c main_v1 (by decide), W3_of m ρ c main_v1 (by decide), W2_of_ne m ρ c main_v1 (by decide),
    ← entry_u m ρ c k ⟨3072 + f.val, by omega⟩]
  show extractStridedSlice S2048x10240 ![0, 3072] (V1 m ρ c main_v1) slices_S2048x13312_S2048x10240_0_3072 (ix2 k f) = _
  generalize V1 m ρ c main_v1 = y
  pointwise []

end Cert.InProjIdeal.Proj

end
-- ==== Proof.CallProjLaunch.lean ====
module

public import proofs.«01_k».proof.Proof.Gen.InProjIdeal.Frame
public import Idealize.ShloMosaic.PureOps.Ideal.Laws

@[expose] public section

set_option maxRecDepth 16384

noncomputable section

namespace Cert.InProjIdeal.Proj

open Cert.InProjIdeal Cert.InProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable (m : (ℓ : Loc nD τ sig) → Buf (Elt Ideal) ℓ) (ρ : Dev nD → PrngReg)

local notation "𝕄" => MT nD τ sig Unit (Elt Ideal) ℕ (UR sig nD τ) ℕ

/-- The ghost resource the three pipelines start from. -/
abbrev seed : UR sig nD τ := initOf (Pipeline.cells cfgs cellOf_inj) (Pipeline.launchToks cfgs cellOf_inj)

/-- Owning the seed is what the launch hands out: the pipelines' share, and nothing for each core. -/
theorem seed_split : (ownU seed : sProp 𝕄) ⊢ iprop(BI.own (emb₁ seed) ∗ bigSep Finset.univ (fun _ : Dev nD => (BI.emp : sProp 𝕄))) := by
  have h1 : (ownU seed : sProp 𝕄) ⊢ BI.own (emb₁ seed) := .rfl
  have h2 : (BI.emp : sProp 𝕄) ⊢ bigSep Finset.univ (fun _ : Dev nD => (BI.emp : sProp 𝕄)) := by rw [BI.bigSep_emp_const]
  iintro H
  isplitl [H]
  · iapply h1; iexact H
  · iapply h2; iempintro

set_option backward.isDefEq.respectTransparency.types false in
/-- The three calls in order, run from any memory: in the end every array outside a call's own scope holds what the
    last boundary says. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := seed)
    (hu₀ := by iintro H; imodintro; iapply seed_split; iexact H)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W6 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W6 m ρ c) s')
      isplitl [Hbufs] <;> iassumption)
    (hQ := fun _ h _ => h)

end Cert.InProjIdeal.Proj

end
-- ==== Proof.CallProjRef.lean ====
module

public import proofs.«01_k».proof.Proof.Gen.InProjRefIdeal.Read
public import proofs.«01_k».proof.Proof.Rms
public import proofs.«01_k».proof.Proof.Consts
public import Idealize.ShloMosaic.Lib.Pointwise
public import Idealize.ShloMosaic.PureOps.Ideal.Laws

@[expose] public section

noncomputable section

namespace Cert.InProjRefIdeal.Proj

open Cert.InProjRefIdeal Cert.InProjRefIdeal.Read Idealize.ShloMosaic Idealize.ShloMosaic.Pointwise

variable (x : FVec Ideal S1x16384x2048 .f32) (w : FVec Ideal S1x2048 .f32) (u : FVec Ideal S1x2048x13312 .f32)

/-- The reference's row scale at a row. -/
theorem scale_apply (r : Fin 16384) :
    val_main_v7 (F := Ideal) x (ix3 0 r 0) = Rms.scale 0x45000000#32 (fun k : Fin 2048 => x (ix3 0 r k)) := by
  rw [val_main_v7_apply, val_main_v6_apply, val_main_v4_apply, val_main_v5_apply, val_main_v3_apply, val_main_v2_apply,
    val_main_v1_apply]
  have e : ∀ i, val_main_cst (F := Ideal) i = 0 := fun i => Consts.zero_f32
  rw [e, zero_add]
  have s : (∑ k : Fin 2048, val_main_v0 (F := Ideal) x (idx_main_v1 (idx_main_v2 (ix3 0 r 0)) k))
      = ∑ k : Fin 2048, x (ix3 0 r k) * x (ix3 0 r k) := by
    refine Finset.sum_congr rfl fun k _ => ?_
    rw [val_main_v0_apply]
    have ei : idx_main_v1 (idx_main_v2 (ix3 0 r 0)) k = ix3 0 r k := by
      funext a; match a with | ⟨0, _⟩ => rfl | ⟨1, _⟩ => rfl | ⟨2, _⟩ => rfl
    rw [ei]
    rfl
  rw [s]
  rfl

/-- The reference's rows after the norm, at an index. -/
theorem norm_apply (r : Fin 16384) (k : Fin 2048) :
    val_main_v13 (F := Ideal) x w (ix3 0 r k)
      = Rms.normed (fun r k => x (ix3 0 r k)) (fun k => w (ix2 0 k)) r k := by
  rw [val_main_v13_apply, val_main_v9_apply, val_main_v8_apply, val_main_v12_apply, val_main_v11_apply, val_main_v10_apply]
  have e1 : idx_main_v8 (ix3 0 r k) = ix3 0 r 0 := by
    funext a; match a with | ⟨0, _⟩ => rfl | ⟨1, _⟩ => rfl | ⟨2, _⟩ => rfl
  have e2 : idx_main_v10 (idx_main_v11 (idx_main_v12 (ix3 0 r k))) = ix2 0 k := by
    funext a
    match a with
    | ⟨0, _⟩ => rfl
    | ⟨1, _⟩ => exact Fin.ext (Nat.mod_eq_of_lt k.isLt)
  rw [e1, e2, scale_apply]
  rfl

/-- The reference's projection at an index. -/
theorem proj_apply (r : Fin 16384) (f : Fin 13312) :
    val_main_v15 (F := Ideal) x w u (ix3 0 r f)
      = Rms.proj (fun r k => x (ix3 0 r k)) (fun k => w (ix2 0 k)) (fun k f => u (ix3 0 k f)) r f := by
  rw [val_main_v15_apply]
  refine Finset.sum_congr rfl fun k _ => ?_
  have e1 : lidx_main_v15 (ix3 0 r f) k = ix3 0 r k := by
    funext a; match a with | ⟨0, _⟩ => rfl | ⟨1, _⟩ => rfl | ⟨2, _⟩ => rfl
  rw [e1, norm_apply, val_main_v14_apply]
  refine congrArg (_ * ·) (congrArg u (funext fun a => Fin.ext ?_))
  have hk := k.isLt
  have hf := f.isLt
  match a with
  | ⟨0, _⟩ => rfl
  | ⟨1, _⟩ => show (k.val * 13312 + f.val) / 13312 % 2048 = k.val; omega
  | ⟨2, _⟩ => show (k.val * 13312 + f.val) % 13312 = f.val; omega

/-- The reference's first result at an index: the first 3072 columns of the projection. -/
theorem qkv_apply (r : Fin 16384) (f : Fin 3072) :
    val_main_v18 (F := Ideal) x w u (ix2 r f)
      = Rms.proj (fun r k => x (ix3 0 r k)) (fun k => w (ix2 0 k)) (fun k f => u (ix3 0 k f)) r ⟨f.val, by omega⟩ := by
  rw [val_main_v18_apply, val_main_v17_apply, val_main_v16_apply]
  refine Eq.trans ?_ (proj_apply x w u r ⟨f.val, by omega⟩)
  refine congrArg (val_main_v15 (F := Ideal) x w u) (funext fun a => Fin.ext ?_)
  have hr := r.isLt
  have hf := f.isLt
  match a with
  | ⟨0, _⟩ => rfl
  | ⟨1, _⟩ => show (r.val * 3072 + f.val) / 3072 % 16384 = r.val; omega
  | ⟨2, _⟩ => show (r.val * 3072 + f.val) % 3072 = f.val; omega

/-- Its second result at an index: the other columns. -/
theorem rest_apply (r : Fin 16384) (f : Fin 10240) :
    val_main_v20 (F := Ideal) x w u (ix2 r f)
      = Rms.proj (fun r k => x (ix3 0 r k)) (fun k => w (ix2 0 k)) (fun k f => u (ix3 0 k f)) r ⟨3072 + f.val, by omega⟩ := by
  rw [val_main_v20_apply, val_main_v19_apply]
  refine Eq.trans ?_ (proj_apply x w u r ⟨3072 + f.val, by omega⟩)
  refine congrArg (val_main_v15 (F := Ideal) x w u) (funext fun a => Fin.ext ?_)
  have hr := r.isLt
  have hf := f.isLt
  match a with
  | ⟨0, _⟩ => rfl
  | ⟨1, _⟩ => show (r.val * 10240 + f.val) / 10240 % 16384 = r.val; omega
  | ⟨2, _⟩ => show 3072 + (r.val * 10240 + f.val) % 10240 = 3072 + f.val; omega

end Cert.InProjRefIdeal.Proj

end
-- ==== Proof.InProjClaims.lean ====
module

public import proofs.«01_k».proof.Defs
public import proofs.«01_k».proof.Proof.Gen.InProj.Frame
public import proofs.«01_k».proof.Proof.Gen.InProjRefIdeal.Run
public import proofs.«01_k».proof.Proof.CallProjHost
public import proofs.«01_k».proof.Proof.CallProjLaunch
public import proofs.«01_k».proof.Proof.CallProjRef
public import Idealize.ShloMosaic.Adequacy

@[expose] public section

noncomputable section

namespace Cert.InProjIdeal.Proj

open Cert.InProjIdeal Cert.InProjIdeal.Gen Idealize.ShloMosaic Idealize.ShloMosaic.TcCoe Idealize.SL.Sem
open Idealize.ShloMosaic.Pointwise

variable (m : (ℓ : Loc nD τ sig) → Buf (Elt Ideal) ℓ) (ρ : Dev nD → PrngReg)

/-- The projection of the arguments the memory holds. -/
def argProj (c : Dev nD) (r : Fin 16384) (f : Fin 13312) : EReal :=
  Rms.proj (fun r k => m ((c : Thread nD τ).loc main_arg0) (ix3 0 r k)) (fun k => m ((c : Thread nD τ).loc main_arg1) (ix2 0 k))
    (fun k f => m ((c : Thread nD τ).loc main_arg2) (ix3 0 k f)) r f

/-- The rows after the norm, of the arguments. -/
theorem rows_apply (c : Dev nD) (r : Fin 16384) (k : Fin 2048) :
    rows (V1 m ρ) c (ix2 r k) = Rms.normed (fun r k => m ((c : Thread nD τ).loc main_arg0) (ix3 0 r k))
      (fun k => m ((c : Thread nD τ).loc main_arg1) (ix2 0 k)) r k := by
  show Rms.normed (fun r k => V1 m ρ c main_v2 (ix2 r k)) (fun k => V1 m ρ c main_v4 (ix2 0 k)) r k = _
  exact congrArg₂ (fun a b => Rms.normed a b r k) (funext fun r => funext fun k => entry_x m ρ c r k) (funext fun k => entry_w m ρ c k)

/-- The first result the kernel is shown to leave. -/
def qkv (c : Dev nD) : Buf (Elt Ideal) ((c : Thread nD τ).loc main_v7) := fun i =>
  argProj m c (i 0) ⟨(i 1).val, by have h : (i 1).val < 3072 := (i 1).isLt; omega⟩

/-- The second. -/
def rest (c : Dev nD) : Buf (Elt Ideal) ((c : Thread nD τ).loc main_v9) := fun i =>
  argProj m c (i 0) ⟨3072 + (i 1).val, by have h : (i 1).val < 10240 := (i 1).isLt; omega⟩

/-- The first result's array at the end. -/
theorem end_qkv (c : Dev nD) : W6 m ρ c main_v7 = qkv m c := by
  have e : W6 m ρ c main_v7 = product1 (V3 m ρ) c :=
    (W6_of_ne m ρ c main_v7 (by decide)).trans ((W5_of m ρ c main_v7 (by decide)).trans
      ((W4_arr m ρ c 2).trans (final1 (V3 m ρ) c)))
  rw [e]
  funext i
  show entry1 (V3 m ρ c main_v5) (V3 m ρ c main_v6) (i 0) (i 1) = _
  rw [rows1]
  unfold entry1 qkv argProj Rms.proj
  refine Finset.sum_congr rfl fun k _ => ?_
  exact congrArg₂ (· * ·) (rows_apply m ρ c (i 0) k) (entry_qkv m ρ c k (i 1))

/-- The second result's array at the end. -/
theorem end_rest (c : Dev nD) : W6 m ρ c main_v9 = rest m c := by
  have e : W6 m ρ c main_v9 = product2 (V5 m ρ) c := (W6_arr m ρ c 2).trans (final2 (V5 m ρ) c)
  rw [e]
  funext i
  show entry2 (V5 m ρ c main_v5) (V5 m ρ c main_v8) (i 0) (i 1) = _
  rw [rows2]
  unfold entry2 rest argProj Rms.proj
  refine Finset.sum_congr rfl fun k _ => ?_
  exact congrArg₂ (· * ·) (rows_apply m ρ c (i 0) k) (entry_rest m ρ c k (i 1))

/-- The run of the kernel: both results hold the projection and the arguments are unchanged. -/
theorem run :
    θ_run defs (onTc (τ := τ) (main (F := Ideal))) ⟨m, fun _ => 0, ρ⟩ fun r => ∀ c : Dev nD,
      r.2.mem ((c : Thread nD τ).loc main_v7) = qkv m c
      ∧ r.2.mem ((c : Thread nD τ).loc main_v9) = rest m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c _ (mem_uc main_v7 (by decide))).trans (end_qkv m ρ c), (h c _ (mem_uc main_v9 (by decide))).trans (end_rest m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c)⟩) (run_all m ρ)

end Cert.InProjIdeal.Proj

namespace Cert.InProjClaims

open Idealize.ShloMosaic Idealize.SL.Sem Idealize.ShloMosaic.Pointwise

/-- The norm and the projections run, keep their arguments and leave every counter at zero. -/
theorem frame : Cert.quiescent_InProj := fun m ρ _ => Cert.InProj.Gen.frame m ρ

/-- The same over the extended reals. -/
theorem frame_ideal : Cert.quiescent_InProjIdeal := fun m ρ _ => Cert.InProjIdeal.Gen.frame m ρ

/-- The same of the reference. -/
theorem frame_ref : Cert.quiescent_InProjRefIdeal := fun m ρ _ =>
  (θ_run Cert.InProjRefIdeal.defs _ _).mono
    (fun r h => ⟨fun c => (h c).2.2, sem_eq_zero_of_no_sems (by decide) r.2⟩)
    (Cert.InProjRefIdeal.Value.run (F := Ideal) m ρ)

/-- The kernel's two results are the reference's over the extended reals, from any arguments. -/
theorem algebraic : Cert.algebraic_InProjIdeal_InProjRefIdeal := by
  intro m g m' g' _ hagree
  refine ⟨Cert.InProjIdeal.Proj.qkv m, Cert.InProjIdeal.Proj.rest m, Cert.InProjIdeal.Proj.run m g, ?_⟩
  refine (θ_run Cert.InProjRefIdeal.defs _ _).mono (fun r h c => ⟨(h c).1.trans ?_, (h c).2.1.trans ?_, (h c).2.2⟩)
    (Cert.InProjRefIdeal.Value.run (F := Ideal) m' g')
  · rw [Cert.InProjRefIdeal.Read.val_main_v18_eq, (hagree c).1, (hagree c).2.1, (hagree c).2.2]
    funext i
    obtain ⟨q, f, rfl⟩ : ∃ (q : Fin 16384) (f : Fin 3072), i = ix2 q f := ⟨i 0, i 1, by funext a; match a with | ⟨0, _⟩ => rfl | ⟨1, _⟩ => rfl⟩
    exact Cert.InProjRefIdeal.Proj.qkv_apply _ _ _ q f
  · rw [Cert.InProjRefIdeal.Read.val_main_v20_eq, (hagree c).1, (hagree c).2.1, (hagree c).2.2]
    funext i
    obtain ⟨q, f, rfl⟩ : ∃ (q : Fin 16384) (f : Fin 10240), i = ix2 q f := ⟨i 0, i 1, by funext a; match a with | ⟨0, _⟩ => rfl | ⟨1, _⟩ => rfl⟩
    exact Cert.InProjRefIdeal.Proj.rest_apply _ _ _ q f

end Cert.InProjClaims

end
-- ==== Proof.CallMergeHead.lean ====
module

public import proofs.«01_k».proof.Proof.Gen.MergeIdeal.Frame
public import proofs.«01_k».proof.Proof.MergeSpec
public import Idealize.ShloMosaic.Lib.Pointwise
public import Idealize.ShloMosaic.Lib.Pipeline.Value
public import Idealize.ShloMosaic.PureOps.Ideal.Laws

@[expose] public section

noncomputable section

namespace Cert.MergeIdeal.Mix

open Cert.MergeIdeal Cert.MergeIdeal.Gen Idealize.ShloMosaic Idealize.ShloMosaic.Pointwise

/-- The columns of a head are inside the block of rows. -/
theorem slices_head (h : Fin 8) : S256x1024.Slices ![0, 128 * h.val] S256x128 := by
  revert h; decide

/-- The weights of a head are inside the row of weights. -/
theorem inb_head (h : Fin 8) (a : Fin S1x1024.rank) : (![0, 128 * h.val] : Fin 2 → Nat) a + S1x128.size a ≤ S1x1024.size a := by
  match a with
  | ⟨0, _⟩ => show 0 + 1 ≤ 1; omega
  | ⟨1, _⟩ => show 128 * h.val + 128 ≤ 1024; omega

/-- The weights of head `h`. -/
abbrev rectW (h : Fin 8) : Rect S1x1024 := Rect.unit (s := S1x1024) ![0, 128 * h.val] S1x128.size (inb_head h)

/-- A head's norm: the block of its columns, scaled row by row, under its weights. -/
def normOf (v : FVec Ideal S256x128 .f32) (w : Vec Ideal S1x128 .f32) : FVec Ideal S256x128 .f32 :=
  k0_pay9 v (shapeCast S256x1 (multiReduction .add [1] S256 (mulf v v) 0x00000000#32 reduces_S256x128_S256 (.inl rfl) rfl)
    shapeCasts_S256_S256x1) (k0_pay8 (F := Ideal)) w

/-- A head's norm at an index. -/
theorem normOf_apply (v : FVec Ideal S256x128 .f32) (w : Vec Ideal S1x128 .f32) (i : Fin 256) (d : Fin 128) :
    normOf v w (ix2 i d) = v (ix2 i d) * Rms.scale 0x43000000#32 (fun k : Fin 128 => v (ix2 i k)) * w (ix2 0 d) := by
  pointwise [normOf, k0_pay9, k0_pay8]
  rfl

/-- What head `h` leaves of the summed scans `s` under the weights `w`. -/
def headOf (s : FVec Ideal S256x1024 .f32) (w : Vec Ideal S1x1024 .f32) (h : Fin 8) : FVec Ideal S256x128 .f32 :=
  normOf (extractStridedSlice S256x128 ![0, 128 * h.val] s (slices_head h)) (View.ld w (rectW h))

/-- The eight heads laid side by side. -/
def heads (s : FVec Ideal S256x1024 .f32) (w : Vec Ideal S1x1024 .f32) : FVec Ideal S256x1024 .f32 :=
  concatenate S256x1024 1 (List.ofFn fun h : Fin 8 => (⟨S256x128, headOf s w h⟩ : (s : Shape) × (s.Idx → Ideal .f32)))
    concatenates_S256x128_S256x128_S256x128_S256x128_S256x128_S256x128_S256x128_S256x128_S256x1024_d1

/-- The heads at an index. -/
theorem heads_apply (s : FVec Ideal S256x1024 .f32) (w : Vec Ideal S1x1024 .f32) (i : Fin 256) (f : Fin 1024) :
    heads s w (ix2 i f) = Cert.Mix.headNorm (fun k => s (ix2 i k)) (fun k => w (ix2 0 k)) f := by
  have hd : f.val / 128 < 8 := by omega
  have hm : f.val % 128 < 128 := by omega
  refine (Idealize.ShloMosaic.concatenate_ofFn_apply (t := S256x1024) (s₁ := S256x128) (1 : Fin 2) (headOf s w) _ rfl 128 rfl
    (ix2 i f) ⟨f.val / 128, hd⟩ rfl (ix2 i ⟨f.val % 128, hm⟩) rfl ?_).trans ?_
  · intro b hb
    match b with
    | ⟨0, _⟩ => rfl
    | ⟨1, _⟩ => exact absurd rfl hb
  · unfold headOf
    rw [normOf_apply]
    pointwise [Cert.Mix.headNorm]
    simp only [Nat.div_add_mod]

end Cert.MergeIdeal.Mix

end
-- ==== Proof.CallMergeBlock.lean ====
module

public import proofs.«01_k».proof.Proof.CallMergeHead

@[expose] public section

noncomputable section

namespace Cert.MergeIdeal.Mix

open Cert.MergeIdeal Cert.MergeIdeal.Gen Idealize.ShloMosaic Idealize.ShloMosaic.Pointwise

/-- The second branch's block: the heads under the gate of `z`. -/
def branch (s z : FVec Ideal S256x1024 .f32) (w : Vec Ideal S1x1024 .f32) : FVec Ideal S256x1024 .bf16 :=
  truncf .bf16 (mulf (heads s w) (k0_pay2 (F := Ideal) z)) bitsLt_bf16_f32

/-- The second branch at an index. -/
theorem branch_apply (s z : FVec Ideal S256x1024 .f32) (w : Vec Ideal S1x1024 .f32) (i : Fin 256) (f : Fin 1024) :
    branch s z w (ix2 i f) = Cert.Mix.gated (fun k => s (ix2 i k)) (fun k => z (ix2 i k)) (fun k => w (ix2 0 k)) f := by
  have h := heads_apply s w i f
  unfold branch
  revert h
  generalize heads s w = y
  intro h
  pointwise [k0_pay2, h]
  rfl

/-- The projected and scaled mix at an index, from the second branch's block. -/
theorem mix_apply (b : FVec Ideal S256x1024 .bf16) (a : Vec Ideal S256x1024 .bf16) (u v : Vec Ideal S1024x2048 .bf16)
    (p : Vec Ideal S256x2048 .f32) (pb : Vec Ideal S1x2048 .f32) (q : Vec Ideal S256x2048 .f32) (qb : Vec Ideal S1x2048 .f32)
    (o : Vec Ideal S2048x2048 .bf16) (x : Vec Ideal S256x2048 .f32) (n : Vec Ideal S1x2048 .f32) (i : Fin 256) (j : Fin 2048) :
    k0_pay1 (k0_pay16 x) (k0_pay17 b a u v p pb q qb o) n (ix2 i j)
      = Cert.Mix.residual (fun k => x (ix2 i k)) (Cert.Mix.projected
          (Cert.Mix.mixed (fun k => a (ix2 i k)) (fun k => b (ix2 i k)) (fun k => p (ix2 i k) + pb (ix2 0 k))
            (fun k => q (ix2 i k) + qb (ix2 0 k)) (fun k j => u (ix2 k j)) (fun k j => v (ix2 k j)))
          (fun k j => o (ix2 k j))) (fun k => n (ix2 0 k)) j := by
  pointwise [k0_pay1, k0_pay16, k0_pay17]
  rfl

/-- What the call leaves in a block of its output, from the blocks it reads. -/
theorem out_eq (x0 : Vec Ideal S256x2048 .f32) (x1 : Vec Ideal S256x1024 .bf16) (x2 x3 x4 : Vec Ideal S256x1024 .f32)
    (x5 x6 : Vec Ideal S256x2048 .f32) (x7 x8 : Vec Ideal S1x2048 .f32) (x9 : Vec Ideal S1x1024 .f32)
    (x10 x11 : Vec Ideal S1024x2048 .bf16) (x12 : Vec Ideal S2048x2048 .bf16) (x13 : Vec Ideal S1x2048 .f32) :
    out0_14 x0 x1 x2 x3 x4 x5 x6 x7 x8 x9 x10 x11 x12 x13
      = k0_pay1 (k0_pay16 x0) (k0_pay17 (branch (k0_pay3 x2 x3) x4 x9) x1 x10 x11 x5 x7 x6 x8 x12) x13 := by
  have hz : (![0, 0] : Fin 2 → Nat) = fun _ => 0 := by decide
  unfold_out out0_14
  rw [View.canon_unit_zero hz]
  repeat rw [View.ld_unit_zero hz]
  rfl

/-- What the call leaves in a block of its output, at an index. -/
theorem out_apply (x0 : Vec Ideal S256x2048 .f32) (x1 : Vec Ideal S256x1024 .bf16) (x2 x3 x4 : Vec Ideal S256x1024 .f32)
    (x5 x6 : Vec Ideal S256x2048 .f32) (x7 x8 : Vec Ideal S1x2048 .f32) (x9 : Vec Ideal S1x1024 .f32)
    (x10 x11 : Vec Ideal S1024x2048 .bf16) (x12 : Vec Ideal S2048x2048 .bf16) (x13 : Vec Ideal S1x2048 .f32)
    (i : Fin 256) (j : Fin 2048) :
    out0_14 x0 x1 x2 x3 x4 x5 x6 x7 x8 x9 x10 x11 x12 x13 (ix2 i j)
      = Cert.Mix.merge (fun k => x0 (ix2 i k)) (fun k => x1 (ix2 i k)) (fun k => x2 (ix2 i k) + x3 (ix2 i k))
          (fun k => x4 (ix2 i k)) (fun k => x9 (ix2 0 k)) (fun k => x5 (ix2 i k) + x7 (ix2 0 k))
          (fun k => x6 (ix2 i k) + x8 (ix2 0 k)) (fun k j => x10 (ix2 k j)) (fun k j => x11 (ix2 k j))
          (fun k j => x12 (ix2 k j)) (fun k => x13 (ix2 0 k)) j := by
  rw [out_eq, mix_apply]
  simp only [branch_apply]
  rfl

end Cert.MergeIdeal.Mix

end
-- ==== Proof.CallMergeHost.lean ====
module

public import proofs.«01_k».proof.Proof.CallMergeBlock
public import Idealize.ShloMosaic.Lib.StableHlo.Run

@[expose] public section

noncomputable section

namespace Cert.MergeIdeal.Mix

open Cert.MergeIdeal Cert.MergeIdeal.Gen Idealize.ShloMosaic Idealize.ShloMosaic.TcCoe Idealize.SL.Sem Idealize.ShloMosaic.StableHlo
open Idealize.ShloMosaic.Pointwise

variable (m : (ℓ : Loc nD τ sig) → Buf (Elt Ideal) ℓ)

/-- The layer's input at the call's entry, at an index. -/
theorem entry_x (c : Dev nD) (r : Fin 16384) (k : Fin 2048) :
    V m c main_v2 (ix2 r k) = m ((c : Thread nD τ).loc main_arg0) (ix3 0 r k) := by
  have e : V m c main_v2 = shapeCast S16384x2048 (m ((c : Thread nD τ).loc main_arg0)) shapeCasts_S1x16384x2048_S16384x2048 := by
    show StableHlo.after hostOps0 (fun b => m (c, b)) main_v2 = _
    after_results_simp
    rfl
  rw [e]
  generalize m ((c : Thread nD τ).loc main_arg0) = y
  exact shapeCast_apply (s := S1x16384x2048) y _ (ix2 r k) (ix3 0 r k)
    (by rewrite [Shape.rowMajor_val_three, Shape.rowMajor_val_two]; show (0 * 16384 + r.val) * 2048 + k.val = r.val * 2048 + k.val; omega)

/-- The gate's bias as the host lays it out, at an index. -/
theorem bias_apply (y : FVec Ideal S1x4096 .f32) (n : Fin 4096) :
    shapeCast S4096 y shapeCasts_S1x4096_S4096 (ix1 n) = y (ix2 0 n) :=
  shapeCast_apply (s := S1x4096) y _ (ix1 n) (ix2 0 n)
    (by rewrite [Shape.rowMajor_val_two, Shape.rowMajor_val_one]; show 0 * 4096 + n.val = n.val; omega)

/-- The first half of the gate's bias, at an index. -/
theorem entry_ba (c : Dev nD) (k : Fin 2048) :
    V m c main_v11 (ix2 0 k) = m ((c : Thread nD τ).loc main_arg5) (ix2 0 ⟨k.val, by omega⟩) := by
  have e : V m c main_v11 = shapeCast S1x2048 (extractStridedSlice S2048 ![0] (shapeCast S4096 (m ((c : Thread nD τ).loc main_arg5)) shapeCasts_S1x4096_S4096) slices_S4096_S2048_0) shapeCasts_S2048_S1x2048 := by
    show StableHlo.after hostOps0 (fun b => m (c, b)) main_v11 = _
    after_results_simp
    rfl
  rw [e]
  generalize m ((c : Thread nD τ).loc main_arg5) = y
  refine Eq.trans ?_ (bias_apply y ⟨k.val, by omega⟩)
  generalize shapeCast S4096 y shapeCasts_S1x4096_S4096 = z
  pointwise []

/-- The second half of the gate's bias, at an index. -/
theorem entry_bb (c : Dev nD) (k : Fin 2048) :
    V m c main_v13 (ix2 0 k) = m ((c : Thread nD τ).loc main_arg5) (ix2 0 ⟨2048 + k.val, by omega⟩) := by
  have e : V m c main_v13 = shapeCast S1x2048 (extractStridedSlice S2048 ![2048] (shapeCast S4096 (m ((c : Thread nD τ).loc main_arg5)) shapeCasts_S1x4096_S4096) slices_S4096_S2048_2048) shapeCasts_S2048_S1x2048 := by
    show StableHlo.after hostOps0 (fun b => m (c, b)) main_v13 = _
    after_results_simp
    rfl
  rw [e]
  generalize m ((c : Thread nD τ).loc main_arg5) = y
  refine Eq.trans ?_ (bias_apply y ⟨2048 + k.val, by omega⟩)
  generalize shapeCast S4096 y shapeCasts_S1x4096_S4096 = z
  pointwise []

/-- The heads' weights at an index. -/
theorem entry_hw (c : Dev nD) (k : Fin 1024) :
    V m c main_v14 (ix2 0 k) = m ((c : Thread nD τ).loc main_arg6) (ix2 0 k) := by
  have e : V m c main_v14 = shapeCast S1x1024 (shapeCast S1024 (m ((c : Thread nD τ).loc main_arg6)) shapeCasts_S1x1024_S1024) shapeCasts_S1024_S1x1024 := by
    show StableHlo.after hostOps0 (fun b => m (c, b)) main_v14 = _
    after_results_simp
    rfl
  rw [e]
  generalize m ((c : Thread nD τ).loc main_arg6) = y
  pointwise []

/-- The last norm's weights at an index. -/
theorem entry_nw (c : Dev nD) (k : Fin 2048) :
    V m c main_v15 (ix2 0 k) = m ((c : Thread nD τ).loc main_arg9) (ix2 0 k) := by
  have e : V m c main_v15 = shapeCast S1x2048 (shapeCast S2048 (m ((c : Thread nD τ).loc main_arg9)) shapeCasts_S1x2048_S2048) shapeCasts_S2048_S1x2048 := by
    show StableHlo.after hostOps0 (fun b => m (c, b)) main_v15 = _
    after_results_simp
    rfl
  rw [e]
  generalize m ((c : Thread nD τ).loc main_arg9) = y
  pointwise []

/-- A matrix as the host lays it out and rounds it, at an index. -/
theorem matrix_apply (y : FVec Ideal S1x2048x2048 .f32) (k j : Fin 2048) :
    truncf (F := Ideal) .bf16 (shapeCast S2048x2048 y shapeCasts_S1x2048x2048_S2048x2048 : FVec Ideal S2048x2048 .f32) bitsLt_bf16_f32
      (ix2 k j) = y (ix3 0 k j) := by
  rw [ValueIdx.truncf_apply]
  exact shapeCast_apply (s := S1x2048x2048) (α := Ideal .f32) y _ (ix2 k j) (ix3 0 k j)
    (by rewrite [Shape.rowMajor_val_three, Shape.rowMajor_val_two]; show (0 * 2048 + k.val) * 2048 + j.val = k.val * 2048 + j.val; omega)

/-- The last projection's matrix at an index. -/
theorem entry_o (c : Dev nD) (k j : Fin 2048) :
    V m c main_v8 (ix2 k j) = m ((c : Thread nD τ).loc main_arg8) (ix3 0 k j) := by
  have e : V m c main_v8 = (truncf (F := Ideal) .bf16 (shapeCast S2048x2048 (m ((c : Thread nD τ).loc main_arg8)) shapeCasts_S1x2048x2048_S2048x2048 : FVec Ideal S2048x2048 .f32) bitsLt_bf16_f32 : FVec Ideal S2048x2048 .bf16) := by
    show StableHlo.after hostOps0 (fun b => m (c, b)) main_v8 = _
    after_results_simp
    rfl
  rw [e]
  generalize m ((c : Thread nD τ).loc main_arg8) = y
  exact matrix_apply y k j

/-- The first branch's matrix at an index: the upper rows. -/
theorem entry_ua (c : Dev nD) (k : Fin 1024) (j : Fin 2048) :
    V m c main_v5 (ix2 k j) = m ((c : Thread nD τ).loc main_arg7) (ix3 0 ⟨k.val, by omega⟩ j) := by
  have e : V m c main_v5 = extractStridedSlice S1024x2048 ![0, 0] (truncf (F := Ideal) .bf16 (shapeCast S2048x2048 (m ((c : Thread nD τ).loc main_arg7)) shapeCasts_S1x2048x2048_S2048x2048 : FVec Ideal S2048x2048 .f32) bitsLt_bf16_f32 : FVec Ideal S2048x2048 .bf16) slices_S2048x2048_S1024x2048_0_0 := by
    show StableHlo.after hostOps0 (fun b => m (c, b)) main_v5 = _
    after_results_simp
    rfl
  rw [e]
  generalize m ((c : Thread nD τ).loc main_arg7) = y
  refine Eq.trans ?_ (matrix_apply y ⟨k.val, by omega⟩ j)
  generalize truncf (F := Ideal) .bf16 (shapeCast S2048x2048 y shapeCasts_S1x2048x2048_S2048x2048 : FVec Ideal S2048x2048 .f32) bitsLt_bf16_f32 = z
  pointwise []

/-- The second branch's matrix at an index: the lower rows. -/
theorem entry_ub (c : Dev nD) (k : Fin 1024) (j : Fin 2048) :
    V m c main_v6 (ix2 k j) = m ((c : Thread nD τ).loc main_arg7) (ix3 0 ⟨1024 + k.val, by omega⟩ j) := by
  have e : V m c main_v6 = extractStridedSlice S1024x2048 ![1024, 0] (truncf (F := Ideal) .bf16 (shapeCast S2048x2048 (m ((c : Thread nD τ).loc main_arg7)) shapeCasts_S1x2048x2048_S2048x2048 : FVec Ideal S2048x2048 .f32) bitsLt_bf16_f32 : FVec Ideal S2048x2048 .bf16) slices_S2048x2048_S1024x2048_1024_0 := by
    show StableHlo.after hostOps0 (fun b => m (c, b)) main_v6 = _
    after_results_simp
    rfl
  rw [e]
  generalize m ((c : Thread nD τ).loc main_arg7) = y
  refine Eq.trans ?_ (matrix_apply y ⟨1024 + k.val, by omega⟩ j)
  generalize truncf (F := Ideal) .bf16 (shapeCast S2048x2048 y shapeCasts_S1x2048x2048_S2048x2048 : FVec Ideal S2048x2048 .f32) bitsLt_bf16_f32 = z
  pointwise []

end Cert.MergeIdeal.Mix

end
-- ==== Proof.CallMergeWindows.lean ====
module

public import proofs.«01_k».proof.Proof.Gen.MergeIdeal.Value
public import proofs.«01_k».proof.Proof.CallMergeHost
public import Idealize.ShloMosaic.Lib.Pipeline.Value

@[expose] public section

noncomputable section

namespace Cert.MergeIdeal.Mix

open Cert.MergeIdeal Cert.MergeIdeal.Gen Idealize.ShloMosaic Idealize.ShloMosaic.TcCoe Idealize.SL.Sem
open Idealize.ShloMosaic.Pointwise
open Idealize.ShloMosaic.Pipeline (Dat Window)

variable (m : (ℓ : Loc nD τ sig) → Buf (Elt Ideal) ℓ)

/-- The number of grid points. -/
theorem pt_lt (t : Fin cfg0.N) : t.val < 64 := t.isLt.trans_eq N_0

/-- Where a window's block puts an index, from its place on each axis. -/
theorem emb_eq (w : Window sig grid0) (t : Fin grid0.N) (y : (w.xblock (grid0.coords t)).Idx) (i : w.shape.Idx)
    (h : ∀ a, w.kind.off (w.index t a) (w.size a) + (y a : Nat) = i a) : (w.rect t).emb y = i :=
  funext fun a => Fin.ext ((w.rect_emb_val_off t y a).trans (h a))

/-- Where the window of the layer's input stands at a point. -/
theorem idx0 : ∀ t : Fin cfg0.N, win0_0.index t ⟨0, by decide⟩ = t.val ∧ win0_0.index t ⟨1, by decide⟩ = 0 :=
  (by decide +kernel : ∀ t : Fin grid0.N, win0_0.index t ⟨0, by decide⟩ = t.val ∧ win0_0.index t ⟨1, by decide⟩ = 0)
/-- Where the window of the attention's result stands at a point. -/
theorem idx1 : ∀ t : Fin cfg0.N, win0_1.index t ⟨0, by decide⟩ = t.val ∧ win0_1.index t ⟨1, by decide⟩ = 0 :=
  (by decide +kernel : ∀ t : Fin grid0.N, win0_1.index t ⟨0, by decide⟩ = t.val ∧ win0_1.index t ⟨1, by decide⟩ = 0)
/-- Where the window of the forward scan stands at a point. -/
theorem idx2 : ∀ t : Fin cfg0.N, win0_2.index t ⟨0, by decide⟩ = t.val ∧ win0_2.index t ⟨1, by decide⟩ = 0 :=
  (by decide +kernel : ∀ t : Fin grid0.N, win0_2.index t ⟨0, by decide⟩ = t.val ∧ win0_2.index t ⟨1, by decide⟩ = 0)
/-- Where the window of the backward scan stands at a point. -/
theorem idx3 : ∀ t : Fin cfg0.N, win0_3.index t ⟨0, by decide⟩ = t.val ∧ win0_3.index t ⟨1, by decide⟩ = 0 :=
  (by decide +kernel : ∀ t : Fin grid0.N, win0_3.index t ⟨0, by decide⟩ = t.val ∧ win0_3.index t ⟨1, by decide⟩ = 0)
/-- Where the window of the scans' gate stands at a point. -/
theorem idx4 : ∀ t : Fin cfg0.N, win0_4.index t ⟨0, by decide⟩ = t.val ∧ win0_4.index t ⟨1, by decide⟩ = 5 :=
  (by decide +kernel : ∀ t : Fin grid0.N, win0_4.index t ⟨0, by decide⟩ = t.val ∧ win0_4.index t ⟨1, by decide⟩ = 5)
/-- Where the window of the first branch's gate stands at a point. -/
theorem idx5 : ∀ t : Fin cfg0.N, win0_5.index t ⟨0, by decide⟩ = t.val ∧ win0_5.index t ⟨1, by decide⟩ = 3 :=
  (by decide +kernel : ∀ t : Fin grid0.N, win0_5.index t ⟨0, by decide⟩ = t.val ∧ win0_5.index t ⟨1, by decide⟩ = 3)
/-- Where the window of the second branch's gate stands at a point. -/
theorem idx6 : ∀ t : Fin cfg0.N, win0_6.index t ⟨0, by decide⟩ = t.val ∧ win0_6.index t ⟨1, by decide⟩ = 4 :=
  (by decide +kernel : ∀ t : Fin grid0.N, win0_6.index t ⟨0, by decide⟩ = t.val ∧ win0_6.index t ⟨1, by decide⟩ = 4)
/-- Where the window of the result stands at a point. -/
theorem idx14 : ∀ t : Fin cfg0.N, win0_14.index t ⟨0, by decide⟩ = t.val ∧ win0_14.index t ⟨1, by decide⟩ = 0 :=
  (by decide +kernel : ∀ t : Fin grid0.N, win0_14.index t ⟨0, by decide⟩ = t.val ∧ win0_14.index t ⟨1, by decide⟩ = 0)
/-- The window of the first half of the gate's bias holds it whole. -/
theorem idx7 : ∀ t : Fin cfg0.N, win0_7.index t ⟨0, by decide⟩ = 0 ∧ win0_7.index t ⟨1, by decide⟩ = 0 :=
  (by decide +kernel : ∀ t : Fin grid0.N, win0_7.index t ⟨0, by decide⟩ = 0 ∧ win0_7.index t ⟨1, by decide⟩ = 0)
/-- The window of the second half of the gate's bias holds it whole. -/
theorem idx8 : ∀ t : Fin cfg0.N, win0_8.index t ⟨0, by decide⟩ = 0 ∧ win0_8.index t ⟨1, by decide⟩ = 0 :=
  (by decide +kernel : ∀ t : Fin grid0.N, win0_8.index t ⟨0, by decide⟩ = 0 ∧ win0_8.index t ⟨1, by decide⟩ = 0)
/-- The window of the heads' weights holds it whole. -/
theorem idx9 : ∀ t : Fin cfg0.N, win0_9.index t ⟨0, by decide⟩ = 0 ∧ win0_9.index t ⟨1, by decide⟩ = 0 :=
  (by decide +kernel : ∀ t : Fin grid0.N, win0_9.index t ⟨0, by decide⟩ = 0 ∧ win0_9.index t ⟨1, by decide⟩ = 0)
/-- The window of the first branch's matrix holds it whole. -/
theorem idx10 : ∀ t : Fin cfg0.N, win0_10.index t ⟨0, by decide⟩ = 0 ∧ win0_10.index t ⟨1, by decide⟩ = 0 :=
  (by decide +kernel : ∀ t : Fin grid0.N, win0_10.index t ⟨0, by decide⟩ = 0 ∧ win0_10.index t ⟨1, by decide⟩ = 0)
/-- The window of the second branch's matrix holds it whole. -/
theorem idx11 : ∀ t : Fin cfg0.N, win0_11.index t ⟨0, by decide⟩ = 0 ∧ win0_11.index t ⟨1, by decide⟩ = 0 :=
  (by decide +kernel : ∀ t : Fin grid0.N, win0_11.index t ⟨0, by decide⟩ = 0 ∧ win0_11.index t ⟨1, by decide⟩ = 0)
/-- The window of the last projection's matrix holds it whole. -/
theorem idx12 : ∀ t : Fin cfg0.N, win0_12.index t ⟨0, by decide⟩ = 0 ∧ win0_12.index t ⟨1, by decide⟩ = 0 :=
  (by decide +kernel : ∀ t : Fin grid0.N, win0_12.index t ⟨0, by decide⟩ = 0 ∧ win0_12.index t ⟨1, by decide⟩ = 0)
/-- The window of the last norm's weights holds it whole. -/
theorem idx13 : ∀ t : Fin cfg0.N, win0_13.index t ⟨0, by decide⟩ = 0 ∧ win0_13.index t ⟨1, by decide⟩ = 0 :=
  (by decide +kernel : ∀ t : Fin grid0.N, win0_13.index t ⟨0, by decide⟩ = 0 ∧ win0_13.index t ⟨1, by decide⟩ = 0)

/-- The block of the layer's input at an index. -/
theorem blk_x (c : Dev nD) (t : Fin cfg0.N) (q : Fin 256) (k : Fin 2048) :
    iblk m c 0 t (ix2 q k) = m ((c : Thread nD τ).loc main_arg0) (ix3 0 ⟨256 * t.val + q.val, by have := pt_lt t; omega⟩ k) := by
  show V m c main_v2 ((win0_0.rect t).emb (ix2 q k)) = _
  refine Eq.trans (congrArg (V m c main_v2) (emb_eq win0_0 t (ix2 q k) (ix2 ⟨256 * t.val + q.val, by have := pt_lt t; omega⟩ k) fun a => ?_))
    (entry_x m c _ k)
  match a with
  | ⟨0, _⟩ => exact (congrArg (· * 256 + q.val) (idx0 t).1).trans (by show t.val * 256 + q.val = 256 * t.val + q.val; omega)
  | ⟨1, _⟩ => exact (congrArg (· * 2048 + k.val) (idx0 t).2).trans (by show 0 * 2048 + k.val = k.val; omega)

/-- The block of the attention's result at an index. -/
theorem blk_a (c : Dev nD) (t : Fin cfg0.N) (q : Fin 256) (k : Fin 1024) :
    iblk m c 1 t (ix2 q k) = m ((c : Thread nD τ).loc main_arg1) (ix2 ⟨256 * t.val + q.val, by have := pt_lt t; omega⟩ k) := by
  show V m c main_arg1 ((win0_1.rect t).emb (ix2 q k)) = _
  rw [V_main_arg1]
  refine congrArg _ (emb_eq win0_1 t (ix2 q k) _ fun a => ?_)
  match a with
  | ⟨0, _⟩ => exact (congrArg (· * 256 + q.val) (idx1 t).1).trans (by show t.val * 256 + q.val = 256 * t.val + q.val; omega)
  | ⟨1, _⟩ => exact (congrArg (· * 1024 + k.val) (idx1 t).2).trans (by show 0 * 1024 + k.val = k.val; omega)

/-- The block of the forward scan at an index. -/
theorem blk_f (c : Dev nD) (t : Fin cfg0.N) (q : Fin 256) (k : Fin 1024) :
    iblk m c 2 t (ix2 q k) = m ((c : Thread nD τ).loc main_arg2) (ix2 ⟨256 * t.val + q.val, by have := pt_lt t; omega⟩ k) := by
  show V m c main_arg2 ((win0_2.rect t).emb (ix2 q k)) = _
  rw [V_main_arg2]
  refine congrArg _ (emb_eq win0_2 t (ix2 q k) _ fun a => ?_)
  match a with
  | ⟨0, _⟩ => exact (congrArg (· * 256 + q.val) (idx2 t).1).trans (by show t.val * 256 + q.val = 256 * t.val + q.val; omega)
  | ⟨1, _⟩ => exact (congrArg (· * 1024 + k.val) (idx2 t).2).trans (by show 0 * 1024 + k.val = k.val; omega)

/-- The block of the backward scan at an index. -/
theorem blk_g (c : Dev nD) (t : Fin cfg0.N) (q : Fin 256) (k : Fin 1024) :
    iblk m c 3 t (ix2 q k) = m ((c : Thread nD τ).loc main_arg3) (ix2 ⟨256 * t.val + q.val, by have := pt_lt t; omega⟩ k) := by
  show V m c main_arg3 ((win0_3.rect t).emb (ix2 q k)) = _
  rw [V_main_arg3]
  refine congrArg _ (emb_eq win0_3 t (ix2 q k) _ fun a => ?_)
  match a with
  | ⟨0, _⟩ => exact (congrArg (· * 256 + q.val) (idx3 t).1).trans (by show t.val * 256 + q.val = 256 * t.val + q.val; omega)
  | ⟨1, _⟩ => exact (congrArg (· * 1024 + k.val) (idx3 t).2).trans (by show 0 * 1024 + k.val = k.val; omega)

/-- The block of the scans' gate at an index. -/
theorem blk_z (c : Dev nD) (t : Fin cfg0.N) (q : Fin 256) (k : Fin 1024) :
    iblk m c 4 t (ix2 q k) = m ((c : Thread nD τ).loc main_arg4) (ix2 ⟨256 * t.val + q.val, by have := pt_lt t; omega⟩ ⟨5120 + k.val, by omega⟩) := by
  show V m c main_arg4 ((win0_4.rect t).emb (ix2 q k)) = _
  rw [V_main_arg4]
  refine congrArg _ (emb_eq win0_4 t (ix2 q k) _ fun a => ?_)
  match a with
  | ⟨0, _⟩ => exact (congrArg (· * 256 + q.val) (idx4 t).1).trans (by show t.val * 256 + q.val = 256 * t.val + q.val; omega)
  | ⟨1, _⟩ => exact (congrArg (· * 1024 + k.val) (idx4 t).2).trans (by show 5 * 1024 + k.val = 5120 + k.val; omega)

/-- The block of the first branch's gate at an index. -/
theorem blk_p (c : Dev nD) (t : Fin cfg0.N) (q : Fin 256) (k : Fin 2048) :
    iblk m c 5 t (ix2 q k) = m ((c : Thread nD τ).loc main_arg4) (ix2 ⟨256 * t.val + q.val, by have := pt_lt t; omega⟩ ⟨6144 + k.val, by omega⟩) := by
  show V m c main_arg4 ((win0_5.rect t).emb (ix2 q k)) = _
  rw [V_main_arg4]
  refine congrArg _ (emb_eq win0_5 t (ix2 q k) _ fun a => ?_)
  match a with
  | ⟨0, _⟩ => exact (congrArg (· * 256 + q.val) (idx5 t).1).trans (by show t.val * 256 + q.val = 256 * t.val + q.val; omega)
  | ⟨1, _⟩ => exact (congrArg (· * 2048 + k.val) (idx5 t).2).trans (by show 3 * 2048 + k.val = 6144 + k.val; omega)

/-- The block of the second branch's gate at an index. -/
theorem blk_q (c : Dev nD) (t : Fin cfg0.N) (q : Fin 256) (k : Fin 2048) :
    iblk m c 6 t (ix2 q k) = m ((c : Thread nD τ).loc main_arg4) (ix2 ⟨256 * t.val + q.val, by have := pt_lt t; omega⟩ ⟨8192 + k.val, by omega⟩) := by
  show V m c main_arg4 ((win0_6.rect t).emb (ix2 q k)) = _
  rw [V_main_arg4]
  refine congrArg _ (emb_eq win0_6 t (ix2 q k) _ fun a => ?_)
  match a with
  | ⟨0, _⟩ => exact (congrArg (· * 256 + q.val) (idx6 t).1).trans (by show t.val * 256 + q.val = 256 * t.val + q.val; omega)
  | ⟨1, _⟩ => exact (congrArg (· * 2048 + k.val) (idx6 t).2).trans (by show 4 * 2048 + k.val = 8192 + k.val; omega)

/-- The block of the first half of the gate's bias at an index: its array's. -/
theorem blk_ba (c : Dev nD) (t : Fin cfg0.N) (q : Fin 1) (k : Fin 2048) : iblk m c 7 t (ix2 q k) = V m c main_v11 (ix2 q k) := by
  refine congrArg (V m c main_v11) (emb_eq win0_7 t (ix2 q k) _ fun a => ?_)
  match a with
  | ⟨0, _⟩ => exact (congrArg (· * 1 + q.val) (idx7 t).1).trans (by show 0 * 1 + q.val = q.val; omega)
  | ⟨1, _⟩ => exact (congrArg (· * 2048 + k.val) (idx7 t).2).trans (by show 0 * 2048 + k.val = k.val; omega)

/-- The block of the second half of the gate's bias at an index: its array's. -/
theorem blk_bb (c : Dev nD) (t : Fin cfg0.N) (q : Fin 1) (k : Fin 2048) : iblk m c 8 t (ix2 q k) = V m c main_v13 (ix2 q k) := by
  refine congrArg (V m c main_v13) (emb_eq win0_8 t (ix2 q k) _ fun a => ?_)
  match a with
  | ⟨0, _⟩ => exact (congrArg (· * 1 + q.val) (idx8 t).1).trans (by show 0 * 1 + q.val = q.val; omega)
  | ⟨1, _⟩ => exact (congrArg (· * 2048 + k.val) (idx8 t).2).trans (by show 0 * 2048 + k.val = k.val; omega)

/-- The block of the heads' weights at an index: its array's. -/
theorem blk_hw (c : Dev nD) (t : Fin cfg0.N) (q : Fin 1) (k : Fin 1024) : iblk m c 9 t (ix2 q k) = V m c main_v14 (ix2 q k) := by
  refine congrArg (V m c main_v14) (emb_eq win0_9 t (ix2 q k) _ fun a => ?_)
  match a with
  | ⟨0, _⟩ => exact (congrArg (· * 1 + q.val) (idx9 t).1).trans (by show 0 * 1 + q.val = q.val; omega)
  | ⟨1, _⟩ => exact (congrArg (· * 1024 + k.val) (idx9 t).2).trans (by show 0 * 1024 + k.val = k.val; omega)

/-- The block of the first branch's matrix at an index: its array's. -/
theorem blk_ua (c : Dev nD) (t : Fin cfg0.N) (q : Fin 1024) (k : Fin 2048) : iblk m c 10 t (ix2 q k) = V m c main_v5 (ix2 q k) := by
  refine congrArg (V m c main_v5) (emb_eq win0_10 t (ix2 q k) _ fun a => ?_)
  match a with
  | ⟨0, _⟩ => exact (congrArg (· * 1024 + q.val) (idx10 t).1).trans (by show 0 * 1024 + q.val = q.val; omega)
  | ⟨1, _⟩ => exact (congrArg (· * 2048 + k.val) (idx10 t).2).trans (by show 0 * 2048 + k.val = k.val; omega)

/-- The block of the second branch's matrix at an index: its array's. -/
theorem blk_ub (c : Dev nD) (t : Fin cfg0.N) (q : Fin 1024) (k : Fin 2048) : iblk m c 11 t (ix2 q k) = V m c main_v6 (ix2 q k) := by
  refine congrArg (V m c main_v6) (emb_eq win0_11 t (ix2 q k) _ fun a => ?_)
  match a with
  | ⟨0, _⟩ => exact (congrArg (· * 1024 + q.val) (idx11 t).1).trans (by show 0 * 1024 + q.val = q.val; omega)
  | ⟨1, _⟩ => exact (congrArg (· * 2048 + k.val) (idx11 t).2).trans (by show 0 * 2048 + k.val = k.val; omega)

/-- The block of the last projection's matrix at an index: its array's. -/
theorem blk_oo (c : Dev nD) (t : Fin cfg0.N) (q : Fin 2048) (k : Fin 2048) : iblk m c 12 t (ix2 q k) = V m c main_v8 (ix2 q k) := by
  refine congrArg (V m c main_v8) (emb_eq win0_12 t (ix2 q k) _ fun a => ?_)
  match a with
  | ⟨0, _⟩ => exact (congrArg (· * 2048 + q.val) (idx12 t).1).trans (by show 0 * 2048 + q.val = q.val; omega)
  | ⟨1, _⟩ => exact (congrArg (· * 2048 + k.val) (idx12 t).2).trans (by show 0 * 2048 + k.val = k.val; omega)

/-- The block of the last norm's weights at an index: its array's. -/
theorem blk_nw (c : Dev nD) (t : Fin cfg0.N) (q : Fin 1) (k : Fin 2048) : iblk m c 13 t (ix2 q k) = V m c main_v15 (ix2 q k) := by
  refine congrArg (V m c main_v15) (emb_eq win0_13 t (ix2 q k) _ fun a => ?_)
  match a with
  | ⟨0, _⟩ => exact (congrArg (· * 1 + q.val) (idx13 t).1).trans (by show 0 * 1 + q.val = q.val; omega)
  | ⟨1, _⟩ => exact (congrArg (· * 2048 + k.val) (idx13 t).2).trans (by show 0 * 2048 + k.val = k.val; omega)

end Cert.MergeIdeal.Mix

end
-- ==== Proof.CallMergeRun.lean ====
module

public import proofs.«01_k».proof.Proof.CallMergeWindows

@[expose] public section

noncomputable section

namespace Cert.MergeIdeal.Mix

open Cert.MergeIdeal Cert.MergeIdeal.Gen Idealize.ShloMosaic Idealize.ShloMosaic.TcCoe Idealize.SL.Sem
open Idealize.ShloMosaic.Pointwise

variable (m : (ℓ : Loc nD τ sig) → Buf (Elt Ideal) ℓ)

/-- What the result array is shown to hold. -/
def result (c : Dev nD) : Buf (Elt Ideal) ((c : Thread nD τ).loc main_v16) := fun i =>
  Cert.Mix.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)

/-- What a grid point's block of the result holds at an index: the merge of the index's array row. -/
theorem block_apply (c : Dev nD) (t : Fin cfg0.N) (q : Fin 256) (f : Fin 2048) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 q f)
      = Cert.Mix.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) ⟨256 * t.val + q.val, by have := pt_lt t; omega⟩ f := by
  rw [out_apply]
  exact Cert.Mix.merge_congr (fun k => blk_x m c t q k) (fun k => blk_a m c t q k)
    (fun k => congrArg₂ (fun a b : EReal => a + b) (blk_f m c t q k) (blk_g m c t q k)) (fun k => blk_z m c t q k)
    (fun k => (blk_hw m c t 0 k).trans (entry_hw m c k))
    (fun k => congrArg₂ (fun a b : EReal => a + b) (blk_p m c t q k) ((blk_ba m c t 0 k).trans (entry_ba m c k)))
    (fun k => congrArg₂ (fun a b : EReal => a + b) (blk_q m c t q k) ((blk_bb m c t 0 k).trans (entry_bb m c k)))
    (fun k j => (blk_ua m c t k j).trans (entry_ua m c k j)) (fun k j => (blk_ub m c t k j).trans (entry_ub m c k j))
    (fun k j => (blk_oo m c t k j).trans (entry_o m c k j)) (fun k => (blk_nw m c t 0 k).trans (entry_nw m c k)) f

/-- What point `t` writes back is its block of the result. -/
theorem flushed_eq (c : Dev nD) (t : Fin cfg0.N) :
    (dats m 0 c).flushed 14 t = (win0_14.blk t).view.read (Elt Ideal) (result m c) := by
  rw [Value.flushed14]
  funext y
  obtain ⟨q, f, rfl⟩ : ∃ (q : Fin 256) (f : Fin 2048), y = ix2 q f := ⟨y 0, y 1, by funext a; match a with | ⟨0, _⟩ => rfl | ⟨1, _⟩ => rfl⟩
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 q f) = result m c ((win0_14.rect t).emb (ix2 q f))
  rw [block_apply]
  have e : (win0_14.rect t).emb (ix2 q f) = (ix2 ⟨256 * t.val + q.val, by have := pt_lt t; omega⟩ f : S16384x2048.Idx) := by
    refine emb_eq win0_14 t (ix2 q f) _ fun a => ?_
    match a with
    | ⟨0, _⟩ => exact (congrArg (· * 256 + q.val) (idx14 t).1).trans (by show t.val * 256 + q.val = 256 * t.val + q.val; omega)
    | ⟨1, _⟩ => exact (congrArg (· * 2048 + f.val) (idx14 t).2).trans (by show 0 * 2048 + f.val = f.val; omega)
  rw [e]
  rfl

/-- An index of the result array is in the block of the point its row names. -/
theorem mem_blk (t : Fin cfg0.N) (i : S16384x2048.Idx) (h : (i 0).val / 256 = t.val) : i ∈ ((cfg0.win 14).blk t).view.set := by
  show i ∈ ((View.whole main_v16).slice (win0_14.rect t)).set
  rw [View.set_slice_whole, Rect.mem_set_unit]
  have h1 : (i 1).val < 2048 := (i 1).isLt
  intro a
  match a with
  | ⟨0, _⟩ =>
    show win0_14.index t ⟨0, by decide⟩ * 256 ≤ (i 0).val ∧ (i 0).val < win0_14.index t ⟨0, by decide⟩ * 256 + 256
    rw [(idx14 t).1]; omega
  | ⟨1, _⟩ =>
    show win0_14.index t ⟨1, by decide⟩ * 2048 ≤ (i 1).val ∧ (i 1).val < win0_14.index t ⟨1, by decide⟩ * 2048 + 2048
    rw [(idx14 t).2]; omega

/-- The blocks cover the result array. -/
theorem cover (i : S16384x2048.Idx) : ∃ t : Fin cfg0.N, (cfg0.win 14).flush t = true ∧ i ∈ ((cfg0.win 14).blk t).view.set := by
  have h0 : (i 0).val < 16384 := (i 0).isLt
  have hN : cfg0.N = 64 := N_0
  exact ⟨⟨(i 0).val / 256, by omega⟩, flush0_14 _, mem_blk _ _ rfl⟩

/-- So the result array ends holding the merge. -/
theorem final (c : Dev nD) : (dats m 0 c).arrAt 14 cfg0.N = result m c :=
  (dats m 0 c).arrAt_eq_of_cover 14 (result m c) (fun t _ => flushed_eq m c t) cover

/-- The run of the call: the result array holds the merge and the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final m c), (h c).2⟩) (Value.run_blocks m ρ)

end Cert.MergeIdeal.Mix

end
-- ==== Proof.CallMergeRefHead.lean ====
module

public import proofs.«01_k».proof.Proof.Gen.MergeRefIdeal.Read
public import proofs.«01_k».proof.Proof.MergeSpec
public import proofs.«01_k».proof.Proof.Consts
public import Idealize.ShloMosaic.Lib.Pointwise
public import Idealize.ShloMosaic.PureOps.Ideal.Laws

@[expose] public section

noncomputable section

namespace Cert.MergeRefIdeal.Mix

open Cert.MergeRefIdeal Cert.MergeRefIdeal.Read Idealize.ShloMosaic Idealize.ShloMosaic.Pointwise

variable (x2 x3 : FVec Ideal S16384x1024 .f32) (x4 : FVec Ideal S16384x10240 .f32) (x6 : FVec Ideal S1x1024 .f32)

/-- The summed scans, head by head, at an index. -/
theorem sum_apply (r : Fin 16384) (h : Fin 8) (d : Fin 128) :
    val_main_v5 (F := Ideal) x2 x3 (ix3 r h d)
      = x2 (ix2 r ⟨128 * h.val + d.val, by omega⟩) + x3 (ix2 r ⟨128 * h.val + d.val, by omega⟩) := by
  rw [val_main_v5_apply]
  have e : idx_main_v5 (ix3 r h d) = ix2 r ⟨128 * h.val + d.val, by omega⟩ := by
    have hr := r.isLt
    have hh := h.isLt
    have hd := d.isLt
    funext a
    match a with
    | ⟨0, _⟩ => exact Fin.ext (by show ((r.val * 8 + h.val) * 128 + d.val) / 1024 = r.val; omega)
    | ⟨1, _⟩ => exact Fin.ext (by show ((r.val * 8 + h.val) * 128 + d.val) % 1024 = 128 * h.val + d.val; omega)
  rw [e]
  rfl

/-- The reference's scale of a head's row. -/
theorem scale_apply (r : Fin 16384) (h : Fin 8) :
    val_main_v15 (F := Ideal) x2 x3 (ix3 r h 0) = Rms.scale 0x43000000#32
      (fun k : Fin 128 => x2 (ix2 r ⟨128 * h.val + k.val, by omega⟩) + x3 (ix2 r ⟨128 * h.val + k.val, by omega⟩)) := by
  rw [val_main_v15_apply, val_main_v14_apply, val_main_v12_apply, val_main_v13_apply, val_main_v11_apply, val_main_v10_apply,
    val_main_v9_apply]
  have e : ∀ i, val_main_cst (F := Ideal) i = 0 := fun i => Consts.zero_f32
  rw [e, zero_add]
  have s : (∑ k : Fin 128, val_main_v8 (F := Ideal) x2 x3 (idx_main_v9 (idx_main_v10 (ix3 r h 0)) k))
      = ∑ k : Fin 128, (x2 (ix2 r ⟨128 * h.val + k.val, by omega⟩) + x3 (ix2 r ⟨128 * h.val + k.val, by omega⟩))
          * (x2 (ix2 r ⟨128 * h.val + k.val, by omega⟩) + x3 (ix2 r ⟨128 * h.val + k.val, by omega⟩)) := by
    refine Finset.sum_congr rfl fun k _ => ?_
    rw [val_main_v8_apply]
    have ei : idx_main_v9 (idx_main_v10 (ix3 r h 0)) k = ix3 r h k := by
      funext a; match a with | ⟨0, _⟩ => rfl | ⟨1, _⟩ => rfl | ⟨2, _⟩ => rfl
    rw [ei, sum_apply]
    rfl
  rw [s]
  rfl

/-- The heads' weights at an index. -/
theorem weight_apply (r : Fin 16384) (h : Fin 8) (d : Fin 128) :
    val_main_v19 (F := Ideal) x6 (ix3 r h d) = x6 (ix2 0 ⟨128 * h.val + d.val, by omega⟩) := by
  rw [val_main_v19_apply, val_main_v18_apply, val_main_v7_apply, val_main_v6_apply]
  refine congrArg x6 (funext fun a => Fin.ext ?_)
  have hh := h.isLt
  have hd := d.isLt
  match a with
  | ⟨0, _⟩ => rfl
  | ⟨1, _⟩ => show (h.val * 128 + d.val) % 1024 = 128 * h.val + d.val; omega

/-- The reference's heads after their norm, at an index. -/
theorem norm_apply (r : Fin 16384) (f : Fin 1024) :
    val_main_v21 (F := Ideal) x2 x3 x6 (ix2 r f)
      = Cert.Mix.headNorm (fun k => x2 (ix2 r k) + x3 (ix2 r k)) (fun k => x6 (ix2 0 k)) f := by
  have hd : f.val / 128 < 8 := by omega
  have hm : f.val % 128 < 128 := by omega
  have ei : idx_main_v21 (ix2 r f) = ix3 r ⟨f.val / 128, hd⟩ ⟨f.val % 128, hm⟩ := by
    have hr := r.isLt
    have hf := f.isLt
    funext a
    match a with
    | ⟨0, _⟩ => exact Fin.ext (by show (r.val * 1024 + f.val) / 1024 = r.val; omega)
    | ⟨1, _⟩ => exact Fin.ext (by show (r.val * 1024 + f.val) / 128 % 8 = f.val / 128; omega)
    | ⟨2, _⟩ => exact Fin.ext (by show (r.val * 1024 + f.val) % 128 = f.val % 128; omega)
  have e16 : idx_main_v16 (ix3 r ⟨f.val / 128, hd⟩ ⟨f.val % 128, hm⟩) = ix3 r ⟨f.val / 128, hd⟩ 0 := by
    funext a; match a with | ⟨0, _⟩ => rfl | ⟨1, _⟩ => rfl | ⟨2, _⟩ => rfl
  rw [val_main_v21_apply, ei, val_main_v20_apply, val_main_v17_apply, val_main_v16_apply, e16, sum_apply, scale_apply, weight_apply]
  simp only [Nat.div_add_mod]
  rfl

/-- The sigmoid the reference spells out. -/
theorem sigmoid_eq (z : EReal) :
    Ideal.div (Ideal.ofBits .f32 0x3F800000#32) (Ideal.ofBits .f32 0x3F800000#32 + Ideal.exp (-z)) = Ideal.logistic z := by
  rw [Consts.one_f32]
  rfl

/-- The reference's second branch at an index: the heads under the gate. -/
theorem branch_apply (r : Fin 16384) (f : Fin 1024) :
    val_main_v23 (F := Ideal) x2 x3 x4 x6 (ix2 r f)
      = Cert.Mix.gated (fun k => x2 (ix2 r k) + x3 (ix2 r k)) (fun k => x4 (ix2 r ⟨5120 + k.val, by omega⟩))
          (fun k => x6 (ix2 0 k)) f := by
  have e1 : val_main_v1 (F := Ideal) x4 (ix2 r f) = x4 (ix2 r ⟨5120 + f.val, by omega⟩) := by
    rw [val_main_v1_apply]
    refine congrArg x4 (funext fun a => ?_)
    match a with | ⟨0, _⟩ => rfl | ⟨1, _⟩ => rfl
  have e2 : val_main_call0_v5 (F := Ideal) x4 (ix2 r f) = Ideal.logistic (x4 (ix2 r ⟨5120 + f.val, by omega⟩)) := by
    rw [← sigmoid_eq, ← e1]
    rfl
  rw [val_main_v23_apply, val_main_v22_apply, norm_apply, e1, e2]
  rfl

end Cert.MergeRefIdeal.Mix

end
-- ==== Proof.CallMergeRef.lean ====
module

public import proofs.«01_k».proof.Proof.CallMergeRefHead

@[expose] public section

noncomputable section

namespace Cert.MergeRefIdeal.Mix

open Cert.MergeRefIdeal Cert.MergeRefIdeal.Read Idealize.ShloMosaic Idealize.ShloMosaic.Pointwise

variable (x0 : FVec Ideal S1x16384x2048 .f32) (x1 : FVec Ideal S16384x1024 .bf16) (x2 x3 : FVec Ideal S16384x1024 .f32)
  (x4 : FVec Ideal S16384x10240 .f32) (x5 : FVec Ideal S1x4096 .f32) (x6 : FVec Ideal S1x1024 .f32)
  (x7 x8 : FVec Ideal S1x2048x2048 .f32) (x9 : FVec Ideal S1x2048 .f32)

/-- The gate of a column, before its sigmoid. -/
theorem gate_apply (r : Fin 16384) (n : Fin 4096) :
    val_main_v33 (F := Ideal) x4 x5 (ix2 r n)
      = Ideal.logistic (x4 (ix2 r ⟨6144 + n.val, by omega⟩) + x5 (ix2 0 n)) := by
  have e : val_main_v27 (F := Ideal) x4 x5 (ix2 r n) = x4 (ix2 r ⟨6144 + n.val, by omega⟩) + x5 (ix2 0 n) := by
    rw [val_main_v27_apply, val_main_v2_apply, val_main_v26_apply, val_main_v25_apply, val_main_v24_apply]
    refine congrArg₂ (fun a b : EReal => a + b) (congrArg x4 (funext fun a => ?_)) (congrArg x5 (funext fun a => ?_))
    · match a with | ⟨0, _⟩ => rfl | ⟨1, _⟩ => rfl
    · match a with
      | ⟨0, _⟩ => rfl
      | ⟨1, _⟩ => exact Fin.ext (Nat.mod_eq_of_lt n.isLt)
  rw [← e, ← sigmoid_eq]
  rfl

/-- The first branch's projection at an index. -/
theorem first_apply (r : Fin 16384) (j : Fin 2048) :
    val_main_v38 (F := Ideal) x1 x7 (ix2 r j) = ∑ k : Fin 1024, x1 (ix2 r k) * x7 (ix3 0 ⟨k.val, by omega⟩ j) := by
  rw [val_main_v38_apply]
  refine Finset.sum_congr rfl fun k _ => ?_
  have e1 : lidx_main_v38 (ix2 r j) k = ix2 r k := by
    funext a; match a with | ⟨0, _⟩ => rfl | ⟨1, _⟩ => rfl
  rw [e1, val_main_v3_apply, val_main_v37_apply, val_main_v36_apply]
  refine congrArg₂ (fun a b : EReal => a * b) rfl (congrArg x7 (funext fun a => Fin.ext ?_))
  have hk := k.isLt
  have hj := j.isLt
  match a with
  | ⟨0, _⟩ => rfl
  | ⟨1, _⟩ => show (k.val * 2048 + j.val) / 2048 % 1024 = k.val; omega
  | ⟨2, _⟩ => show (k.val * 2048 + j.val) % 2048 = j.val; omega

/-- The second branch's projection at an index. -/
theorem second_apply (r : Fin 16384) (j : Fin 2048) :
    val_main_v42 (F := Ideal) x2 x3 x4 x6 x7 (ix2 r j)
      = ∑ k : Fin 1024, Cert.Mix.gated (fun k => x2 (ix2 r k) + x3 (ix2 r k)) (fun k => x4 (ix2 r ⟨5120 + k.val, by omega⟩))
          (fun k => x6 (ix2 0 k)) k * x7 (ix3 0 ⟨1024 + k.val, by omega⟩ j) := by
  rw [val_main_v42_apply]
  refine Finset.sum_congr rfl fun k _ => ?_
  have e1 : lidx_main_v42 (ix2 r j) k = ix2 r k := by
    funext a; match a with | ⟨0, _⟩ => rfl | ⟨1, _⟩ => rfl
  rw [e1, branch_apply, val_main_v41_apply, val_main_v40_apply]
  refine congrArg (_ * ·) (congrArg x7 (funext fun a => Fin.ext ?_))
  have hk := k.isLt
  have hj := j.isLt
  match a with
  | ⟨0, _⟩ => rfl
  | ⟨1, _⟩ => show 1024 + (k.val * 2048 + j.val) / 2048 % 1024 = 1024 + k.val; omega
  | ⟨2, _⟩ => show (k.val * 2048 + j.val) % 2048 = j.val; omega

/-- The two branches under their gates, added, at an index. -/
theorem mixed_apply (r : Fin 16384) (j : Fin 2048) :
    val_main_v44 (F := Ideal) x1 x2 x3 x4 x5 x6 x7 (ix2 r j)
      = Cert.Mix.mixed (fun k => x1 (ix2 r k))
          (Cert.Mix.gated (fun k => x2 (ix2 r k) + x3 (ix2 r k)) (fun k => x4 (ix2 r ⟨5120 + k.val, by omega⟩)) (fun k => x6 (ix2 0 k)))
          (fun k => x4 (ix2 r ⟨6144 + k.val, by omega⟩) + x5 (ix2 0 ⟨k.val, by omega⟩))
          (fun k => x4 (ix2 r ⟨8192 + k.val, by omega⟩) + x5 (ix2 0 ⟨2048 + k.val, by omega⟩))
          (fun k j => x7 (ix3 0 ⟨k.val, by omega⟩ j)) (fun k j => x7 (ix3 0 ⟨1024 + k.val, by omega⟩ j)) j := by
  have ea : idx_main_v34 (ix2 r j) = ix2 r ⟨j.val, by omega⟩ := by
    funext a; match a with | ⟨0, _⟩ => rfl | ⟨1, _⟩ => rfl
  have eb : idx_main_v35 (ix2 r j) = ix2 r ⟨2048 + j.val, by omega⟩ := by
    funext a; match a with | ⟨0, _⟩ => rfl | ⟨1, _⟩ => rfl
  have en : ∀ h, (⟨6144 + (2048 + j.val), h⟩ : Fin 10240) = ⟨8192 + j.val, by omega⟩ := fun h => Fin.ext (by show 6144 + (2048 + j.val) = 8192 + j.val; omega)
  rw [val_main_v44_apply, val_main_v39_apply, val_main_v43_apply, val_main_v34_apply, val_main_v35_apply, ea, eb, gate_apply,
    gate_apply, first_apply, second_apply]
  rw [en]
  rfl

/-- The mix projected, at an index. -/
theorem projected_apply (r : Fin 16384) (j : Fin 2048) :
    val_main_v46 (F := Ideal) x1 x2 x3 x4 x5 x6 x7 x8 (ix2 r j)
      = Cert.Mix.projected (fun k => val_main_v44 (F := Ideal) x1 x2 x3 x4 x5 x6 x7 (ix2 r k)) (fun k j => x8 (ix3 0 k j)) j := by
  rw [val_main_v46_apply]
  generalize val_main_v44 (F := Ideal) x1 x2 x3 x4 x5 x6 x7 = y
  refine Finset.sum_congr rfl fun k _ => ?_
  have e1 : lidx_main_v46 (ix2 r j) k = ix2 r k := by
    funext a; match a with | ⟨0, _⟩ => rfl | ⟨1, _⟩ => rfl
  rw [e1, val_main_v45_apply]
  refine congrArg (_ * ·) (congrArg x8 (funext fun a => Fin.ext ?_))
  have hk := k.isLt
  have hj := j.isLt
  match a with
  | ⟨0, _⟩ => rfl
  | ⟨1, _⟩ => show (k.val * 2048 + j.val) / 2048 % 2048 = k.val; omega
  | ⟨2, _⟩ => show (k.val * 2048 + j.val) % 2048 = j.val; omega

/-- The last norm's scale of a row. -/
theorem last_scale (r : Fin 16384) (j : Fin 2048) :
    val_main_v56 (F := Ideal) x1 x2 x3 x4 x5 x6 x7 x8 (ix2 r j)
      = Rms.scale 0x45000000#32 (fun k : Fin 2048 => val_main_v46 (F := Ideal) x1 x2 x3 x4 x5 x6 x7 x8 (ix2 r k)) := by
  rw [val_main_v56_apply, val_main_v55_apply, val_main_v54_apply, val_main_v52_apply, val_main_v53_apply, val_main_v51_apply,
    val_main_v50_apply, val_main_v49_apply]
  have e : ∀ i, val_main_cst_4 (F := Ideal) i = 0 := fun i => Consts.zero_f32
  rw [e, zero_add]
  have s : (∑ k : Fin 2048, val_main_v48 (F := Ideal) x1 x2 x3 x4 x5 x6 x7 x8 (idx_main_v49 (idx_main_v50 (idx_main_v56 (ix2 r j))) k))
      = ∑ k : Fin 2048, val_main_v46 (F := Ideal) x1 x2 x3 x4 x5 x6 x7 x8 (ix2 r k)
          * val_main_v46 (F := Ideal) x1 x2 x3 x4 x5 x6 x7 x8 (ix2 r k) := by
    refine Finset.sum_congr rfl fun k _ => ?_
    have ei : idx_main_v49 (idx_main_v50 (idx_main_v56 (ix2 r j))) k = ix2 r k := by
      funext a; match a with | ⟨0, _⟩ => rfl | ⟨1, _⟩ => rfl
    rw [ei]
    rfl
  rw [s]
  rfl

/-- The reference's result at an index is the layer's merge. -/
theorem out_apply (r : Fin 16384) (j : Fin 2048) :
    val_main_v61 (F := Ideal) x0 x1 x2 x3 x4 x5 x6 x7 x8 x9 (ix2 r j) = Cert.Mix.layer x0 x1 x2 x3 x4 x5 x6 x7 x8 x9 r j := by
  have e0 : val_main_v0 (F := Ideal) x0 (ix2 r j) = x0 (ix3 0 r j) := by
    rw [val_main_v0_apply]
    refine congrArg x0 (funext fun a => Fin.ext ?_)
    have hr := r.isLt
    have hj := j.isLt
    match a with
    | ⟨0, _⟩ => rfl
    | ⟨1, _⟩ => show (r.val * 2048 + j.val) / 2048 % 16384 = r.val; omega
    | ⟨2, _⟩ => show (r.val * 2048 + j.val) % 2048 = j.val; omega
  have e9 : val_main_v59 (F := Ideal) x9 (ix2 r j) = x9 (ix2 0 j) := by
    rw [val_main_v59_apply, val_main_v58_apply, val_main_v47_apply]
    refine congrArg x9 (funext fun a => ?_)
    match a with
    | ⟨0, _⟩ => rfl
    | ⟨1, _⟩ => exact Fin.ext (Nat.mod_eq_of_lt j.isLt)
  have ey : ∀ k, val_main_v46 (F := Ideal) x1 x2 x3 x4 x5 x6 x7 x8 (ix2 r k) = _ := fun k =>
    (projected_apply x1 x2 x3 x4 x5 x6 x7 x8 r k).trans
      (congrArg (fun y => Cert.Mix.projected y (fun k j => x8 (ix3 0 k j)) k) (funext fun k => mixed_apply x1 x2 x3 x4 x5 x6 x7 r k))
  rw [val_main_v61_apply, val_main_v60_apply, val_main_v57_apply, e0, e9, last_scale, ey, funext ey]
  rfl

end Cert.MergeRefIdeal.Mix

end
-- ==== Proof.MergeClaims.lean ====
module

public import proofs.«01_k».proof.Defs
public import proofs.«01_k».proof.Proof.Gen.Merge.Frame
public import proofs.«01_k».proof.Proof.Gen.MergeIdeal.Frame
public import proofs.«01_k».proof.Proof.Gen.MergeRefIdeal.Run
public import proofs.«01_k».proof.Proof.CallMergeRun
public import proofs.«01_k».proof.Proof.CallMergeRef
public import Idealize.ShloMosaic.Adequacy

@[expose] public section

noncomputable section

namespace Cert.MergeClaims

open Idealize.ShloMosaic Idealize.SL.Sem Idealize.ShloMosaic.Pointwise

/-- The merge's call runs, keeps its arguments and leaves every counter at zero. -/
theorem frame : Cert.quiescent_Merge := fun m ρ _ => Cert.Merge.Gen.frame m ρ

/-- The same over the extended reals. -/
theorem frame_ideal : Cert.quiescent_MergeIdeal := fun m ρ _ => Cert.MergeIdeal.Gen.frame m ρ

/-- The same of the reference. -/
theorem frame_ref : Cert.quiescent_MergeRefIdeal := fun m ρ _ =>
  (θ_run Cert.MergeRefIdeal.defs _ _).mono
    (fun r h => ⟨fun c => (h c).2, sem_eq_zero_of_no_sems (by decide) r.2⟩)
    (Cert.MergeRefIdeal.Value.run (F := Ideal) m ρ)

/-- The kernel's result is the reference's over the extended reals, from any arguments. -/
theorem algebraic : Cert.algebraic_MergeIdeal_MergeRefIdeal := by
  intro m g m' g' _ hagree
  refine ⟨Cert.MergeIdeal.Mix.result m, Cert.MergeIdeal.Mix.run m g, ?_⟩
  refine (θ_run Cert.MergeRefIdeal.defs _ _).mono (fun r h c => ⟨(h c).1.trans ?_, (h c).2⟩)
    (Cert.MergeRefIdeal.Value.run (F := Ideal) m' g')
  obtain ⟨h0, h1, h2, h3, h4, h5, h6, h7, h8, h9⟩ := hagree c
  rw [Cert.MergeRefIdeal.Read.val_main_v61_eq, h0, h1, h2, h3, h4, h5, h6, h7, h8, h9]
  funext i
  obtain ⟨q, f, rfl⟩ : ∃ (q : Fin 16384) (f : Fin 2048), i = ix2 q f := ⟨i 0, i 1, by funext a; match a with | ⟨0, _⟩ => rfl | ⟨1, _⟩ => rfl⟩
  exact Cert.MergeRefIdeal.Mix.out_apply _ _ _ _ _ _ _ _ _ _ q f

end Cert.MergeClaims

end
-- ==== Proof.lean ====
module

public import proofs.«01_k».proof.Defs
public import proofs.«01_k».proof.Proof.LayerClaims
public import proofs.«01_k».proof.Proof.AttentionClaims
public import proofs.«01_k».proof.Proof.InProjClaims
public import proofs.«01_k».proof.Proof.MergeClaims

@[expose] public section

noncomputable section

namespace Cert.Proof

open Idealize.ShloMosaic Idealize.SL.Sem

/-- Every claim of the certificate. -/
theorem claim : Cert.Claim := ⟨Cert.Layer.Gen.facts, Cert.LayerIdeal.Gen.facts, Cert.LayerRefIdeal.Gen.facts,
  Cert.Attention.Gen.facts, Cert.AttentionIdeal.Gen.facts, Cert.AttentionRefIdeal.Gen.facts,
  Cert.InProj.Gen.facts, Cert.InProjIdeal.Gen.facts, Cert.InProjRefIdeal.Gen.facts,
  Cert.Merge.Gen.facts, Cert.MergeIdeal.Gen.facts, Cert.MergeRefIdeal.Gen.facts,
  Cert.Pre_finite_scores.Gen.facts, Cert.Pre_finite_queries.Attn.facts,
  LayerClaims.frame, LayerClaims.frame_ideal, LayerClaims.frame_ideal_pre,
  fun m ρ _ => LayerClaims.frame_ref m ρ, fun m ρ _ => LayerClaims.frame_ref m ρ,
  AttentionClaims.frame, AttentionClaims.frame_ideal,
  letI := Cert.Pre_finite_queries.Attn.facts; AttentionClaims.frame_ideal_pre,
  fun m ρ _ => AttentionClaims.frame_ref m ρ, fun m ρ _ => AttentionClaims.frame_ref m ρ,
  InProjClaims.frame, InProjClaims.frame_ideal, InProjClaims.frame_ref,
  MergeClaims.frame, MergeClaims.frame_ideal, MergeClaims.frame_ref,
  trivial, LayerClaims.algebraic,
  trivial, letI := Cert.Pre_finite_queries.Attn.facts; AttentionClaims.algebraic,
  trivial, InProjClaims.algebraic,
  trivial, MergeClaims.algebraic⟩

end Cert.Proof

end
